-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sizes_in_range [hPre_sizes_in_range : Cert.Pre_sizes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_in_range [hPre_sizes_in_range : Cert.Pre_sizes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sizes_in_range [hKernelIdeal : Cert.KernelIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_in_range [hReferenceIdeal : Cert.ReferenceIdeal.Facts] [hPre_sizes_in_range : Cert.Pre_sizes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sizes_in_range [hKernelIdeal : Cert.KernelIdeal.Facts] [hReferenceIdeal : Cert.ReferenceIdeal.Facts] [hPre_sizes_in_range : Cert.Pre_sizes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_in_range : Cert.Pre_sizes_in_range.Facts),
    quiescent_Kernel (hKernel := hKernel)
    ∧ quiescent_KernelIdeal (hKernelIdeal := hKernelIdeal)
    ∧ quiescent_KernelIdeal_pre_sizes_in_range (hKernelIdeal := hKernelIdeal) (hPre_sizes_in_range := hPre_sizes_in_range)
    ∧ quiescent_ReferenceIdeal (hReferenceIdeal := hReferenceIdeal)
    ∧ quiescent_ReferenceIdeal_pre_sizes_in_range (hReferenceIdeal := hReferenceIdeal) (hPre_sizes_in_range := hPre_sizes_in_range)
    ∧ preserves_Kernel_KernelIdeal
    ∧ algebraic_KernelIdeal_ReferenceIdeal_pre_sizes_in_range (hKernelIdeal := hKernelIdeal) (hReferenceIdeal := hReferenceIdeal) (hPre_sizes_in_range := hPre_sizes_in_range)
-- ==== Pre_sizes_in_range.lean ====
abbrev S256x4096 : Shape := ⟨2, ![256, 4096]⟩
abbrev S4x4096 : Shape := ⟨2, ![4, 4096]⟩
abbrev S256x6144 : Shape := ⟨2, ![256, 6144]⟩
abbrev S4x6144 : Shape := ⟨2, ![4, 6144]⟩
abbrev S5 : Shape := ⟨1, ![5]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn_where {F : FTy → Type} [FloatOps F] (arg0 : IVec S5 1) (arg1 : IVec S5 32) (arg2 : IVec S5 32) : IVec S5 32 :=
  let v0 : IVec S5 32 := select arg0 arg1 arg2
  v0

def fn_floor_divide {F : FTy → Type} [FloatOps F] (arg0 : IVec S5 32) (arg1 : IVec S_ 32) : IVec S5 32 :=
  let v0 : IVec S_ 32 := id arg1
  let v1 : IVec S5 32 := broadcastInDim S5 ![] bcast_S_S5 v0
  let v2 : IVec S5 32 := Host.divsi arg0 v1
  let v3 : IVec S5 32 := signi arg0
  let v4 : IVec S_ 32 := signi v0
  let v5 : IVec S5 32 := broadcastInDim S5 ![] bcast_S_S5 v4
  let v6 : IVec S5 1 := cmpi .ne v3 v5
  let v7 : IVec S5 32 := broadcastInDim S5 ![] bcast_S_S5 v0
  let v8 : IVec S5 32 := Host.remsi arg0 v7
  let c : IVec S_ 32 := constantI S_ 32 0#32
  let v9 : IVec S5 32 := broadcastInDim S5 ![] bcast_S_S5 c
  let v10 : IVec S5 1 := cmpi .ne v8 v9
  let v11 : IVec S5 1 := andi v6 v10
  let c_0 : IVec S_ 32 := constantI S_ 32 1#32
  let v12 : IVec S5 32 := broadcastInDim S5 ![] bcast_S_S5 c_0
  let v13 : IVec S5 32 := subi v2 v12
  let v14 : IVec S5 32 := fn_where (F := F) v11 v13 v2
  v14

def fn {F : FTy → Type} [FloatOps F] (main_arg0 : FVec F S256x4096 .fp8e4m3) (main_arg1 : FVec F S4x4096 .f32) (main_arg2 : FVec F S256x6144 .fp8e4m3) (main_arg3 : FVec F S4x6144 .f32) (main_arg4 : IVec S5 32) : IVec S5 1 :=
  let main_c : IVec S_ 32 := constantI S_ 32 128#32
  let main_v0 : IVec S5 32 := broadcastInDim S5 ![] bcast_S_S5 main_c
  let main_v1 : IVec S5 32 := addi main_arg4 main_v0
  let main_c_0 : IVec S_ 32 := constantI S_ 32 1#32
  let main_v2 : IVec S5 32 := broadcastInDim S5 ![] bcast_S_S5 main_c_0
  let main_v3 : IVec S5 32 := subi main_v1 main_v2
  let main_c_1 : IVec S_ 32 := constantI S_ 32 128#32
  let main_v4 : IVec S5 32 := fn_floor_divide (F := F) main_v3 main_c_1
  let main_c_2 : IVec S_ 32 := constantI S_ 32 0#32
  let main_v5 : IVec S5 32 := broadcastInDim S5 ![] bcast_S_S5 main_c_2
  let main_v6 : IVec S5 1 := cmpi .sge main_arg4 main_v5
  let main_c_3 : IVec S_ 32 := constantI S_ 32 512#32
  let main_v7 : IVec S5 32 := broadcastInDim S5 ![] bcast_S_S5 main_c_3
  let main_v8 : IVec S5 1 := cmpi .sle main_arg4 main_v7
  let main_v9 : IVec S5 1 := andi main_v6 main_v8
  let main_c_4 : IVec S_ 32 := constantI S_ 32 0#32
  let main_v10 : IVec S_ 32 := (fun x v => Host.reduce IntOp.addi x v reducesTo_S5_S_d0 h_S_) main_v4 main_c_4
  let main_c_5 : IVec S_ 32 := constantI S_ 32 4#32
  let main_v11 : IVec S_ 1 := cmpi .sle main_v10 main_c_5
  let main_v12 : IVec S5 1 := broadcastInDim S5 ![] bcast_S_S5 main_v11
  let main_v13 : IVec S5 1 := andi main_v9 main_v12
  main_v13
-- ==== Kernel.lean ====
abbrev S256x4096 : Shape := ⟨2, ![256, 4096]⟩
abbrev S4x4096 : Shape := ⟨2, ![4, 4096]⟩
abbrev S256x6144 : Shape := ⟨2, ![256, 6144]⟩
abbrev S4x6144 : Shape := ⟨2, ![4, 6144]⟩
abbrev S5 : Shape := ⟨1, ![5]⟩
abbrev S5x4096x6144 : Shape := ⟨3, ![5, 4096, 6144]⟩
abbrev S256x128 : Shape := ⟨2, ![256, 128]⟩
abbrev S4096x256 : Shape := ⟨2, ![4096, 256]⟩
abbrev S128x6144 : Shape := ⟨2, ![128, 6144]⟩
abbrev S8x128x6144 : Shape := ⟨3, ![8, 128, 6144]⟩
abbrev S4 : Shape := ⟨1, ![4]⟩
abbrev S_ : Shape := ⟨0, ![]⟩
abbrev S8 : Shape := ⟨1, ![8]⟩
abbrev S1 : Shape := ⟨1, ![1]⟩
abbrev S1x128x6144 : Shape := ⟨3, ![1, 128, 6144]⟩
abbrev S4x128 : Shape := ⟨2, ![4, 128]⟩
abbrev S1x128 : Shape := ⟨2, ![1, 128]⟩
abbrev S128x256 : Shape := ⟨2, ![128, 256]⟩

abbrev nBuf : Space → Nat
  | .hbm => 6
  | .vmem => 9
  | .smem => 1
  | _ => 0

abbrev bufTy : (tb : Table) → Fin (tcTables nBuf tb) → BufTy
  | .hbm, ⟨0, _⟩ => ⟨S256x4096, .fp8e4m3⟩
  | .hbm, ⟨1, _⟩ => ⟨S4x4096, .f32⟩
  | .hbm, ⟨2, _⟩ => ⟨S256x6144, .fp8e4m3⟩
  | .hbm, ⟨3, _⟩ => ⟨S4x6144, .f32⟩
  | .hbm, ⟨4, _⟩ => ⟨S5, .i32⟩
  | .hbm, ⟨5, _⟩ => ⟨S5x4096x6144, .f32⟩
  | .local _ .vmem, ⟨0, _⟩ => ⟨S256x4096, .fp8e4m3⟩
  | .local _ .vmem, ⟨1, _⟩ => ⟨S4x4096, .f32⟩
  | .local _ .vmem, ⟨2, _⟩ => ⟨S256x6144, .fp8e4m3⟩
  | .local _ .vmem, ⟨3, _⟩ => ⟨S4x6144, .f32⟩
  | .local _ .vmem, ⟨4, _⟩ => ⟨S256x128, .i32⟩
  | .local _ .vmem, ⟨5, _⟩ => ⟨S4096x256, .bf16⟩
  | .local _ .vmem, ⟨6, _⟩ => ⟨S256x6144, .bf16⟩
  | .local _ .vmem, ⟨7, _⟩ => ⟨S128x6144, .f32⟩
  | .local _ .vmem, ⟨8, _⟩ => ⟨S8x128x6144, .f32⟩
  | .local _ .smem, ⟨0, _⟩ => ⟨S5, .i32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_141 : BitVec 32 := 0#32
  let c32_i32_142 : BitVec 32 := 32#32
  let v225 : BitVec 32 := Scalar.addi c0_i32_141 c32_i32_142
  let c1_i32_143 : BitVec 32 := 1#32
  ⟨c0_i32_141, v225, c1_i32_143⟩
def k0_mult1 (k0_t1 : Fin k0_t1_loop.trips) : BitVec 32 :=
  let c0_i32_146 : BitVec 32 := 0#32
  let c0_i32_141 : BitVec 32 := 0#32
  let c1_i32_143 : BitVec 32 := 1#32
  let arg18 : BitVec 32 := Scf.iv c0_i32_141 c1_i32_143 k0_t1
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  v228
def k0_off1 (k0_t1 : Fin k0_t1_loop.trips) : Fin 3 → Nat :=
  let c0_i32_147 : BitVec 32 := 0#32
  let c0_i32_146 : BitVec 32 := 0#32
  let c0_i32_141 : BitVec 32 := 0#32
  let c1_i32_143 : BitVec 32 := 1#32
  let arg18 : BitVec 32 := Scf.iv c0_i32_141 c1_i32_143 k0_t1
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  let v229 : BitVec 32 := v228
  let c0_i32_148 : BitVec 32 := 0#32
  ![0, v229.toNat, 0]
@[reducible] def k0_t2_loop : Scf.Loop 32 :=
  let c0_i32_141 : BitVec 32 := 0#32
  let c32_i32_142 : BitVec 32 := 32#32
  let v225 : BitVec 32 := Scalar.addi c0_i32_141 c32_i32_142
  let c1_i32_143 : BitVec 32 := 1#32
  ⟨c0_i32_141, v225, c1_i32_143⟩
def k0_mult2 (k0_t2 : Fin k0_t2_loop.trips) : BitVec 32 :=
  let c0_i32_146 : BitVec 32 := 0#32
  let c0_i32_141 : BitVec 32 := 0#32
  let c1_i32_143 : BitVec 32 := 1#32
  let arg18 : BitVec 32 := Scf.iv c0_i32_141 c1_i32_143 k0_t2
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  v228
def k0_off2 (k0_t2 : Fin k0_t2_loop.trips) : Fin 3 → Nat :=
  let c1_i32_147 : BitVec 32 := 1#32
  let c0_i32_146 : BitVec 32 := 0#32
  let c0_i32_141 : BitVec 32 := 0#32
  let c1_i32_143 : BitVec 32 := 1#32
  let arg18 : BitVec 32 := Scf.iv c0_i32_141 c1_i32_143 k0_t2
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  let v229 : BitVec 32 := v228
  let c0_i32_148 : BitVec 32 := 0#32
  ![1, v229.toNat, 0]
@[reducible] def k0_t3_loop : Scf.Loop 32 :=
  let c0_i32_141 : BitVec 32 := 0#32
  let c32_i32_142 : BitVec 32 := 32#32
  let v225 : BitVec 32 := Scalar.addi c0_i32_141 c32_i32_142
  let c1_i32_143 : BitVec 32 := 1#32
  ⟨c0_i32_141, v225, c1_i32_143⟩
def k0_mult3 (k0_t3 : Fin k0_t3_loop.trips) : BitVec 32 :=
  let c0_i32_146 : BitVec 32 := 0#32
  let c0_i32_141 : BitVec 32 := 0#32
  let c1_i32_143 : BitVec 32 := 1#32
  let arg18 : BitVec 32 := Scf.iv c0_i32_141 c1_i32_143 k0_t3
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  v228
def k0_off3 (k0_t3 : Fin k0_t3_loop.trips) : Fin 3 → Nat :=
  let c2_i32_147 : BitVec 32 := 2#32
  let c0_i32_146 : BitVec 32 := 0#32
  let c0_i32_141 : BitVec 32 := 0#32
  let c1_i32_143 : BitVec 32 := 1#32
  let arg18 : BitVec 32 := Scf.iv c0_i32_141 c1_i32_143 k0_t3
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  let v229 : BitVec 32 := v228
  let c0_i32_148 : BitVec 32 := 0#32
  ![2, v229.toNat, 0]
@[reducible] def k0_t4_loop : Scf.Loop 32 :=
  let c0_i32_141 : BitVec 32 := 0#32
  let c32_i32_142 : BitVec 32 := 32#32
  let v225 : BitVec 32 := Scalar.addi c0_i32_141 c32_i32_142
  let c1_i32_143 : BitVec 32 := 1#32
  ⟨c0_i32_141, v225, c1_i32_143⟩
def k0_mult4 (k0_t4 : Fin k0_t4_loop.trips) : BitVec 32 :=
  let c0_i32_146 : BitVec 32 := 0#32
  let c0_i32_141 : BitVec 32 := 0#32
  let c1_i32_143 : BitVec 32 := 1#32
  let arg18 : BitVec 32 := Scf.iv c0_i32_141 c1_i32_143 k0_t4
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  v228
def k0_off4 (k0_t4 : Fin k0_t4_loop.trips) : Fin 3 → Nat :=
  let c3_i32_147 : BitVec 32 := 3#32
  let c0_i32_146 : BitVec 32 := 0#32
  let c0_i32_141 : BitVec 32 := 0#32
  let c1_i32_143 : BitVec 32 := 1#32
  let arg18 : BitVec 32 := Scf.iv c0_i32_141 c1_i32_143 k0_t4
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  let v229 : BitVec 32 := v228
  let c0_i32_148 : BitVec 32 := 0#32
  ![3, v229.toNat, 0]
@[reducible] def k0_t5_loop : Scf.Loop 32 :=
  let c0_i32_141 : BitVec 32 := 0#32
  let c32_i32_142 : BitVec 32 := 32#32
  let v225 : BitVec 32 := Scalar.addi c0_i32_141 c32_i32_142
  let c1_i32_143 : BitVec 32 := 1#32
  ⟨c0_i32_141, v225, c1_i32_143⟩
def k0_mult5 (k0_t5 : Fin k0_t5_loop.trips) : BitVec 32 :=
  let c0_i32_146 : BitVec 32 := 0#32
  let c0_i32_141 : BitVec 32 := 0#32
  let c1_i32_143 : BitVec 32 := 1#32
  let arg18 : BitVec 32 := Scf.iv c0_i32_141 c1_i32_143 k0_t5
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  v228
def k0_off5 (k0_t5 : Fin k0_t5_loop.trips) : Fin 3 → Nat :=
  let c4_i32 : BitVec 32 := 4#32
  let c0_i32_146 : BitVec 32 := 0#32
  let c0_i32_141 : BitVec 32 := 0#32
  let c1_i32_143 : BitVec 32 := 1#32
  let arg18 : BitVec 32 := Scf.iv c0_i32_141 c1_i32_143 k0_t5
  let c1_i32_145 : BitVec 32 := 1#32
  let v226 : BitVec 32 := Scalar.muli arg18 c1_i32_145
  let v227 : BitVec 32 := Scalar.addi c0_i32_146 v226
  let c128_i32 : BitVec 32 := 128#32
  let v228 : BitVec 32 := Scalar.muli v227 c128_i32
  let v229 : BitVec 32 := v228
  let c0_i32_147 : BitVec 32 := 0#32
  ![4, v229.toNat, 0]
@[reducible] def k0_t6_loop : Scf.Loop 32 :=
  let c0_i32_39 : BitVec 32 := 0#32
  let c32_i32 : BitVec 32 := 32#32
  let v133 : BitVec 32 := Scalar.addi c0_i32_39 c32_i32
  let c1_i32_40 : BitVec 32 := 1#32
  ⟨c0_i32_39, v133, c1_i32_40⟩
def k0_mult6 (k0_t6 : Fin k0_t6_loop.trips) : BitVec 32 :=
  let c0_i32_142 : BitVec 32 := 0#32
  let c0_i32_39 : BitVec 32 := 0#32
  let c1_i32_40 : BitVec 32 := 1#32
  let arg18 : BitVec 32 := Scf.iv c0_i32_39 c1_i32_40 k0_t6
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  v227
def k0_off6 (k0_t6 : Fin k0_t6_loop.trips) : Fin 2 → Nat :=
  let c0_143 : Index := 0#32
  let c0_i32_142 : BitVec 32 := 0#32
  let c0_i32_39 : BitVec 32 := 0#32
  let c1_i32_40 : BitVec 32 := 1#32
  let arg18 : BitVec 32 := Scf.iv c0_i32_39 c1_i32_40 k0_t6
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  let v228 : BitVec 32 := v227
  let v229 : Index := Scalar.indexCast v228
  ![0, v229.toNat]
def k0_off7 (k0_t6 : Fin k0_t6_loop.trips) : Fin 2 → Nat :=
  let c0_149 : Index := 0#32
  let c0_i32_142 : BitVec 32 := 0#32
  let c0_i32_39 : BitVec 32 := 0#32
  let c1_i32_40 : BitVec 32 := 1#32
  let arg18 : BitVec 32 := Scf.iv c0_i32_39 c1_i32_40 k0_t6
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  let v228 : BitVec 32 := v227
  let v255 : Index := Scalar.indexCast v228
  ![0, v255.toNat]
def k0_mult7 (k0_t6 : Fin k0_t6_loop.trips) : BitVec 32 :=
  let c0_i32_142 : BitVec 32 := 0#32
  let c0_i32_39 : BitVec 32 := 0#32
  let c1_i32_40 : BitVec 32 := 1#32
  let arg18 : BitVec 32 := Scf.iv c0_i32_39 c1_i32_40 k0_t6
  let c1_i32_141 : BitVec 32 := 1#32
  let v225 : BitVec 32 := Scalar.muli arg18 c1_i32_141
  let v226 : BitVec 32 := Scalar.addi c0_i32_142 v225
  let c128_i32_150 : BitVec 32 := 128#32
  let v261 : BitVec 32 := Scalar.muli v226 c128_i32_150
  v261
def k0_off8 (k0_t6 : Fin k0_t6_loop.trips) : Fin 2 → Nat :=
  let c0_i32_142 : BitVec 32 := 0#32
  let c0_i32_39 : BitVec 32 := 0#32
  let c1_i32_40 : BitVec 32 := 1#32
  let arg18 : BitVec 32 := Scf.iv c0_i32_39 c1_i32_40 k0_t6
  let c1_i32_141 : BitVec 32 := 1#32
  let v225 : BitVec 32 := Scalar.muli arg18 c1_i32_141
  let v226 : BitVec 32 := Scalar.addi c0_i32_142 v225
  let c128_i32_150 : BitVec 32 := 128#32
  let v261 : BitVec 32 := Scalar.muli v226 c128_i32_150
  let v262 : BitVec 32 := v261
  let v263 : Index := Scalar.indexCast v262
  let c0_151 : Index := 0#32
  ![v263.toNat, 0]
@[reducible] def k0_t7_loop : Scf.Loop 32 :=
  let c0_i32_44 : BitVec 32 := 0#32
  let c48_i32 : BitVec 32 := 48#32
  let v138 : BitVec 32 := Scalar.addi c0_i32_44 c48_i32
  let c1_i32_45 : BitVec 32 := 1#32
  ⟨c0_i32_44, v138, c1_i32_45⟩
def k0_mult8 (k0_t7 : Fin k0_t7_loop.trips) : BitVec 32 :=
  let c0_i32_142 : BitVec 32 := 0#32
  let c0_i32_44 : BitVec 32 := 0#32
  let c1_i32_45 : BitVec 32 := 1#32
  let arg18 : BitVec 32 := Scf.iv c0_i32_44 c1_i32_45 k0_t7
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  v227
def k0_off9 (k0_t7 : Fin k0_t7_loop.trips) : Fin 2 → Nat :=
  let c0_143 : Index := 0#32
  let c0_i32_142 : BitVec 32 := 0#32
  let c0_i32_44 : BitVec 32 := 0#32
  let c1_i32_45 : BitVec 32 := 1#32
  let arg18 : BitVec 32 := Scf.iv c0_i32_44 c1_i32_45 k0_t7
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  let v228 : BitVec 32 := v227
  let v229 : Index := Scalar.indexCast v228
  ![0, v229.toNat]
def k0_off10 (k0_t7 : Fin k0_t7_loop.trips) : Fin 2 → Nat :=
  let c0_149 : Index := 0#32
  let c0_i32_142 : BitVec 32 := 0#32
  let c0_i32_44 : BitVec 32 := 0#32
  let c1_i32_45 : BitVec 32 := 1#32
  let arg18 : BitVec 32 := Scf.iv c0_i32_44 c1_i32_45 k0_t7
  let c1_i32_141 : BitVec 32 := 1#32
  let v225 : BitVec 32 := Scalar.muli arg18 c1_i32_141
  let v226 : BitVec 32 := Scalar.addi c0_i32_142 v225
  let c128_i32 : BitVec 32 := 128#32
  let v227 : BitVec 32 := Scalar.muli v226 c128_i32
  let v228 : BitVec 32 := v227
  let v255 : Index := Scalar.indexCast v228
  ![0, v255.toNat]
def k0_mult9 (k0_t7 : Fin k0_t7_loop.trips) : BitVec 32 :=
  let c0_i32_142 : BitVec 32 := 0#32
  let c0_i32_44 : BitVec 32 := 0#32
  let c1_i32_45 : BitVec 32 := 1#32
  let arg18 : BitVec 32 := Scf.iv c0_i32_44 c1_i32_45 k0_t7
  let c1_i32_141 : BitVec 32 := 1#32
  let v225 : BitVec 32 := Scalar.muli arg18 c1_i32_141
  let v226 : BitVec 32 := Scalar.addi c0_i32_142 v225
  let c128_i32_150 : BitVec 32 := 128#32
  let v260 : BitVec 32 := Scalar.muli v226 c128_i32_150
  v260
@[reducible] def k0_t8_loop (v140 : BitVec 32) : Scf.Loop 32 :=
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_61 : BitVec 32 := 1#32
  ⟨c0_i32_59, v151, c1_i32_61⟩

def k0_cond6 (v140 : BitVec 32) (k0_t8 : Fin (k0_t8_loop v140).trips) : BitVec 1 :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_mult10 (v140 : BitVec 32) (k0_t8 : Fin (k0_t8_loop v140).trips) : BitVec 32 :=
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32_157 : BitVec 32 := 128#32
  let v259 : BitVec 32 := Scalar.muli v226 c128_i32_157
  v259
def k0_off11 (v140 : BitVec 32) (k0_t8 : Fin (k0_t8_loop v140).trips) : Fin 1 → Nat :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  ![v228.toNat]
def k0_off12 (v140 : BitVec 32) (k0_t8 : Fin (k0_t8_loop v140).trips) : Fin 3 → Nat :=
  let c0_i32_158 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32_157 : BitVec 32 := 128#32
  let v259 : BitVec 32 := Scalar.muli v226 c128_i32_157
  let v260 : BitVec 32 := v259
  let c0_i32_159 : BitVec 32 := 0#32
  ![0, v260.toNat, 0]
def k0_off13 (v140 : BitVec 32) (k0_t8 : Fin (k0_t8_loop v140).trips) : Fin 3 → Nat :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult11 (v140 : BitVec 32) (k0_t8 : Fin (k0_t8_loop v140).trips) : BitVec 32 :=
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32 : BitVec 32 := 128#32
  let v232 : BitVec 32 := Scalar.muli v226 c128_i32
  v232
def k0_off14 (v140 : BitVec 32) (k0_t8 : Fin (k0_t8_loop v140).trips) : Fin 2 → Nat :=
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off15 (v140 : BitVec 32) (k0_t8 : Fin (k0_t8_loop v140).trips) : Fin 3 → Nat :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult12 (v140 : BitVec 32) (k0_t8 : Fin (k0_t8_loop v140).trips) : BitVec 32 :=
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32_152 : BitVec 32 := 128#32
  let v251 : BitVec 32 := Scalar.muli v226 c128_i32_152
  v251
def k0_off16 (v140 : BitVec 32) (k0_t8 : Fin (k0_t8_loop v140).trips) : Fin 1 → Nat :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  ![v228.toNat]
def k0_off17 (v140 : BitVec 32) (k0_t8 : Fin (k0_t8_loop v140).trips) : Fin 3 → Nat :=
  let c0_i32_153 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let c128_i32_152 : BitVec 32 := 128#32
  let v251 : BitVec 32 := Scalar.muli v226 c128_i32_152
  let v252 : BitVec 32 := v251
  let c0_i32_154 : BitVec 32 := 0#32
  ![0, v252.toNat, 0]
def k0_off18 (v140 : BitVec 32) (k0_t8 : Fin (k0_t8_loop v140).trips) : Fin 3 → Nat :=
  let c0_i32_57 : BitVec 32 := 0#32
  let c0_i32_56 : BitVec 32 := 0#32
  let c0_i32_59 : BitVec 32 := 0#32
  let c1_i32_61 : BitVec 32 := 1#32
  let arg18 : BitVec 32 := Scf.iv c0_i32_59 c1_i32_61 k0_t8
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]
@[reducible] def k0_t9_loop (v140 : BitVec 32) : Scf.Loop 32 :=
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let v148 : BitVec 32 := Scalar.addi c0_i32_59 v147
  let c1_i32_62 : BitVec 32 := 1#32
  ⟨v151, v148, c1_i32_62⟩
def k0_mult13 (v140 : BitVec 32) (k0_t9 : Fin (k0_t9_loop v140).trips) : BitVec 32 :=
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32_157 : BitVec 32 := 128#32
  let v259 : BitVec 32 := Scalar.muli v226 c128_i32_157
  v259
def k0_cond7 (v140 : BitVec 32) (k0_t9 : Fin (k0_t9_loop v140).trips) : BitVec 1 :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off19 (v140 : BitVec 32) (k0_t9 : Fin (k0_t9_loop v140).trips) : Fin 1 → Nat :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  ![v228.toNat]
def k0_off20 (v140 : BitVec 32) (k0_t9 : Fin (k0_t9_loop v140).trips) : Fin 3 → Nat :=
  let c0_i32_158 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32_157 : BitVec 32 := 128#32
  let v259 : BitVec 32 := Scalar.muli v226 c128_i32_157
  let v260 : BitVec 32 := v259
  let c0_i32_159 : BitVec 32 := 0#32
  ![0, v260.toNat, 0]
def k0_off21 (v140 : BitVec 32) (k0_t9 : Fin (k0_t9_loop v140).trips) : Fin 3 → Nat :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult14 (v140 : BitVec 32) (k0_t9 : Fin (k0_t9_loop v140).trips) : BitVec 32 :=
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32 : BitVec 32 := 128#32
  let v232 : BitVec 32 := Scalar.muli v226 c128_i32
  v232
def k0_off22 (v140 : BitVec 32) (k0_t9 : Fin (k0_t9_loop v140).trips) : Fin 2 → Nat :=
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off23 (v140 : BitVec 32) (k0_t9 : Fin (k0_t9_loop v140).trips) : Fin 3 → Nat :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult15 (v140 : BitVec 32) (k0_t9 : Fin (k0_t9_loop v140).trips) : BitVec 32 :=
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32_152 : BitVec 32 := 128#32
  let v251 : BitVec 32 := Scalar.muli v226 c128_i32_152
  v251
def k0_off24 (v140 : BitVec 32) (k0_t9 : Fin (k0_t9_loop v140).trips) : Fin 1 → Nat :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  ![v228.toNat]
def k0_off25 (v140 : BitVec 32) (k0_t9 : Fin (k0_t9_loop v140).trips) : Fin 3 → Nat :=
  let c0_i32_153 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let c128_i32_152 : BitVec 32 := 128#32
  let v251 : BitVec 32 := Scalar.muli v226 c128_i32_152
  let v252 : BitVec 32 := v251
  let c0_i32_154 : BitVec 32 := 0#32
  ![0, v252.toNat, 0]
def k0_off26 (v140 : BitVec 32) (k0_t9 : Fin (k0_t9_loop v140).trips) : Fin 3 → Nat :=
  let c0_i32_57 : BitVec 32 := 0#32
  let c0_i32_56 : BitVec 32 := 0#32
  let c0_i32_59 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let c0_i32_51 : BitVec 32 := 0#32
  let v143 : BitVec 32 := Scalar.subi v142 c0_i32_51
  let c1_i32_52 : BitVec 32 := 1#32
  let c1_i32_53 : BitVec 32 := 1#32
  let v144 : BitVec 32 := Scalar.subi c1_i32_52 c1_i32_53
  let v145 : BitVec 32 := Scalar.addi v143 v144
  let c1_i32_54 : BitVec 32 := 1#32
  let v146 : BitVec 32 := Scalar.divsi v145 c1_i32_54
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg18 : BitVec 32 := Scf.iv v151 c1_i32_62 k0_t9
  let c1_i32_55 : BitVec 32 := 1#32
  let v225 : BitVec 32 := Scalar.muli arg18 c1_i32_55
  let v226 : BitVec 32 := Scalar.addi c0_i32_56 v225
  let v227 : BitVec 32 := Scalar.addi c0_i32_57 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]

def k0_chk1 (v140 : BitVec 32) : Prop :=
  ((k0_t8_loop v140).OK) ∧
  (∀ k0_t8 : Fin (k0_t8_loop v140).trips, ∀ (k0_h6 : k0_cond6 v140 k0_t8 = 1#1), 128 ∣ (k0_mult10 v140 k0_t8).toNat) ∧
  (∀ k0_t8 : Fin (k0_t8_loop v140).trips, ∀ (k0_h6 : k0_cond6 v140 k0_t8 = 1#1), ∀ a, (k0_off11 v140 k0_t8) a + S1.size a ≤ S8.size a) ∧
  (∀ k0_t8 : Fin (k0_t8_loop v140).trips, ∀ (k0_h6 : k0_cond6 v140 k0_t8 = 1#1), ∀ a, (k0_off12 v140 k0_t8) a + S1x128x6144.size a ≤ S5x4096x6144.size a) ∧
  (∀ k0_t8 : Fin (k0_t8_loop v140).trips, ∀ (k0_h6 : k0_cond6 v140 k0_t8 = 1#1), ∀ a, (k0_off13 v140 k0_t8) a + S1x128x6144.size a ≤ S8x128x6144.size a) ∧
  (∀ k0_t8 : Fin (k0_t8_loop v140).trips, 128 ∣ (k0_mult11 v140 k0_t8).toNat) ∧
  (∀ k0_t8 : Fin (k0_t8_loop v140).trips, ∀ a, (k0_off14 v140 k0_t8) a + S128x256.size a ≤ S4096x256.size a) ∧
  (∀ k0_t8 : Fin (k0_t8_loop v140).trips, ∀ a, (k0_off15 v140 k0_t8) a + S1x128x6144.size a ≤ S8x128x6144.size a) ∧
  (∀ k0_t8 : Fin (k0_t8_loop v140).trips, 128 ∣ (k0_mult12 v140 k0_t8).toNat) ∧
  (∀ k0_t8 : Fin (k0_t8_loop v140).trips, ∀ a, (k0_off16 v140 k0_t8) a + S1.size a ≤ S8.size a) ∧
  (∀ k0_t8 : Fin (k0_t8_loop v140).trips, ∀ a, (k0_off17 v140 k0_t8) a + S1x128x6144.size a ≤ S5x4096x6144.size a) ∧
  (∀ k0_t8 : Fin (k0_t8_loop v140).trips, ∀ a, (k0_off18 v140 k0_t8) a + S1x128x6144.size a ≤ S8x128x6144.size a) ∧
  ((k0_t9_loop v140).OK) ∧
  (∀ k0_t9 : Fin (k0_t9_loop v140).trips, ∀ (k0_h7 : k0_cond7 v140 k0_t9 = 1#1), 128 ∣ (k0_mult13 v140 k0_t9).toNat) ∧
  (∀ k0_t9 : Fin (k0_t9_loop v140).trips, ∀ (k0_h7 : k0_cond7 v140 k0_t9 = 1#1), ∀ a, (k0_off19 v140 k0_t9) a + S1.size a ≤ S8.size a) ∧
  (∀ k0_t9 : Fin (k0_t9_loop v140).trips, ∀ (k0_h7 : k0_cond7 v140 k0_t9 = 1#1), ∀ a, (k0_off20 v140 k0_t9) a + S1x128x6144.size a ≤ S5x4096x6144.size a) ∧
  (∀ k0_t9 : Fin (k0_t9_loop v140).trips, ∀ (k0_h7 : k0_cond7 v140 k0_t9 = 1#1), ∀ a, (k0_off21 v140 k0_t9) a + S1x128x6144.size a ≤ S8x128x6144.size a) ∧
  (∀ k0_t9 : Fin (k0_t9_loop v140).trips, 128 ∣ (k0_mult14 v140 k0_t9).toNat) ∧
  (∀ k0_t9 : Fin (k0_t9_loop v140).trips, ∀ a, (k0_off22 v140 k0_t9) a + S128x256.size a ≤ S4096x256.size a) ∧
  (∀ k0_t9 : Fin (k0_t9_loop v140).trips, ∀ a, (k0_off23 v140 k0_t9) a + S1x128x6144.size a ≤ S8x128x6144.size a) ∧
  (∀ k0_t9 : Fin (k0_t9_loop v140).trips, 128 ∣ (k0_mult15 v140 k0_t9).toNat) ∧
  (∀ k0_t9 : Fin (k0_t9_loop v140).trips, ∀ a, (k0_off24 v140 k0_t9) a + S1.size a ≤ S8.size a) ∧
  (∀ k0_t9 : Fin (k0_t9_loop v140).trips, ∀ a, (k0_off25 v140 k0_t9) a + S1x128x6144.size a ≤ S5x4096x6144.size a) ∧
  (∀ k0_t9 : Fin (k0_t9_loop v140).trips, ∀ a, (k0_off26 v140 k0_t9) a + S1x128x6144.size a ≤ S8x128x6144.size a)
theorem k0_t8_ok : ∀ (v140 : BitVec 32) (k0_hw1 : k0_chk1 v140), (k0_t8_loop v140).OK := fun v140 k0_hw1 => k0_hw1.1
theorem k0_mult10_dvd : ∀ (v140 : BitVec 32) (k0_hw1 : k0_chk1 v140) (k0_t8 : Fin (k0_t8_loop v140).trips), ∀ (k0_h6 : k0_cond6 v140 k0_t8 = 1#1), 128 ∣ (k0_mult10 v140 k0_t8).toNat := fun v140 k0_hw1 k0_t8 k0_h6 => k0_hw1.2.1 k0_t8 k0_h6
theorem k0_off11_inb : ∀ (v140 : BitVec 32) (k0_hw1 : k0_chk1 v140) (k0_t8 : Fin (k0_t8_loop v140).trips), ∀ (k0_h6 : k0_cond6 v140 k0_t8 = 1#1), ∀ a, (k0_off11 v140 k0_t8) a + S1.size a ≤ S8.size a := fun v140 k0_hw1 k0_t8 k0_h6 => k0_hw1.2.2.1 k0_t8 k0_h6
theorem k0_off12_inb : ∀ (v140 : BitVec 32) (k0_hw1 : k0_chk1 v140) (k0_t8 : Fin (k0_t8_loop v140).trips), ∀ (k0_h6 : k0_cond6 v140 k0_t8 = 1#1), ∀ a, (k0_off12 v140 k0_t8) a + S1x128x6144.size a ≤ S5x4096x6144.size a := fun v140 k0_hw1 k0_t8 k0_h6 => k0_hw1.2.2.2.1 k0_t8 k0_h6
theorem k0_off13_inb : ∀ (v140 : BitVec 32) (k0_hw1 : k0_chk1 v140) (k0_t8 : Fin (k0_t8_loop v140).trips), ∀ (k0_h6 : k0_cond6 v140 k0_t8 = 1#1), ∀ a, (k0_off13 v140 k0_t8) a + S1x128x6144.size a ≤ S8x128x6144.size a := fun v140 k0_hw1 k0_t8 k0_h6 => k0_hw1.2.2.2.2.1 k0_t8 k0_h6
theorem k0_mult11_dvd : ∀ (v140 : BitVec 32) (k0_hw1 : k0_chk1 v140) (k0_t8 : Fin (k0_t8_loop v140).trips), 128 ∣ (k0_mult11 v140 k0_t8).toNat := fun v140 k0_hw1 k0_t8 => k0_hw1.2.2.2.2.2.1 k0_t8
theorem k0_off14_inb : ∀ (v140 : BitVec 32) (k0_hw1 : k0_chk1 v140) (k0_t8 : Fin (k0_t8_loop v140).trips), ∀ a, (k0_off14 v140 k0_t8) a + S128x256.size a ≤ S4096x256.size a := fun v140 k0_hw1 k0_t8 => k0_hw1.2.2.2.2.2.2.1 k0_t8
theorem k0_off15_inb : ∀ (v140 : BitVec 32) (k0_hw1 : k0_chk1 v140) (k0_t8 : Fin (k0_t8_loop v140).trips), ∀ a, (k0_off15 v140 k0_t8) a + S1x128x6144.size a ≤ S8x128x6144.size a := fun v140 k0_hw1 k0_t8 => k0_hw1.2.2.2.2.2.2.2.1 k0_t8
theorem k0_mult12_dvd : ∀ (v140 : BitVec 32) (k0_hw1 : k0_chk1 v140) (k0_t8 : Fin (k0_t8_loop v140).trips), 128 ∣ (k0_mult12 v140 k0_t8).toNat := fun v140 k0_hw1 k0_t8 => k0_hw1.2.2.2.2.2.2.2.2.1 k0_t8
theorem k0_off16_inb : ∀ (v140 : BitVec 32) (k0_hw1 : k0_chk1 v140) (k0_t8 : Fin (k0_t8_loop v140).trips), ∀ a, (k0_off16 v140 k0_t8) a + S1.size a ≤ S8.size a := fun v140 k0_hw1 k0_t8 => k0_hw1.2.2.2.2.2.2.2.2.2.1 k0_t8
theorem k0_off17_inb : ∀ (v140 : BitVec 32) (k0_hw1 : k0_chk1 v140) (k0_t8 : Fin (k0_t8_loop v140).trips), ∀ a, (k0_off17 v140 k0_t8) a + S1x128x6144.size a ≤ S5x4096x6144.size a := fun v140 k0_hw1 k0_t8 => k0_hw1.2.2.2.2.2.2.2.2.2.2.1 k0_t8
theorem k0_off18_inb : ∀ (v140 : BitVec 32) (k0_hw1 : k0_chk1 v140) (k0_t8 : Fin (k0_t8_loop v140).trips), ∀ a, (k0_off18 v140 k0_t8) a + S1x128x6144.size a ≤ S8x128x6144.size a := fun v140 k0_hw1 k0_t8 => k0_hw1.2.2.2.2.2.2.2.2.2.2.2.1 k0_t8
theorem k0_t9_ok : ∀ (v140 : BitVec 32) (k0_hw1 : k0_chk1 v140), (k0_t9_loop v140).OK := fun v140 k0_hw1 => k0_hw1.2.2.2.2.2.2.2.2.2.2.2.2.1
theorem k0_mult13_dvd : ∀ (v140 : BitVec 32) (k0_hw1 : k0_chk1 v140) (k0_t9 : Fin (k0_t9_loop v140).trips), ∀ (k0_h7 : k0_cond7 v140 k0_t9 = 1#1), 128 ∣ (k0_mult13 v140 k0_t9).toNat := fun v140 k0_hw1 k0_t9 k0_h7 => k0_hw1.2.2.2.2.2.2.2.2.2.2.2.2.2.1 k0_t9 k0_h7
theorem k0_off19_inb : ∀ (v140 : BitVec 32) (k0_hw1 : k0_chk1 v140) (k0_t9 : Fin (k0_t9_loop v140).trips), ∀ (k0_h7 : k0_cond7 v140 k0_t9 = 1#1), ∀ a, (k0_off19 v140 k0_t9) a + S1.size a ≤ S8.size a := fun v140 k0_hw1 k0_t9 k0_h7 => k0_hw1.2.2.2.2.2.2.2.2.2.2.2.2.2.2.1 k0_t9 k0_h7
theorem k0_off20_inb : ∀ (v140 : BitVec 32) (k0_hw1 : k0_chk1 v140) (k0_t9 : Fin (k0_t9_loop v140).trips), ∀ (k0_h7 : k0_cond7 v140 k0_t9 = 1#1), ∀ a, (k0_off20 v140 k0_t9) a + S1x128x6144.size a ≤ S5x4096x6144.size a := fun v140 k0_hw1 k0_t9 k0_h7 => k0_hw1.2.2.2.2.2.2.2.2.2.2.2.2.2.2.2.1 k0_t9 k0_h7
theorem k0_off21_inb : ∀ (v140 : BitVec 32) (k0_hw1 : k0_chk1 v140) (k0_t9 : Fin (k0_t9_loop v140).trips), ∀ (k0_h7 : k0_cond7 v140 k0_t9 = 1#1), ∀ a, (k0_off21 v140 k0_t9) a + S1x128x6144.size a ≤ S8x128x6144.size a := fun v140 k0_hw1 k0_t9 k0_h7 => k0_hw1.2.2.2.2.2.2.2.2.2.2.2.2.2.2.2.2.1 k0_t9 k0_h7
theorem k0_mult14_dvd : ∀ (v140 : BitVec 32) (k0_hw1 : k0_chk1 v140) (k0_t9 : Fin (k0_t9_loop v140).trips), 128 ∣ (k0_mult14 v140 k0_t9).toNat := fun v140 k0_hw1 k0_t9 => k0_hw1.2.2.2.2.2.2.2.2.2.2.2.2.2.2.2.2.2.1 k0_t9
theorem k0_off22_inb : ∀ (v140 : BitVec 32) (k0_hw1 : k0_chk1 v140) (k0_t9 : Fin (k0_t9_loop v140).trips), ∀ a, (k0_off22 v140 k0_t9) a + S128x256.size a ≤ S4096x256.size a := fun v140 k0_hw1 k0_t9 => k0_hw1.2.2.2.2.2.2.2.2.2.2.2.2.2.2.2.2.2.2.1 k0_t9
theorem k0_off23_inb : ∀ (v140 : BitVec 32) (k0_hw1 : k0_chk1 v140) (k0_t9 : Fin (k0_t9_loop v140).trips), ∀ a, (k0_off23 v140 k0_t9) a + S1x128x6144.size a ≤ S8x128x6144.size a := fun v140 k0_hw1 k0_t9 => k0_hw1.2.2.2.2.2.2.2.2.2.2.2.2.2.2.2.2.2.2.2.1 k0_t9
theorem k0_mult15_dvd : ∀ (v140 : BitVec 32) (k0_hw1 : k0_chk1 v140) (k0_t9 : Fin (k0_t9_loop v140).trips), 128 ∣ (k0_mult15 v140 k0_t9).toNat := fun v140 k0_hw1 k0_t9 => k0_hw1.2.2.2.2.2.2.2.2.2.2.2.2.2.2.2.2.2.2.2.2.1 k0_t9
theorem k0_off24_inb : ∀ (v140 : BitVec 32) (k0_hw1 : k0_chk1 v140) (k0_t9 : Fin (k0_t9_loop v140).trips), ∀ a, (k0_off24 v140 k0_t9) a + S1.size a ≤ S8.size a := fun v140 k0_hw1 k0_t9 => k0_hw1.2.2.2.2.2.2.2.2.2.2.2.2.2.2.2.2.2.2.2.2.2.1 k0_t9
theorem k0_off25_inb : ∀ (v140 : BitVec 32) (k0_hw1 : k0_chk1 v140) (k0_t9 : Fin (k0_t9_loop v140).trips), ∀ a, (k0_off25 v140 k0_t9) a + S1x128x6144.size a ≤ S5x4096x6144.size a := fun v140 k0_hw1 k0_t9 => k0_hw1.2.2.2.2.2.2.2.2.2.2.2.2.2.2.2.2.2.2.2.2.2.2.1 k0_t9
theorem k0_off26_inb : ∀ (v140 : BitVec 32) (k0_hw1 : k0_chk1 v140) (k0_t9 : Fin (k0_t9_loop v140).trips), ∀ a, (k0_off26 v140 k0_t9) a + S1x128x6144.size a ≤ S8x128x6144.size a := fun v140 k0_hw1 k0_t9 => k0_hw1.2.2.2.2.2.2.2.2.2.2.2.2.2.2.2.2.2.2.2.2.2.2.2 k0_t9

@[reducible] def k0_t10_loop (v153 : BitVec 32) : Scf.Loop 32 :=
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_76 : BitVec 32 := 1#32
  ⟨c0_i32_74, v164, c1_i32_76⟩

def k0_mult16 (v153 : BitVec 32) (k0_t10 : Fin (k0_t10_loop v153).trips) : BitVec 32 :=
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32_157 : BitVec 32 := 128#32
  let v259 : BitVec 32 := Scalar.muli v226 c128_i32_157
  v259
def k0_cond8 (v140 : BitVec 32) (v153 : BitVec 32) (k0_t10 : Fin (k0_t10_loop v153).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off27 (v140 : BitVec 32) (v153 : BitVec 32) (k0_t10 : Fin (k0_t10_loop v153).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  ![v228.toNat]
def k0_off28 (v153 : BitVec 32) (k0_t10 : Fin (k0_t10_loop v153).trips) : Fin 3 → Nat :=
  let c1_i32_158 : BitVec 32 := 1#32
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32_157 : BitVec 32 := 128#32
  let v259 : BitVec 32 := Scalar.muli v226 c128_i32_157
  let v260 : BitVec 32 := v259
  let c0_i32_159 : BitVec 32 := 0#32
  ![1, v260.toNat, 0]
def k0_off29 (v140 : BitVec 32) (v153 : BitVec 32) (k0_t10 : Fin (k0_t10_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult17 (v153 : BitVec 32) (k0_t10 : Fin (k0_t10_loop v153).trips) : BitVec 32 :=
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32 : BitVec 32 := 128#32
  let v232 : BitVec 32 := Scalar.muli v226 c128_i32
  v232
def k0_off30 (v153 : BitVec 32) (k0_t10 : Fin (k0_t10_loop v153).trips) : Fin 2 → Nat :=
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off31 (v140 : BitVec 32) (v153 : BitVec 32) (k0_t10 : Fin (k0_t10_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult18 (v153 : BitVec 32) (k0_t10 : Fin (k0_t10_loop v153).trips) : BitVec 32 :=
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32_152 : BitVec 32 := 128#32
  let v251 : BitVec 32 := Scalar.muli v226 c128_i32_152
  v251
def k0_off32 (v140 : BitVec 32) (v153 : BitVec 32) (k0_t10 : Fin (k0_t10_loop v153).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  ![v228.toNat]
def k0_off33 (v153 : BitVec 32) (k0_t10 : Fin (k0_t10_loop v153).trips) : Fin 3 → Nat :=
  let c1_i32_153 : BitVec 32 := 1#32
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let c128_i32_152 : BitVec 32 := 128#32
  let v251 : BitVec 32 := Scalar.muli v226 c128_i32_152
  let v252 : BitVec 32 := v251
  let c0_i32_154 : BitVec 32 := 0#32
  ![1, v252.toNat, 0]
def k0_off34 (v140 : BitVec 32) (v153 : BitVec 32) (k0_t10 : Fin (k0_t10_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c1_i32_76 : BitVec 32 := 1#32
  let arg18 : BitVec 32 := Scf.iv c0_i32_74 c1_i32_76 k0_t10
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]
@[reducible] def k0_t11_loop (v153 : BitVec 32) : Scf.Loop 32 :=
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let v161 : BitVec 32 := Scalar.addi c0_i32_74 v160
  let c1_i32_77 : BitVec 32 := 1#32
  ⟨v164, v161, c1_i32_77⟩
def k0_mult19 (v153 : BitVec 32) (k0_t11 : Fin (k0_t11_loop v153).trips) : BitVec 32 :=
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32_157 : BitVec 32 := 128#32
  let v259 : BitVec 32 := Scalar.muli v226 c128_i32_157
  v259
def k0_cond9 (v140 : BitVec 32) (v153 : BitVec 32) (k0_t11 : Fin (k0_t11_loop v153).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off35 (v140 : BitVec 32) (v153 : BitVec 32) (k0_t11 : Fin (k0_t11_loop v153).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  ![v228.toNat]
def k0_off36 (v153 : BitVec 32) (k0_t11 : Fin (k0_t11_loop v153).trips) : Fin 3 → Nat :=
  let c1_i32_158 : BitVec 32 := 1#32
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32_157 : BitVec 32 := 128#32
  let v259 : BitVec 32 := Scalar.muli v226 c128_i32_157
  let v260 : BitVec 32 := v259
  let c0_i32_159 : BitVec 32 := 0#32
  ![1, v260.toNat, 0]
def k0_off37 (v140 : BitVec 32) (v153 : BitVec 32) (k0_t11 : Fin (k0_t11_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult20 (v153 : BitVec 32) (k0_t11 : Fin (k0_t11_loop v153).trips) : BitVec 32 :=
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32 : BitVec 32 := 128#32
  let v232 : BitVec 32 := Scalar.muli v226 c128_i32
  v232
def k0_off38 (v153 : BitVec 32) (k0_t11 : Fin (k0_t11_loop v153).trips) : Fin 2 → Nat :=
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off39 (v140 : BitVec 32) (v153 : BitVec 32) (k0_t11 : Fin (k0_t11_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult21 (v153 : BitVec 32) (k0_t11 : Fin (k0_t11_loop v153).trips) : BitVec 32 :=
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32_152 : BitVec 32 := 128#32
  let v251 : BitVec 32 := Scalar.muli v226 c128_i32_152
  v251
def k0_off40 (v140 : BitVec 32) (v153 : BitVec 32) (k0_t11 : Fin (k0_t11_loop v153).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  ![v228.toNat]
def k0_off41 (v153 : BitVec 32) (k0_t11 : Fin (k0_t11_loop v153).trips) : Fin 3 → Nat :=
  let c1_i32_153 : BitVec 32 := 1#32
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let c128_i32_152 : BitVec 32 := 128#32
  let v251 : BitVec 32 := Scalar.muli v226 c128_i32_152
  let v252 : BitVec 32 := v251
  let c0_i32_154 : BitVec 32 := 0#32
  ![1, v252.toNat, 0]
def k0_off42 (v140 : BitVec 32) (v153 : BitVec 32) (k0_t11 : Fin (k0_t11_loop v153).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_73 : BitVec 32 := 0#32
  let c0_i32_74 : BitVec 32 := 0#32
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let c0_i32_68 : BitVec 32 := 0#32
  let v156 : BitVec 32 := Scalar.subi v155 c0_i32_68
  let c1_i32_69 : BitVec 32 := 1#32
  let c1_i32_70 : BitVec 32 := 1#32
  let v157 : BitVec 32 := Scalar.subi c1_i32_69 c1_i32_70
  let v158 : BitVec 32 := Scalar.addi v156 v157
  let c1_i32_71 : BitVec 32 := 1#32
  let v159 : BitVec 32 := Scalar.divsi v158 c1_i32_71
  let v160 : BitVec 32 := Scalar.subi v159 c0_i32_74
  let c1_i32_75 : BitVec 32 := 1#32
  let v162 : BitVec 32 := Scalar.divsi v160 c1_i32_75
  let v163 : BitVec 32 := Scalar.muli v162 c1_i32_75
  let v164 : BitVec 32 := Scalar.addi c0_i32_74 v163
  let c1_i32_77 : BitVec 32 := 1#32
  let arg18 : BitVec 32 := Scf.iv v164 c1_i32_77 k0_t11
  let c1_i32_72 : BitVec 32 := 1#32
  let v225 : BitVec 32 := Scalar.muli arg18 c1_i32_72
  let v226 : BitVec 32 := Scalar.addi c0_i32_73 v225
  let v227 : BitVec 32 := Scalar.addi v152 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]

def k0_chk2 (v140 : BitVec 32) (v153 : BitVec 32) : Prop :=
  ((k0_t10_loop v153).OK) ∧
  (∀ k0_t10 : Fin (k0_t10_loop v153).trips, ∀ (k0_h8 : k0_cond8 v140 v153 k0_t10 = 1#1), 128 ∣ (k0_mult16 v153 k0_t10).toNat) ∧
  (∀ k0_t10 : Fin (k0_t10_loop v153).trips, ∀ (k0_h8 : k0_cond8 v140 v153 k0_t10 = 1#1), ∀ a, (k0_off27 v140 v153 k0_t10) a + S1.size a ≤ S8.size a) ∧
  (∀ k0_t10 : Fin (k0_t10_loop v153).trips, ∀ (k0_h8 : k0_cond8 v140 v153 k0_t10 = 1#1), ∀ a, (k0_off28 v153 k0_t10) a + S1x128x6144.size a ≤ S5x4096x6144.size a) ∧
  (∀ k0_t10 : Fin (k0_t10_loop v153).trips, ∀ (k0_h8 : k0_cond8 v140 v153 k0_t10 = 1#1), ∀ a, (k0_off29 v140 v153 k0_t10) a + S1x128x6144.size a ≤ S8x128x6144.size a) ∧
  (∀ k0_t10 : Fin (k0_t10_loop v153).trips, 128 ∣ (k0_mult17 v153 k0_t10).toNat) ∧
  (∀ k0_t10 : Fin (k0_t10_loop v153).trips, ∀ a, (k0_off30 v153 k0_t10) a + S128x256.size a ≤ S4096x256.size a) ∧
  (∀ k0_t10 : Fin (k0_t10_loop v153).trips, ∀ a, (k0_off31 v140 v153 k0_t10) a + S1x128x6144.size a ≤ S8x128x6144.size a) ∧
  (∀ k0_t10 : Fin (k0_t10_loop v153).trips, 128 ∣ (k0_mult18 v153 k0_t10).toNat) ∧
  (∀ k0_t10 : Fin (k0_t10_loop v153).trips, ∀ a, (k0_off32 v140 v153 k0_t10) a + S1.size a ≤ S8.size a) ∧
  (∀ k0_t10 : Fin (k0_t10_loop v153).trips, ∀ a, (k0_off33 v153 k0_t10) a + S1x128x6144.size a ≤ S5x4096x6144.size a) ∧
  (∀ k0_t10 : Fin (k0_t10_loop v153).trips, ∀ a, (k0_off34 v140 v153 k0_t10) a + S1x128x6144.size a ≤ S8x128x6144.size a) ∧
  ((k0_t11_loop v153).OK) ∧
  (∀ k0_t11 : Fin (k0_t11_loop v153).trips, ∀ (k0_h9 : k0_cond9 v140 v153 k0_t11 = 1#1), 128 ∣ (k0_mult19 v153 k0_t11).toNat) ∧
  (∀ k0_t11 : Fin (k0_t11_loop v153).trips, ∀ (k0_h9 : k0_cond9 v140 v153 k0_t11 = 1#1), ∀ a, (k0_off35 v140 v153 k0_t11) a + S1.size a ≤ S8.size a) ∧
  (∀ k0_t11 : Fin (k0_t11_loop v153).trips, ∀ (k0_h9 : k0_cond9 v140 v153 k0_t11 = 1#1), ∀ a, (k0_off36 v153 k0_t11) a + S1x128x6144.size a ≤ S5x4096x6144.size a) ∧
  (∀ k0_t11 : Fin (k0_t11_loop v153).trips, ∀ (k0_h9 : k0_cond9 v140 v153 k0_t11 = 1#1), ∀ a, (k0_off37 v140 v153 k0_t11) a + S1x128x6144.size a ≤ S8x128x6144.size a) ∧
  (∀ k0_t11 : Fin (k0_t11_loop v153).trips, 128 ∣ (k0_mult20 v153 k0_t11).toNat) ∧
  (∀ k0_t11 : Fin (k0_t11_loop v153).trips, ∀ a, (k0_off38 v153 k0_t11) a + S128x256.size a ≤ S4096x256.size a) ∧
  (∀ k0_t11 : Fin (k0_t11_loop v153).trips, ∀ a, (k0_off39 v140 v153 k0_t11) a + S1x128x6144.size a ≤ S8x128x6144.size a) ∧
  (∀ k0_t11 : Fin (k0_t11_loop v153).trips, 128 ∣ (k0_mult21 v153 k0_t11).toNat) ∧
  (∀ k0_t11 : Fin (k0_t11_loop v153).trips, ∀ a, (k0_off40 v140 v153 k0_t11) a + S1.size a ≤ S8.size a) ∧
  (∀ k0_t11 : Fin (k0_t11_loop v153).trips, ∀ a, (k0_off41 v153 k0_t11) a + S1x128x6144.size a ≤ S5x4096x6144.size a) ∧
  (∀ k0_t11 : Fin (k0_t11_loop v153).trips, ∀ a, (k0_off42 v140 v153 k0_t11) a + S1x128x6144.size a ≤ S8x128x6144.size a)
theorem k0_t10_ok : ∀ (v140 : BitVec 32) (v153 : BitVec 32) (k0_hw2 : k0_chk2 v140 v153), (k0_t10_loop v153).OK := fun v140 v153 k0_hw2 => k0_hw2.1
theorem k0_mult16_dvd : ∀ (v140 : BitVec 32) (v153 : BitVec 32) (k0_hw2 : k0_chk2 v140 v153) (k0_t10 : Fin (k0_t10_loop v153).trips), ∀ (k0_h8 : k0_cond8 v140 v153 k0_t10 = 1#1), 128 ∣ (k0_mult16 v153 k0_t10).toNat := fun v140 v153 k0_hw2 k0_t10 k0_h8 => k0_hw2.2.1 k0_t10 k0_h8
theorem k0_off27_inb : ∀ (v140 : BitVec 32) (v153 : BitVec 32) (k0_hw2 : k0_chk2 v140 v153) (k0_t10 : Fin (k0_t10_loop v153).trips), ∀ (k0_h8 : k0_cond8 v140 v153 k0_t10 = 1#1), ∀ a, (k0_off27 v140 v153 k0_t10) a + S1.size a ≤ S8.size a := fun v140 v153 k0_hw2 k0_t10 k0_h8 => k0_hw2.2.2.1 k0_t10 k0_h8
theorem k0_off28_inb : ∀ (v140 : BitVec 32) (v153 : BitVec 32) (k0_hw2 : k0_chk2 v140 v153) (k0_t10 : Fin (k0_t10_loop v153).trips), ∀ (k0_h8 : k0_cond8 v140 v153 k0_t10 = 1#1), ∀ a, (k0_off28 v153 k0_t10) a + S1x128x6144.size a ≤ S5x4096x6144.size a := fun v140 v153 k0_hw2 k0_t10 k0_h8 => k0_hw2.2.2.2.1 k0_t10 k0_h8
theorem k0_off29_inb : ∀ (v140 : BitVec 32) (v153 : BitVec 32) (k0_hw2 : k0_chk2 v140 v153) (k0_t10 : Fin (k0_t10_loop v153).trips), ∀ (k0_h8 : k0_cond8 v140 v153 k0_t10 = 1#1), ∀ a, (k0_off29 v140 v153 k0_t10) a + S1x128x6144.size a ≤ S8x128x6144.size a := fun v140 v153 k0_hw2 k0_t10 k0_h8 => k0_hw2.2.2.2.2.1 k0_t10 k0_h8
theorem k0_mult17_dvd : ∀ (v140 : BitVec 32) (v153 : BitVec 32) (k0_hw2 : k0_chk2 v140 v153) (k0_t10 : Fin (k0_t10_loop v153).trips), 128 ∣ (k0_mult17 v153 k0_t10).toNat := fun v140 v153 k0_hw2 k0_t10 => k0_hw2.2.2.2.2.2.1 k0_t10
theorem k0_off30_inb : ∀ (v140 : BitVec 32) (v153 : BitVec 32) (k0_hw2 : k0_chk2 v140 v153) (k0_t10 : Fin (k0_t10_loop v153).trips), ∀ a, (k0_off30 v153 k0_t10) a + S128x256.size a ≤ S4096x256.size a := fun v140 v153 k0_hw2 k0_t10 => k0_hw2.2.2.2.2.2.2.1 k0_t10
theorem k0_off31_inb : ∀ (v140 : BitVec 32) (v153 : BitVec 32) (k0_hw2 : k0_chk2 v140 v153) (k0_t10 : Fin (k0_t10_loop v153).trips), ∀ a, (k0_off31 v140 v153 k0_t10) a + S1x128x6144.size a ≤ S8x128x6144.size a := fun v140 v153 k0_hw2 k0_t10 => k0_hw2.2.2.2.2.2.2.2.1 k0_t10
theorem k0_mult18_dvd : ∀ (v140 : BitVec 32) (v153 : BitVec 32) (k0_hw2 : k0_chk2 v140 v153) (k0_t10 : Fin (k0_t10_loop v153).trips), 128 ∣ (k0_mult18 v153 k0_t10).toNat := fun v140 v153 k0_hw2 k0_t10 => k0_hw2.2.2.2.2.2.2.2.2.1 k0_t10
theorem k0_off32_inb : ∀ (v140 : BitVec 32) (v153 : BitVec 32) (k0_hw2 : k0_chk2 v140 v153) (k0_t10 : Fin (k0_t10_loop v153).trips), ∀ a, (k0_off32 v140 v153 k0_t10) a + S1.size a ≤ S8.size a := fun v140 v153 k0_hw2 k0_t10 => k0_hw2.2.2.2.2.2.2.2.2.2.1 k0_t10
theorem k0_off33_inb : ∀ (v140 : BitVec 32) (v153 : BitVec 32) (k0_hw2 : k0_chk2 v140 v153) (k0_t10 : Fin (k0_t10_loop v153).trips), ∀ a, (k0_off33 v153 k0_t10) a + S1x128x6144.size a ≤ S5x4096x6144.size a := fun v140 v153 k0_hw2 k0_t10 => k0_hw2.2.2.2.2.2.2.2.2.2.2.1 k0_t10
theorem k0_off34_inb : ∀ (v140 : BitVec 32) (v153 : BitVec 32) (k0_hw2 : k0_chk2 v140 v153) (k0_t10 : Fin (k0_t10_loop v153).trips), ∀ a, (k0_off34 v140 v153 k0_t10) a + S1x128x6144.size a ≤ S8x128x6144.size a := fun v140 v153 k0_hw2 k0_t10 => k0_hw2.2.2.2.2.2.2.2.2.2.2.2.1 k0_t10
theorem k0_t11_ok : ∀ (v140 : BitVec 32) (v153 : BitVec 32) (k0_hw2 : k0_chk2 v140 v153), (k0_t11_loop v153).OK := fun v140 v153 k0_hw2 => k0_hw2.2.2.2.2.2.2.2.2.2.2.2.2.1
theorem k0_mult19_dvd : ∀ (v140 : BitVec 32) (v153 : BitVec 32) (k0_hw2 : k0_chk2 v140 v153) (k0_t11 : Fin (k0_t11_loop v153).trips), ∀ (k0_h9 : k0_cond9 v140 v153 k0_t11 = 1#1), 128 ∣ (k0_mult19 v153 k0_t11).toNat := fun v140 v153 k0_hw2 k0_t11 k0_h9 => k0_hw2.2.2.2.2.2.2.2.2.2.2.2.2.2.1 k0_t11 k0_h9
theorem k0_off35_inb : ∀ (v140 : BitVec 32) (v153 : BitVec 32) (k0_hw2 : k0_chk2 v140 v153) (k0_t11 : Fin (k0_t11_loop v153).trips), ∀ (k0_h9 : k0_cond9 v140 v153 k0_t11 = 1#1), ∀ a, (k0_off35 v140 v153 k0_t11) a + S1.size a ≤ S8.size a := fun v140 v153 k0_hw2 k0_t11 k0_h9 => k0_hw2.2.2.2.2.2.2.2.2.2.2.2.2.2.2.1 k0_t11 k0_h9
theorem k0_off36_inb : ∀ (v140 : BitVec 32) (v153 : BitVec 32) (k0_hw2 : k0_chk2 v140 v153) (k0_t11 : Fin (k0_t11_loop v153).trips), ∀ (k0_h9 : k0_cond9 v140 v153 k0_t11 = 1#1), ∀ a, (k0_off36 v153 k0_t11) a + S1x128x6144.size a ≤ S5x4096x6144.size a := fun v140 v153 k0_hw2 k0_t11 k0_h9 => k0_hw2.2.2.2.2.2.2.2.2.2.2.2.2.2.2.2.1 k0_t11 k0_h9
theorem k0_off37_inb : ∀ (v140 : BitVec 32) (v153 : BitVec 32) (k0_hw2 : k0_chk2 v140 v153) (k0_t11 : Fin (k0_t11_loop v153).trips), ∀ (k0_h9 : k0_cond9 v140 v153 k0_t11 = 1#1), ∀ a, (k0_off37 v140 v153 k0_t11) a + S1x128x6144.size a ≤ S8x128x6144.size a := fun v140 v153 k0_hw2 k0_t11 k0_h9 => k0_hw2.2.2.2.2.2.2.2.2.2.2.2.2.2.2.2.2.1 k0_t11 k0_h9
theorem k0_mult20_dvd : ∀ (v140 : BitVec 32) (v153 : BitVec 32) (k0_hw2 : k0_chk2 v140 v153) (k0_t11 : Fin (k0_t11_loop v153).trips), 128 ∣ (k0_mult20 v153 k0_t11).toNat := fun v140 v153 k0_hw2 k0_t11 => k0_hw2.2.2.2.2.2.2.2.2.2.2.2.2.2.2.2.2.2.1 k0_t11
theorem k0_off38_inb : ∀ (v140 : BitVec 32) (v153 : BitVec 32) (k0_hw2 : k0_chk2 v140 v153) (k0_t11 : Fin (k0_t11_loop v153).trips), ∀ a, (k0_off38 v153 k0_t11) a + S128x256.size a ≤ S4096x256.size a := fun v140 v153 k0_hw2 k0_t11 => k0_hw2.2.2.2.2.2.2.2.2.2.2.2.2.2.2.2.2.2.2.1 k0_t11
theorem k0_off39_inb : ∀ (v140 : BitVec 32) (v153 : BitVec 32) (k0_hw2 : k0_chk2 v140 v153) (k0_t11 : Fin (k0_t11_loop v153).trips), ∀ a, (k0_off39 v140 v153 k0_t11) a + S1x128x6144.size a ≤ S8x128x6144.size a := fun v140 v153 k0_hw2 k0_t11 => k0_hw2.2.2.2.2.2.2.2.2.2.2.2.2.2.2.2.2.2.2.2.1 k0_t11
theorem k0_mult21_dvd : ∀ (v140 : BitVec 32) (v153 : BitVec 32) (k0_hw2 : k0_chk2 v140 v153) (k0_t11 : Fin (k0_t11_loop v153).trips), 128 ∣ (k0_mult21 v153 k0_t11).toNat := fun v140 v153 k0_hw2 k0_t11 => k0_hw2.2.2.2.2.2.2.2.2.2.2.2.2.2.2.2.2.2.2.2.2.1 k0_t11
theorem k0_off40_inb : ∀ (v140 : BitVec 32) (v153 : BitVec 32) (k0_hw2 : k0_chk2 v140 v153) (k0_t11 : Fin (k0_t11_loop v153).trips), ∀ a, (k0_off40 v140 v153 k0_t11) a + S1.size a ≤ S8.size a := fun v140 v153 k0_hw2 k0_t11 => k0_hw2.2.2.2.2.2.2.2.2.2.2.2.2.2.2.2.2.2.2.2.2.2.1 k0_t11
theorem k0_off41_inb : ∀ (v140 : BitVec 32) (v153 : BitVec 32) (k0_hw2 : k0_chk2 v140 v153) (k0_t11 : Fin (k0_t11_loop v153).trips), ∀ a, (k0_off41 v153 k0_t11) a + S1x128x6144.size a ≤ S5x4096x6144.size a := fun v140 v153 k0_hw2 k0_t11 => k0_hw2.2.2.2.2.2.2.2.2.2.2.2.2.2.2.2.2.2.2.2.2.2.2.1 k0_t11
theorem k0_off42_inb : ∀ (v140 : BitVec 32) (v153 : BitVec 32) (k0_hw2 : k0_chk2 v140 v153) (k0_t11 : Fin (k0_t11_loop v153).trips), ∀ a, (k0_off42 v140 v153 k0_t11) a + S1x128x6144.size a ≤ S8x128x6144.size a := fun v140 v153 k0_hw2 k0_t11 => k0_hw2.2.2.2.2.2.2.2.2.2.2.2.2.2.2.2.2.2.2.2.2.2.2.2 k0_t11

@[reducible] def k0_t12_loop (v166 : BitVec 32) : Scf.Loop 32 :=
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_90 : BitVec 32 := 1#32
  ⟨c0_i32_88, v177, c1_i32_90⟩

def k0_mult22 (v166 : BitVec 32) (k0_t12 : Fin (k0_t12_loop v166).trips) : BitVec 32 :=
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32_157 : BitVec 32 := 128#32
  let v259 : BitVec 32 := Scalar.muli v226 c128_i32_157
  v259
def k0_cond10 (v140 : BitVec 32) (v153 : BitVec 32) (v166 : BitVec 32) (k0_t12 : Fin (k0_t12_loop v166).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off43 (v140 : BitVec 32) (v153 : BitVec 32) (v166 : BitVec 32) (k0_t12 : Fin (k0_t12_loop v166).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  ![v228.toNat]
def k0_off44 (v166 : BitVec 32) (k0_t12 : Fin (k0_t12_loop v166).trips) : Fin 3 → Nat :=
  let c2_i32_158 : BitVec 32 := 2#32
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32_157 : BitVec 32 := 128#32
  let v259 : BitVec 32 := Scalar.muli v226 c128_i32_157
  let v260 : BitVec 32 := v259
  let c0_i32_159 : BitVec 32 := 0#32
  ![2, v260.toNat, 0]
def k0_off45 (v140 : BitVec 32) (v153 : BitVec 32) (v166 : BitVec 32) (k0_t12 : Fin (k0_t12_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult23 (v166 : BitVec 32) (k0_t12 : Fin (k0_t12_loop v166).trips) : BitVec 32 :=
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32 : BitVec 32 := 128#32
  let v232 : BitVec 32 := Scalar.muli v226 c128_i32
  v232
def k0_off46 (v166 : BitVec 32) (k0_t12 : Fin (k0_t12_loop v166).trips) : Fin 2 → Nat :=
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off47 (v140 : BitVec 32) (v153 : BitVec 32) (v166 : BitVec 32) (k0_t12 : Fin (k0_t12_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult24 (v166 : BitVec 32) (k0_t12 : Fin (k0_t12_loop v166).trips) : BitVec 32 :=
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32_152 : BitVec 32 := 128#32
  let v251 : BitVec 32 := Scalar.muli v226 c128_i32_152
  v251
def k0_off48 (v140 : BitVec 32) (v153 : BitVec 32) (v166 : BitVec 32) (k0_t12 : Fin (k0_t12_loop v166).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  ![v228.toNat]
def k0_off49 (v166 : BitVec 32) (k0_t12 : Fin (k0_t12_loop v166).trips) : Fin 3 → Nat :=
  let c2_i32_153 : BitVec 32 := 2#32
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let c128_i32_152 : BitVec 32 := 128#32
  let v251 : BitVec 32 := Scalar.muli v226 c128_i32_152
  let v252 : BitVec 32 := v251
  let c0_i32_154 : BitVec 32 := 0#32
  ![2, v252.toNat, 0]
def k0_off50 (v140 : BitVec 32) (v153 : BitVec 32) (v166 : BitVec 32) (k0_t12 : Fin (k0_t12_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c1_i32_90 : BitVec 32 := 1#32
  let arg18 : BitVec 32 := Scf.iv c0_i32_88 c1_i32_90 k0_t12
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]
@[reducible] def k0_t13_loop (v166 : BitVec 32) : Scf.Loop 32 :=
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let v174 : BitVec 32 := Scalar.addi c0_i32_88 v173
  let c1_i32_91 : BitVec 32 := 1#32
  ⟨v177, v174, c1_i32_91⟩
def k0_mult25 (v166 : BitVec 32) (k0_t13 : Fin (k0_t13_loop v166).trips) : BitVec 32 :=
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32_157 : BitVec 32 := 128#32
  let v259 : BitVec 32 := Scalar.muli v226 c128_i32_157
  v259
def k0_cond11 (v140 : BitVec 32) (v153 : BitVec 32) (v166 : BitVec 32) (k0_t13 : Fin (k0_t13_loop v166).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off51 (v140 : BitVec 32) (v153 : BitVec 32) (v166 : BitVec 32) (k0_t13 : Fin (k0_t13_loop v166).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  ![v228.toNat]
def k0_off52 (v166 : BitVec 32) (k0_t13 : Fin (k0_t13_loop v166).trips) : Fin 3 → Nat :=
  let c2_i32_158 : BitVec 32 := 2#32
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32_157 : BitVec 32 := 128#32
  let v259 : BitVec 32 := Scalar.muli v226 c128_i32_157
  let v260 : BitVec 32 := v259
  let c0_i32_159 : BitVec 32 := 0#32
  ![2, v260.toNat, 0]
def k0_off53 (v140 : BitVec 32) (v153 : BitVec 32) (v166 : BitVec 32) (k0_t13 : Fin (k0_t13_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult26 (v166 : BitVec 32) (k0_t13 : Fin (k0_t13_loop v166).trips) : BitVec 32 :=
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32 : BitVec 32 := 128#32
  let v232 : BitVec 32 := Scalar.muli v226 c128_i32
  v232
def k0_off54 (v166 : BitVec 32) (k0_t13 : Fin (k0_t13_loop v166).trips) : Fin 2 → Nat :=
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off55 (v140 : BitVec 32) (v153 : BitVec 32) (v166 : BitVec 32) (k0_t13 : Fin (k0_t13_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult27 (v166 : BitVec 32) (k0_t13 : Fin (k0_t13_loop v166).trips) : BitVec 32 :=
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32_152 : BitVec 32 := 128#32
  let v251 : BitVec 32 := Scalar.muli v226 c128_i32_152
  v251
def k0_off56 (v140 : BitVec 32) (v153 : BitVec 32) (v166 : BitVec 32) (k0_t13 : Fin (k0_t13_loop v166).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  ![v228.toNat]
def k0_off57 (v166 : BitVec 32) (k0_t13 : Fin (k0_t13_loop v166).trips) : Fin 3 → Nat :=
  let c2_i32_153 : BitVec 32 := 2#32
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let c128_i32_152 : BitVec 32 := 128#32
  let v251 : BitVec 32 := Scalar.muli v226 c128_i32_152
  let v252 : BitVec 32 := v251
  let c0_i32_154 : BitVec 32 := 0#32
  ![2, v252.toNat, 0]
def k0_off58 (v140 : BitVec 32) (v153 : BitVec 32) (v166 : BitVec 32) (k0_t13 : Fin (k0_t13_loop v166).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_87 : BitVec 32 := 0#32
  let c0_i32_88 : BitVec 32 := 0#32
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let c0_i32_82 : BitVec 32 := 0#32
  let v169 : BitVec 32 := Scalar.subi v168 c0_i32_82
  let c1_i32_83 : BitVec 32 := 1#32
  let c1_i32_84 : BitVec 32 := 1#32
  let v170 : BitVec 32 := Scalar.subi c1_i32_83 c1_i32_84
  let v171 : BitVec 32 := Scalar.addi v169 v170
  let c1_i32_85 : BitVec 32 := 1#32
  let v172 : BitVec 32 := Scalar.divsi v171 c1_i32_85
  let v173 : BitVec 32 := Scalar.subi v172 c0_i32_88
  let c1_i32_89 : BitVec 32 := 1#32
  let v175 : BitVec 32 := Scalar.divsi v173 c1_i32_89
  let v176 : BitVec 32 := Scalar.muli v175 c1_i32_89
  let v177 : BitVec 32 := Scalar.addi c0_i32_88 v176
  let c1_i32_91 : BitVec 32 := 1#32
  let arg18 : BitVec 32 := Scf.iv v177 c1_i32_91 k0_t13
  let c1_i32_86 : BitVec 32 := 1#32
  let v225 : BitVec 32 := Scalar.muli arg18 c1_i32_86
  let v226 : BitVec 32 := Scalar.addi c0_i32_87 v225
  let v227 : BitVec 32 := Scalar.addi v165 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]

def k0_chk3 (v140 : BitVec 32) (v153 : BitVec 32) (v166 : BitVec 32) : Prop :=
  ((k0_t12_loop v166).OK) ∧
  (∀ k0_t12 : Fin (k0_t12_loop v166).trips, ∀ (k0_h10 : k0_cond10 v140 v153 v166 k0_t12 = 1#1), 128 ∣ (k0_mult22 v166 k0_t12).toNat) ∧
  (∀ k0_t12 : Fin (k0_t12_loop v166).trips, ∀ (k0_h10 : k0_cond10 v140 v153 v166 k0_t12 = 1#1), ∀ a, (k0_off43 v140 v153 v166 k0_t12) a + S1.size a ≤ S8.size a) ∧
  (∀ k0_t12 : Fin (k0_t12_loop v166).trips, ∀ (k0_h10 : k0_cond10 v140 v153 v166 k0_t12 = 1#1), ∀ a, (k0_off44 v166 k0_t12) a + S1x128x6144.size a ≤ S5x4096x6144.size a) ∧
  (∀ k0_t12 : Fin (k0_t12_loop v166).trips, ∀ (k0_h10 : k0_cond10 v140 v153 v166 k0_t12 = 1#1), ∀ a, (k0_off45 v140 v153 v166 k0_t12) a + S1x128x6144.size a ≤ S8x128x6144.size a) ∧
  (∀ k0_t12 : Fin (k0_t12_loop v166).trips, 128 ∣ (k0_mult23 v166 k0_t12).toNat) ∧
  (∀ k0_t12 : Fin (k0_t12_loop v166).trips, ∀ a, (k0_off46 v166 k0_t12) a + S128x256.size a ≤ S4096x256.size a) ∧
  (∀ k0_t12 : Fin (k0_t12_loop v166).trips, ∀ a, (k0_off47 v140 v153 v166 k0_t12) a + S1x128x6144.size a ≤ S8x128x6144.size a) ∧
  (∀ k0_t12 : Fin (k0_t12_loop v166).trips, 128 ∣ (k0_mult24 v166 k0_t12).toNat) ∧
  (∀ k0_t12 : Fin (k0_t12_loop v166).trips, ∀ a, (k0_off48 v140 v153 v166 k0_t12) a + S1.size a ≤ S8.size a) ∧
  (∀ k0_t12 : Fin (k0_t12_loop v166).trips, ∀ a, (k0_off49 v166 k0_t12) a + S1x128x6144.size a ≤ S5x4096x6144.size a) ∧
  (∀ k0_t12 : Fin (k0_t12_loop v166).trips, ∀ a, (k0_off50 v140 v153 v166 k0_t12) a + S1x128x6144.size a ≤ S8x128x6144.size a) ∧
  ((k0_t13_loop v166).OK) ∧
  (∀ k0_t13 : Fin (k0_t13_loop v166).trips, ∀ (k0_h11 : k0_cond11 v140 v153 v166 k0_t13 = 1#1), 128 ∣ (k0_mult25 v166 k0_t13).toNat) ∧
  (∀ k0_t13 : Fin (k0_t13_loop v166).trips, ∀ (k0_h11 : k0_cond11 v140 v153 v166 k0_t13 = 1#1), ∀ a, (k0_off51 v140 v153 v166 k0_t13) a + S1.size a ≤ S8.size a) ∧
  (∀ k0_t13 : Fin (k0_t13_loop v166).trips, ∀ (k0_h11 : k0_cond11 v140 v153 v166 k0_t13 = 1#1), ∀ a, (k0_off52 v166 k0_t13) a + S1x128x6144.size a ≤ S5x4096x6144.size a) ∧
  (∀ k0_t13 : Fin (k0_t13_loop v166).trips, ∀ (k0_h11 : k0_cond11 v140 v153 v166 k0_t13 = 1#1), ∀ a, (k0_off53 v140 v153 v166 k0_t13) a + S1x128x6144.size a ≤ S8x128x6144.size a) ∧
  (∀ k0_t13 : Fin (k0_t13_loop v166).trips, 128 ∣ (k0_mult26 v166 k0_t13).toNat) ∧
  (∀ k0_t13 : Fin (k0_t13_loop v166).trips, ∀ a, (k0_off54 v166 k0_t13) a + S128x256.size a ≤ S4096x256.size a) ∧
  (∀ k0_t13 : Fin (k0_t13_loop v166).trips, ∀ a, (k0_off55 v140 v153 v166 k0_t13) a + S1x128x6144.size a ≤ S8x128x6144.size a) ∧
  (∀ k0_t13 : Fin (k0_t13_loop v166).trips, 128 ∣ (k0_mult27 v166 k0_t13).toNat) ∧
  (∀ k0_t13 : Fin (k0_t13_loop v166).trips, ∀ a, (k0_off56 v140 v153 v166 k0_t13) a + S1.size a ≤ S8.size a) ∧
  (∀ k0_t13 : Fin (k0_t13_loop v166).trips, ∀ a, (k0_off57 v166 k0_t13) a + S1x128x6144.size a ≤ S5x4096x6144.size a) ∧
  (∀ k0_t13 : Fin (k0_t13_loop v166).trips, ∀ a, (k0_off58 v140 v153 v166 k0_t13) a + S1x128x6144.size a ≤ S8x128x6144.size a)
theorem k0_t12_ok : ∀ (v140 : BitVec 32) (v153 : BitVec 32) (v166 : BitVec 32) (k0_hw3 : k0_chk3 v140 v153 v166), (k0_t12_loop v166).OK := fun v140 v153 v166 k0_hw3 => k0_hw3.1
theorem k0_mult22_dvd : ∀ (v140 : BitVec 32) (v153 : BitVec 32) (v166 : BitVec 32) (k0_hw3 : k0_chk3 v140 v153 v166) (k0_t12 : Fin (k0_t12_loop v166).trips), ∀ (k0_h10 : k0_cond10 v140 v153 v166 k0_t12 = 1#1), 128 ∣ (k0_mult22 v166 k0_t12).toNat := fun v140 v153 v166 k0_hw3 k0_t12 k0_h10 => k0_hw3.2.1 k0_t12 k0_h10
theorem k0_off43_inb : ∀ (v140 : BitVec 32) (v153 : BitVec 32) (v166 : BitVec 32) (k0_hw3 : k0_chk3 v140 v153 v166) (k0_t12 : Fin (k0_t12_loop v166).trips), ∀ (k0_h10 : k0_cond10 v140 v153 v166 k0_t12 = 1#1), ∀ a, (k0_off43 v140 v153 v166 k0_t12) a + S1.size a ≤ S8.size a := fun v140 v153 v166 k0_hw3 k0_t12 k0_h10 => k0_hw3.2.2.1 k0_t12 k0_h10
theorem k0_off44_inb : ∀ (v140 : BitVec 32) (v153 : BitVec 32) (v166 : BitVec 32) (k0_hw3 : k0_chk3 v140 v153 v166) (k0_t12 : Fin (k0_t12_loop v166).trips), ∀ (k0_h10 : k0_cond10 v140 v153 v166 k0_t12 = 1#1), ∀ a, (k0_off44 v166 k0_t12) a + S1x128x6144.size a ≤ S5x4096x6144.size a := fun v140 v153 v166 k0_hw3 k0_t12 k0_h10 => k0_hw3.2.2.2.1 k0_t12 k0_h10
theorem k0_off45_inb : ∀ (v140 : BitVec 32) (v153 : BitVec 32) (v166 : BitVec 32) (k0_hw3 : k0_chk3 v140 v153 v166) (k0_t12 : Fin (k0_t12_loop v166).trips), ∀ (k0_h10 : k0_cond10 v140 v153 v166 k0_t12 = 1#1), ∀ a, (k0_off45 v140 v153 v166 k0_t12) a + S1x128x6144.size a ≤ S8x128x6144.size a := fun v140 v153 v166 k0_hw3 k0_t12 k0_h10 => k0_hw3.2.2.2.2.1 k0_t12 k0_h10
theorem k0_mult23_dvd : ∀ (v140 : BitVec 32) (v153 : BitVec 32) (v166 : BitVec 32) (k0_hw3 : k0_chk3 v140 v153 v166) (k0_t12 : Fin (k0_t12_loop v166).trips), 128 ∣ (k0_mult23 v166 k0_t12).toNat := fun v140 v153 v166 k0_hw3 k0_t12 => k0_hw3.2.2.2.2.2.1 k0_t12
theorem k0_off46_inb : ∀ (v140 : BitVec 32) (v153 : BitVec 32) (v166 : BitVec 32) (k0_hw3 : k0_chk3 v140 v153 v166) (k0_t12 : Fin (k0_t12_loop v166).trips), ∀ a, (k0_off46 v166 k0_t12) a + S128x256.size a ≤ S4096x256.size a := fun v140 v153 v166 k0_hw3 k0_t12 => k0_hw3.2.2.2.2.2.2.1 k0_t12
theorem k0_off47_inb : ∀ (v140 : BitVec 32) (v153 : BitVec 32) (v166 : BitVec 32) (k0_hw3 : k0_chk3 v140 v153 v166) (k0_t12 : Fin (k0_t12_loop v166).trips), ∀ a, (k0_off47 v140 v153 v166 k0_t12) a + S1x128x6144.size a ≤ S8x128x6144.size a := fun v140 v153 v166 k0_hw3 k0_t12 => k0_hw3.2.2.2.2.2.2.2.1 k0_t12
theorem k0_mult24_dvd : ∀ (v140 : BitVec 32) (v153 : BitVec 32) (v166 : BitVec 32) (k0_hw3 : k0_chk3 v140 v153 v166) (k0_t12 : Fin (k0_t12_loop v166).trips), 128 ∣ (k0_mult24 v166 k0_t12).toNat := fun v140 v153 v166 k0_hw3 k0_t12 => k0_hw3.2.2.2.2.2.2.2.2.1 k0_t12
theorem k0_off48_inb : ∀ (v140 : BitVec 32) (v153 : BitVec 32) (v166 : BitVec 32) (k0_hw3 : k0_chk3 v140 v153 v166) (k0_t12 : Fin (k0_t12_loop v166).trips), ∀ a, (k0_off48 v140 v153 v166 k0_t12) a + S1.size a ≤ S8.size a := fun v140 v153 v166 k0_hw3 k0_t12 => k0_hw3.2.2.2.2.2.2.2.2.2.1 k0_t12
theorem k0_off49_inb : ∀ (v140 : BitVec 32) (v153 : BitVec 32) (v166 : BitVec 32) (k0_hw3 : k0_chk3 v140 v153 v166) (k0_t12 : Fin (k0_t12_loop v166).trips), ∀ a, (k0_off49 v166 k0_t12) a + S1x128x6144.size a ≤ S5x4096x6144.size a := fun v140 v153 v166 k0_hw3 k0_t12 => k0_hw3.2.2.2.2.2.2.2.2.2.2.1 k0_t12
theorem k0_off50_inb : ∀ (v140 : BitVec 32) (v153 : BitVec 32) (v166 : BitVec 32) (k0_hw3 : k0_chk3 v140 v153 v166) (k0_t12 : Fin (k0_t12_loop v166).trips), ∀ a, (k0_off50 v140 v153 v166 k0_t12) a + S1x128x6144.size a ≤ S8x128x6144.size a := fun v140 v153 v166 k0_hw3 k0_t12 => k0_hw3.2.2.2.2.2.2.2.2.2.2.2.1 k0_t12
theorem k0_t13_ok : ∀ (v140 : BitVec 32) (v153 : BitVec 32) (v166 : BitVec 32) (k0_hw3 : k0_chk3 v140 v153 v166), (k0_t13_loop v166).OK := fun v140 v153 v166 k0_hw3 => k0_hw3.2.2.2.2.2.2.2.2.2.2.2.2.1
theorem k0_mult25_dvd : ∀ (v140 : BitVec 32) (v153 : BitVec 32) (v166 : BitVec 32) (k0_hw3 : k0_chk3 v140 v153 v166) (k0_t13 : Fin (k0_t13_loop v166).trips), ∀ (k0_h11 : k0_cond11 v140 v153 v166 k0_t13 = 1#1), 128 ∣ (k0_mult25 v166 k0_t13).toNat := fun v140 v153 v166 k0_hw3 k0_t13 k0_h11 => k0_hw3.2.2.2.2.2.2.2.2.2.2.2.2.2.1 k0_t13 k0_h11
theorem k0_off51_inb : ∀ (v140 : BitVec 32) (v153 : BitVec 32) (v166 : BitVec 32) (k0_hw3 : k0_chk3 v140 v153 v166) (k0_t13 : Fin (k0_t13_loop v166).trips), ∀ (k0_h11 : k0_cond11 v140 v153 v166 k0_t13 = 1#1), ∀ a, (k0_off51 v140 v153 v166 k0_t13) a + S1.size a ≤ S8.size a := fun v140 v153 v166 k0_hw3 k0_t13 k0_h11 => k0_hw3.2.2.2.2.2.2.2.2.2.2.2.2.2.2.1 k0_t13 k0_h11
theorem k0_off52_inb : ∀ (v140 : BitVec 32) (v153 : BitVec 32) (v166 : BitVec 32) (k0_hw3 : k0_chk3 v140 v153 v166) (k0_t13 : Fin (k0_t13_loop v166).trips), ∀ (k0_h11 : k0_cond11 v140 v153 v166 k0_t13 = 1#1), ∀ a, (k0_off52 v166 k0_t13) a + S1x128x6144.size a ≤ S5x4096x6144.size a := fun v140 v153 v166 k0_hw3 k0_t13 k0_h11 => k0_hw3.2.2.2.2.2.2.2.2.2.2.2.2.2.2.2.1 k0_t13 k0_h11
theorem k0_off53_inb : ∀ (v140 : BitVec 32) (v153 : BitVec 32) (v166 : BitVec 32) (k0_hw3 : k0_chk3 v140 v153 v166) (k0_t13 : Fin (k0_t13_loop v166).trips), ∀ (k0_h11 : k0_cond11 v140 v153 v166 k0_t13 = 1#1), ∀ a, (k0_off53 v140 v153 v166 k0_t13) a + S1x128x6144.size a ≤ S8x128x6144.size a := fun v140 v153 v166 k0_hw3 k0_t13 k0_h11 => k0_hw3.2.2.2.2.2.2.2.2.2.2.2.2.2.2.2.2.1 k0_t13 k0_h11
theorem k0_mult26_dvd : ∀ (v140 : BitVec 32) (v153 : BitVec 32) (v166 : BitVec 32) (k0_hw3 : k0_chk3 v140 v153 v166) (k0_t13 : Fin (k0_t13_loop v166).trips), 128 ∣ (k0_mult26 v166 k0_t13).toNat := fun v140 v153 v166 k0_hw3 k0_t13 => k0_hw3.2.2.2.2.2.2.2.2.2.2.2.2.2.2.2.2.2.1 k0_t13
theorem k0_off54_inb : ∀ (v140 : BitVec 32) (v153 : BitVec 32) (v166 : BitVec 32) (k0_hw3 : k0_chk3 v140 v153 v166) (k0_t13 : Fin (k0_t13_loop v166).trips), ∀ a, (k0_off54 v166 k0_t13) a + S128x256.size a ≤ S4096x256.size a := fun v140 v153 v166 k0_hw3 k0_t13 => k0_hw3.2.2.2.2.2.2.2.2.2.2.2.2.2.2.2.2.2.2.1 k0_t13
theorem k0_off55_inb : ∀ (v140 : BitVec 32) (v153 : BitVec 32) (v166 : BitVec 32) (k0_hw3 : k0_chk3 v140 v153 v166) (k0_t13 : Fin (k0_t13_loop v166).trips), ∀ a, (k0_off55 v140 v153 v166 k0_t13) a + S1x128x6144.size a ≤ S8x128x6144.size a := fun v140 v153 v166 k0_hw3 k0_t13 => k0_hw3.2.2.2.2.2.2.2.2.2.2.2.2.2.2.2.2.2.2.2.1 k0_t13
theorem k0_mult27_dvd : ∀ (v140 : BitVec 32) (v153 : BitVec 32) (v166 : BitVec 32) (k0_hw3 : k0_chk3 v140 v153 v166) (k0_t13 : Fin (k0_t13_loop v166).trips), 128 ∣ (k0_mult27 v166 k0_t13).toNat := fun v140 v153 v166 k0_hw3 k0_t13 => k0_hw3.2.2.2.2.2.2.2.2.2.2.2.2.2.2.2.2.2.2.2.2.1 k0_t13
theorem k0_off56_inb : ∀ (v140 : BitVec 32) (v153 : BitVec 32) (v166 : BitVec 32) (k0_hw3 : k0_chk3 v140 v153 v166) (k0_t13 : Fin (k0_t13_loop v166).trips), ∀ a, (k0_off56 v140 v153 v166 k0_t13) a + S1.size a ≤ S8.size a := fun v140 v153 v166 k0_hw3 k0_t13 => k0_hw3.2.2.2.2.2.2.2.2.2.2.2.2.2.2.2.2.2.2.2.2.2.1 k0_t13
theorem k0_off57_inb : ∀ (v140 : BitVec 32) (v153 : BitVec 32) (v166 : BitVec 32) (k0_hw3 : k0_chk3 v140 v153 v166) (k0_t13 : Fin (k0_t13_loop v166).trips), ∀ a, (k0_off57 v166 k0_t13) a + S1x128x6144.size a ≤ S5x4096x6144.size a := fun v140 v153 v166 k0_hw3 k0_t13 => k0_hw3.2.2.2.2.2.2.2.2.2.2.2.2.2.2.2.2.2.2.2.2.2.2.1 k0_t13
theorem k0_off58_inb : ∀ (v140 : BitVec 32) (v153 : BitVec 32) (v166 : BitVec 32) (k0_hw3 : k0_chk3 v140 v153 v166) (k0_t13 : Fin (k0_t13_loop v166).trips), ∀ a, (k0_off58 v140 v153 v166 k0_t13) a + S1x128x6144.size a ≤ S8x128x6144.size a := fun v140 v153 v166 k0_hw3 k0_t13 => k0_hw3.2.2.2.2.2.2.2.2.2.2.2.2.2.2.2.2.2.2.2.2.2.2.2 k0_t13

@[reducible] def k0_t14_loop (v179 : BitVec 32) : Scf.Loop 32 :=
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_104 : BitVec 32 := 1#32
  ⟨c0_i32_102, v190, c1_i32_104⟩

def k0_mult28 (v179 : BitVec 32) (k0_t14 : Fin (k0_t14_loop v179).trips) : BitVec 32 :=
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32_157 : BitVec 32 := 128#32
  let v259 : BitVec 32 := Scalar.muli v226 c128_i32_157
  v259
def k0_cond12 (v140 : BitVec 32) (v153 : BitVec 32) (v166 : BitVec 32) (v179 : BitVec 32) (k0_t14 : Fin (k0_t14_loop v179).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off59 (v140 : BitVec 32) (v153 : BitVec 32) (v166 : BitVec 32) (v179 : BitVec 32) (k0_t14 : Fin (k0_t14_loop v179).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  ![v228.toNat]
def k0_off60 (v179 : BitVec 32) (k0_t14 : Fin (k0_t14_loop v179).trips) : Fin 3 → Nat :=
  let c3_i32_158 : BitVec 32 := 3#32
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32_157 : BitVec 32 := 128#32
  let v259 : BitVec 32 := Scalar.muli v226 c128_i32_157
  let v260 : BitVec 32 := v259
  let c0_i32_159 : BitVec 32 := 0#32
  ![3, v260.toNat, 0]
def k0_off61 (v140 : BitVec 32) (v153 : BitVec 32) (v166 : BitVec 32) (v179 : BitVec 32) (k0_t14 : Fin (k0_t14_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult29 (v179 : BitVec 32) (k0_t14 : Fin (k0_t14_loop v179).trips) : BitVec 32 :=
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32 : BitVec 32 := 128#32
  let v232 : BitVec 32 := Scalar.muli v226 c128_i32
  v232
def k0_off62 (v179 : BitVec 32) (k0_t14 : Fin (k0_t14_loop v179).trips) : Fin 2 → Nat :=
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off63 (v140 : BitVec 32) (v153 : BitVec 32) (v166 : BitVec 32) (v179 : BitVec 32) (k0_t14 : Fin (k0_t14_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult30 (v179 : BitVec 32) (k0_t14 : Fin (k0_t14_loop v179).trips) : BitVec 32 :=
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32_152 : BitVec 32 := 128#32
  let v251 : BitVec 32 := Scalar.muli v226 c128_i32_152
  v251
def k0_off64 (v140 : BitVec 32) (v153 : BitVec 32) (v166 : BitVec 32) (v179 : BitVec 32) (k0_t14 : Fin (k0_t14_loop v179).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  ![v228.toNat]
def k0_off65 (v179 : BitVec 32) (k0_t14 : Fin (k0_t14_loop v179).trips) : Fin 3 → Nat :=
  let c3_i32_153 : BitVec 32 := 3#32
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let c128_i32_152 : BitVec 32 := 128#32
  let v251 : BitVec 32 := Scalar.muli v226 c128_i32_152
  let v252 : BitVec 32 := v251
  let c0_i32_154 : BitVec 32 := 0#32
  ![3, v252.toNat, 0]
def k0_off66 (v140 : BitVec 32) (v153 : BitVec 32) (v166 : BitVec 32) (v179 : BitVec 32) (k0_t14 : Fin (k0_t14_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c1_i32_104 : BitVec 32 := 1#32
  let arg18 : BitVec 32 := Scf.iv c0_i32_102 c1_i32_104 k0_t14
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]
@[reducible] def k0_t15_loop (v179 : BitVec 32) : Scf.Loop 32 :=
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let v187 : BitVec 32 := Scalar.addi c0_i32_102 v186
  let c1_i32_105 : BitVec 32 := 1#32
  ⟨v190, v187, c1_i32_105⟩
def k0_mult31 (v179 : BitVec 32) (k0_t15 : Fin (k0_t15_loop v179).trips) : BitVec 32 :=
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32_157 : BitVec 32 := 128#32
  let v259 : BitVec 32 := Scalar.muli v226 c128_i32_157
  v259
def k0_cond13 (v140 : BitVec 32) (v153 : BitVec 32) (v166 : BitVec 32) (v179 : BitVec 32) (k0_t15 : Fin (k0_t15_loop v179).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off67 (v140 : BitVec 32) (v153 : BitVec 32) (v166 : BitVec 32) (v179 : BitVec 32) (k0_t15 : Fin (k0_t15_loop v179).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  ![v228.toNat]
def k0_off68 (v179 : BitVec 32) (k0_t15 : Fin (k0_t15_loop v179).trips) : Fin 3 → Nat :=
  let c3_i32_158 : BitVec 32 := 3#32
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32_157 : BitVec 32 := 128#32
  let v259 : BitVec 32 := Scalar.muli v226 c128_i32_157
  let v260 : BitVec 32 := v259
  let c0_i32_159 : BitVec 32 := 0#32
  ![3, v260.toNat, 0]
def k0_off69 (v140 : BitVec 32) (v153 : BitVec 32) (v166 : BitVec 32) (v179 : BitVec 32) (k0_t15 : Fin (k0_t15_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let c0_i32_160 : BitVec 32 := 0#32
  let c0_i32_161 : BitVec 32 := 0#32
  ![v228.toNat, 0, 0]
def k0_mult32 (v179 : BitVec 32) (k0_t15 : Fin (k0_t15_loop v179).trips) : BitVec 32 :=
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32 : BitVec 32 := 128#32
  let v232 : BitVec 32 := Scalar.muli v226 c128_i32
  v232
def k0_off70 (v179 : BitVec 32) (k0_t15 : Fin (k0_t15_loop v179).trips) : Fin 2 → Nat :=
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off71 (v140 : BitVec 32) (v153 : BitVec 32) (v166 : BitVec 32) (v179 : BitVec 32) (k0_t15 : Fin (k0_t15_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult33 (v179 : BitVec 32) (k0_t15 : Fin (k0_t15_loop v179).trips) : BitVec 32 :=
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32_152 : BitVec 32 := 128#32
  let v251 : BitVec 32 := Scalar.muli v226 c128_i32_152
  v251
def k0_off72 (v140 : BitVec 32) (v153 : BitVec 32) (v166 : BitVec 32) (v179 : BitVec 32) (k0_t15 : Fin (k0_t15_loop v179).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  ![v228.toNat]
def k0_off73 (v179 : BitVec 32) (k0_t15 : Fin (k0_t15_loop v179).trips) : Fin 3 → Nat :=
  let c3_i32_153 : BitVec 32 := 3#32
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let c128_i32_152 : BitVec 32 := 128#32
  let v251 : BitVec 32 := Scalar.muli v226 c128_i32_152
  let v252 : BitVec 32 := v251
  let c0_i32_154 : BitVec 32 := 0#32
  ![3, v252.toNat, 0]
def k0_off74 (v140 : BitVec 32) (v153 : BitVec 32) (v166 : BitVec 32) (v179 : BitVec 32) (k0_t15 : Fin (k0_t15_loop v179).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_101 : BitVec 32 := 0#32
  let c0_i32_102 : BitVec 32 := 0#32
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let c0_i32_96 : BitVec 32 := 0#32
  let v182 : BitVec 32 := Scalar.subi v181 c0_i32_96
  let c1_i32_97 : BitVec 32 := 1#32
  let c1_i32_98 : BitVec 32 := 1#32
  let v183 : BitVec 32 := Scalar.subi c1_i32_97 c1_i32_98
  let v184 : BitVec 32 := Scalar.addi v182 v183
  let c1_i32_99 : BitVec 32 := 1#32
  let v185 : BitVec 32 := Scalar.divsi v184 c1_i32_99
  let v186 : BitVec 32 := Scalar.subi v185 c0_i32_102
  let c1_i32_103 : BitVec 32 := 1#32
  let v188 : BitVec 32 := Scalar.divsi v186 c1_i32_103
  let v189 : BitVec 32 := Scalar.muli v188 c1_i32_103
  let v190 : BitVec 32 := Scalar.addi c0_i32_102 v189
  let c1_i32_105 : BitVec 32 := 1#32
  let arg18 : BitVec 32 := Scf.iv v190 c1_i32_105 k0_t15
  let c1_i32_100 : BitVec 32 := 1#32
  let v225 : BitVec 32 := Scalar.muli arg18 c1_i32_100
  let v226 : BitVec 32 := Scalar.addi c0_i32_101 v225
  let v227 : BitVec 32 := Scalar.addi v178 v226
  let c8_i32_141 : BitVec 32 := 8#32
  let v228 : BitVec 32 := Scalar.remsi v227 c8_i32_141
  let c0_i32_155 : BitVec 32 := 0#32
  let c0_i32_156 : BitVec 32 := 0#32
  ![v228.toNat, 0, 0]

def k0_chk4 (v140 : BitVec 32) (v153 : BitVec 32) (v166 : BitVec 32) (v179 : BitVec 32) : Prop :=
  ((k0_t14_loop v179).OK) ∧
  (∀ k0_t14 : Fin (k0_t14_loop v179).trips, ∀ (k0_h12 : k0_cond12 v140 v153 v166 v179 k0_t14 = 1#1), 128 ∣ (k0_mult28 v179 k0_t14).toNat) ∧
  (∀ k0_t14 : Fin (k0_t14_loop v179).trips, ∀ (k0_h12 : k0_cond12 v140 v153 v166 v179 k0_t14 = 1#1), ∀ a, (k0_off59 v140 v153 v166 v179 k0_t14) a + S1.size a ≤ S8.size a) ∧
  (∀ k0_t14 : Fin (k0_t14_loop v179).trips, ∀ (k0_h12 : k0_cond12 v140 v153 v166 v179 k0_t14 = 1#1), ∀ a, (k0_off60 v179 k0_t14) a + S1x128x6144.size a ≤ S5x4096x6144.size a) ∧
  (∀ k0_t14 : Fin (k0_t14_loop v179).trips, ∀ (k0_h12 : k0_cond12 v140 v153 v166 v179 k0_t14 = 1#1), ∀ a, (k0_off61 v140 v153 v166 v179 k0_t14) a + S1x128x6144.size a ≤ S8x128x6144.size a) ∧
  (∀ k0_t14 : Fin (k0_t14_loop v179).trips, 128 ∣ (k0_mult29 v179 k0_t14).toNat) ∧
  (∀ k0_t14 : Fin (k0_t14_loop v179).trips, ∀ a, (k0_off62 v179 k0_t14) a + S128x256.size a ≤ S4096x256.size a) ∧
  (∀ k0_t14 : Fin (k0_t14_loop v179).trips, ∀ a, (k0_off63 v140 v153 v166 v179 k0_t14) a + S1x128x6144.size a ≤ S8x128x6144.size a) ∧
  (∀ k0_t14 : Fin (k0_t14_loop v179).trips, 128 ∣ (k0_mult30 v179 k0_t14).toNat) ∧
  (∀ k0_t14 : Fin (k0_t14_loop v179).trips, ∀ a, (k0_off64 v140 v153 v166 v179 k0_t14) a + S1.size a ≤ S8.size a) ∧
  (∀ k0_t14 : Fin (k0_t14_loop v179).trips, ∀ a, (k0_off65 v179 k0_t14) a + S1x128x6144.size a ≤ S5x4096x6144.size a) ∧
  (∀ k0_t14 : Fin (k0_t14_loop v179).trips, ∀ a, (k0_off66 v140 v153 v166 v179 k0_t14) a + S1x128x6144.size a ≤ S8x128x6144.size a) ∧
  ((k0_t15_loop v179).OK) ∧
  (∀ k0_t15 : Fin (k0_t15_loop v179).trips, ∀ (k0_h13 : k0_cond13 v140 v153 v166 v179 k0_t15 = 1#1), 128 ∣ (k0_mult31 v179 k0_t15).toNat) ∧
  (∀ k0_t15 : Fin (k0_t15_loop v179).trips, ∀ (k0_h13 : k0_cond13 v140 v153 v166 v179 k0_t15 = 1#1), ∀ a, (k0_off67 v140 v153 v166 v179 k0_t15) a + S1.size a ≤ S8.size a) ∧
  (∀ k0_t15 : Fin (k0_t15_loop v179).trips, ∀ (k0_h13 : k0_cond13 v140 v153 v166 v179 k0_t15 = 1#1), ∀ a, (k0_off68 v179 k0_t15) a + S1x128x6144.size a ≤ S5x4096x6144.size a) ∧
  (∀ k0_t15 : Fin (k0_t15_loop v179).trips, ∀ (k0_h13 : k0_cond13 v140 v153 v166 v179 k0_t15 = 1#1), ∀ a, (k0_off69 v140 v153 v166 v179 k0_t15) a + S1x128x6144.size a ≤ S8x128x6144.size a) ∧
  (∀ k0_t15 : Fin (k0_t15_loop v179).trips, 128 ∣ (k0_mult32 v179 k0_t15).toNat) ∧
  (∀ k0_t15 : Fin (k0_t15_loop v179).trips, ∀ a, (k0_off70 v179 k0_t15) a + S128x256.size a ≤ S4096x256.size a) ∧
  (∀ k0_t15 : Fin (k0_t15_loop v179).trips, ∀ a, (k0_off71 v140 v153 v166 v179 k0_t15) a + S1x128x6144.size a ≤ S8x128x6144.size a) ∧
  (∀ k0_t15 : Fin (k0_t15_loop v179).trips, 128 ∣ (k0_mult33 v179 k0_t15).toNat) ∧
  (∀ k0_t15 : Fin (k0_t15_loop v179).trips, ∀ a, (k0_off72 v140 v153 v166 v179 k0_t15) a + S1.size a ≤ S8.size a) ∧
  (∀ k0_t15 : Fin (k0_t15_loop v179).trips, ∀ a, (k0_off73 v179 k0_t15) a + S1x128x6144.size a ≤ S5x4096x6144.size a) ∧
  (∀ k0_t15 : Fin (k0_t15_loop v179).trips, ∀ a, (k0_off74 v140 v153 v166 v179 k0_t15) a + S1x128x6144.size a ≤ S8x128x6144.size a)
theorem k0_t14_ok : ∀ (v140 : BitVec 32) (v153 : BitVec 32) (v166 : BitVec 32) (v179 : BitVec 32) (k0_hw4 : k0_chk4 v140 v153 v166 v179), (k0_t14_loop v179).OK := fun v140 v153 v166 v179 k0_hw4 => k0_hw4.1
theorem k0_mult28_dvd : ∀ (v140 : BitVec 32) (v153 : BitVec 32) (v166 : BitVec 32) (v179 : BitVec 32) (k0_hw4 : k0_chk4 v140 v153 v166 v179) (k0_t14 : Fin (k0_t14_loop v179).trips), ∀ (k0_h12 : k0_cond12 v140 v153 v166 v179 k0_t14 = 1#1), 128 ∣ (k0_mult28 v179 k0_t14).toNat := fun v140 v153 v166 v179 k0_hw4 k0_t14 k0_h12 => k0_hw4.2.1 k0_t14 k0_h12
theorem k0_off59_inb : ∀ (v140 : BitVec 32) (v153 : BitVec 32) (v166 : BitVec 32) (v179 : BitVec 32) (k0_hw4 : k0_chk4 v140 v153 v166 v179) (k0_t14 : Fin (k0_t14_loop v179).trips), ∀ (k0_h12 : k0_cond12 v140 v153 v166 v179 k0_t14 = 1#1), ∀ a, (k0_off59 v140 v153 v166 v179 k0_t14) a + S1.size a ≤ S8.size a := fun v140 v153 v166 v179 k0_hw4 k0_t14 k0_h12 => k0_hw4.2.2.1 k0_t14 k0_h12
theorem k0_off60_inb : ∀ (v140 : BitVec 32) (v153 : BitVec 32) (v166 : BitVec 32) (v179 : BitVec 32) (k0_hw4 : k0_chk4 v140 v153 v166 v179) (k0_t14 : Fin (k0_t14_loop v179).trips), ∀ (k0_h12 : k0_cond12 v140 v153 v166 v179 k0_t14 = 1#1), ∀ a, (k0_off60 v179 k0_t14) a + S1x128x6144.size a ≤ S5x4096x6144.size a := fun v140 v153 v166 v179 k0_hw4 k0_t14 k0_h12 => k0_hw4.2.2.2.1 k0_t14 k0_h12
theorem k0_off61_inb : ∀ (v140 : BitVec 32) (v153 : BitVec 32) (v166 : BitVec 32) (v179 : BitVec 32) (k0_hw4 : k0_chk4 v140 v153 v166 v179) (k0_t14 : Fin (k0_t14_loop v179).trips), ∀ (k0_h12 : k0_cond12 v140 v153 v166 v179 k0_t14 = 1#1), ∀ a, (k0_off61 v140 v153 v166 v179 k0_t14) a + S1x128x6144.size a ≤ S8x128x6144.size a := fun v140 v153 v166 v179 k0_hw4 k0_t14 k0_h12 => k0_hw4.2.2.2.2.1 k0_t14 k0_h12
theorem k0_mult29_dvd : ∀ (v140 : BitVec 32) (v153 : BitVec 32) (v166 : BitVec 32) (v179 : BitVec 32) (k0_hw4 : k0_chk4 v140 v153 v166 v179) (k0_t14 : Fin (k0_t14_loop v179).trips), 128 ∣ (k0_mult29 v179 k0_t14).toNat := fun v140 v153 v166 v179 k0_hw4 k0_t14 => k0_hw4.2.2.2.2.2.1 k0_t14
theorem k0_off62_inb : ∀ (v140 : BitVec 32) (v153 : BitVec 32) (v166 : BitVec 32) (v179 : BitVec 32) (k0_hw4 : k0_chk4 v140 v153 v166 v179) (k0_t14 : Fin (k0_t14_loop v179).trips), ∀ a, (k0_off62 v179 k0_t14) a + S128x256.size a ≤ S4096x256.size a := fun v140 v153 v166 v179 k0_hw4 k0_t14 => k0_hw4.2.2.2.2.2.2.1 k0_t14
theorem k0_off63_inb : ∀ (v140 : BitVec 32) (v153 : BitVec 32) (v166 : BitVec 32) (v179 : BitVec 32) (k0_hw4 : k0_chk4 v140 v153 v166 v179) (k0_t14 : Fin (k0_t14_loop v179).trips), ∀ a, (k0_off63 v140 v153 v166 v179 k0_t14) a + S1x128x6144.size a ≤ S8x128x6144.size a := fun v140 v153 v166 v179 k0_hw4 k0_t14 => k0_hw4.2.2.2.2.2.2.2.1 k0_t14
theorem k0_mult30_dvd : ∀ (v140 : BitVec 32) (v153 : BitVec 32) (v166 : BitVec 32) (v179 : BitVec 32) (k0_hw4 : k0_chk4 v140 v153 v166 v179) (k0_t14 : Fin (k0_t14_loop v179).trips), 128 ∣ (k0_mult30 v179 k0_t14).toNat := fun v140 v153 v166 v179 k0_hw4 k0_t14 => k0_hw4.2.2.2.2.2.2.2.2.1 k0_t14
theorem k0_off64_inb : ∀ (v140 : BitVec 32) (v153 : BitVec 32) (v166 : BitVec 32) (v179 : BitVec 32) (k0_hw4 : k0_chk4 v140 v153 v166 v179) (k0_t14 : Fin (k0_t14_loop v179).trips), ∀ a, (k0_off64 v140 v153 v166 v179 k0_t14) a + S1.size a ≤ S8.size a := fun v140 v153 v166 v179 k0_hw4 k0_t14 => k0_hw4.2.2.2.2.2.2.2.2.2.1 k0_t14
theorem k0_off65_inb : ∀ (v140 : BitVec 32) (v153 : BitVec 32) (v166 : BitVec 32) (v179 : BitVec 32) (k0_hw4 : k0_chk4 v140 v153 v166 v179) (k0_t14 : Fin (k0_t14_loop v179).trips), ∀ a, (k0_off65 v179 k0_t14) a + S1x128x6144.size a ≤ S5x4096x6144.size a := fun v140 v153 v166 v179 k0_hw4 k0_t14 => k0_hw4.2.2.2.2.2.2.2.2.2.2.1 k0_t14
theorem k0_off66_inb : ∀ (v140 : BitVec 32) (v153 : BitVec 32) (v166 : BitVec 32) (v179 : BitVec 32) (k0_hw4 : k0_chk4 v140 v153 v166 v179) (k0_t14 : Fin (k0_t14_loop v179).trips), ∀ a, (k0_off66 v140 v153 v166 v179 k0_t14) a + S1x128x6144.size a ≤ S8x128x6144.size a := fun v140 v153 v166 v179 k0_hw4 k0_t14 => k0_hw4.2.2.2.2.2.2.2.2.2.2.2.1 k0_t14
theorem k0_t15_ok : ∀ (v140 : BitVec 32) (v153 : BitVec 32) (v166 : BitVec 32) (v179 : BitVec 32) (k0_hw4 : k0_chk4 v140 v153 v166 v179), (k0_t15_loop v179).OK := fun v140 v153 v166 v179 k0_hw4 => k0_hw4.2.2.2.2.2.2.2.2.2.2.2.2.1
theorem k0_mult31_dvd : ∀ (v140 : BitVec 32) (v153 : BitVec 32) (v166 : BitVec 32) (v179 : BitVec 32) (k0_hw4 : k0_chk4 v140 v153 v166 v179) (k0_t15 : Fin (k0_t15_loop v179).trips), ∀ (k0_h13 : k0_cond13 v140 v153 v166 v179 k0_t15 = 1#1), 128 ∣ (k0_mult31 v179 k0_t15).toNat := fun v140 v153 v166 v179 k0_hw4 k0_t15 k0_h13 => k0_hw4.2.2.2.2.2.2.2.2.2.2.2.2.2.1 k0_t15 k0_h13
theorem k0_off67_inb : ∀ (v140 : BitVec 32) (v153 : BitVec 32) (v166 : BitVec 32) (v179 : BitVec 32) (k0_hw4 : k0_chk4 v140 v153 v166 v179) (k0_t15 : Fin (k0_t15_loop v179).trips), ∀ (k0_h13 : k0_cond13 v140 v153 v166 v179 k0_t15 = 1#1), ∀ a, (k0_off67 v140 v153 v166 v179 k0_t15) a + S1.size a ≤ S8.size a := fun v140 v153 v166 v179 k0_hw4 k0_t15 k0_h13 => k0_hw4.2.2.2.2.2.2.2.2.2.2.2.2.2.2.1 k0_t15 k0_h13
theorem k0_off68_inb : ∀ (v140 : BitVec 32) (v153 : BitVec 32) (v166 : BitVec 32) (v179 : BitVec 32) (k0_hw4 : k0_chk4 v140 v153 v166 v179) (k0_t15 : Fin (k0_t15_loop v179).trips), ∀ (k0_h13 : k0_cond13 v140 v153 v166 v179 k0_t15 = 1#1), ∀ a, (k0_off68 v179 k0_t15) a + S1x128x6144.size a ≤ S5x4096x6144.size a := fun v140 v153 v166 v179 k0_hw4 k0_t15 k0_h13 => k0_hw4.2.2.2.2.2.2.2.2.2.2.2.2.2.2.2.1 k0_t15 k0_h13
theorem k0_off69_inb : ∀ (v140 : BitVec 32) (v153 : BitVec 32) (v166 : BitVec 32) (v179 : BitVec 32) (k0_hw4 : k0_chk4 v140 v153 v166 v179) (k0_t15 : Fin (k0_t15_loop v179).trips), ∀ (k0_h13 : k0_cond13 v140 v153 v166 v179 k0_t15 = 1#1), ∀ a, (k0_off69 v140 v153 v166 v179 k0_t15) a + S1x128x6144.size a ≤ S8x128x6144.size a := fun v140 v153 v166 v179 k0_hw4 k0_t15 k0_h13 => k0_hw4.2.2.2.2.2.2.2.2.2.2.2.2.2.2.2.2.1 k0_t15 k0_h13
theorem k0_mult32_dvd : ∀ (v140 : BitVec 32) (v153 : BitVec 32) (v166 : BitVec 32) (v179 : BitVec 32) (k0_hw4 : k0_chk4 v140 v153 v166 v179) (k0_t15 : Fin (k0_t15_loop v179).trips), 128 ∣ (k0_mult32 v179 k0_t15).toNat := fun v140 v153 v166 v179 k0_hw4 k0_t15 => k0_hw4.2.2.2.2.2.2.2.2.2.2.2.2.2.2.2.2.2.1 k0_t15
theorem k0_off70_inb : ∀ (v140 : BitVec 32) (v153 : BitVec 32) (v166 : BitVec 32) (v179 : BitVec 32) (k0_hw4 : k0_chk4 v140 v153 v166 v179) (k0_t15 : Fin (k0_t15_loop v179).trips), ∀ a, (k0_off70 v179 k0_t15) a + S128x256.size a ≤ S4096x256.size a := fun v140 v153 v166 v179 k0_hw4 k0_t15 => k0_hw4.2.2.2.2.2.2.2.2.2.2.2.2.2.2.2.2.2.2.1 k0_t15
theorem k0_off71_inb : ∀ (v140 : BitVec 32) (v153 : BitVec 32) (v166 : BitVec 32) (v179 : BitVec 32) (k0_hw4 : k0_chk4 v140 v153 v166 v179) (k0_t15 : Fin (k0_t15_loop v179).trips), ∀ a, (k0_off71 v140 v153 v166 v179 k0_t15) a + S1x128x6144.size a ≤ S8x128x6144.size a := fun v140 v153 v166 v179 k0_hw4 k0_t15 => k0_hw4.2.2.2.2.2.2.2.2.2.2.2.2.2.2.2.2.2.2.2.1 k0_t15
theorem k0_mult33_dvd : ∀ (v140 : BitVec 32) (v153 : BitVec 32) (v166 : BitVec 32) (v179 : BitVec 32) (k0_hw4 : k0_chk4 v140 v153 v166 v179) (k0_t15 : Fin (k0_t15_loop v179).trips), 128 ∣ (k0_mult33 v179 k0_t15).toNat := fun v140 v153 v166 v179 k0_hw4 k0_t15 => k0_hw4.2.2.2.2.2.2.2.2.2.2.2.2.2.2.2.2.2.2.2.2.1 k0_t15
theorem k0_off72_inb : ∀ (v140 : BitVec 32) (v153 : BitVec 32) (v166 : BitVec 32) (v179 : BitVec 32) (k0_hw4 : k0_chk4 v140 v153 v166 v179) (k0_t15 : Fin (k0_t15_loop v179).trips), ∀ a, (k0_off72 v140 v153 v166 v179 k0_t15) a + S1.size a ≤ S8.size a := fun v140 v153 v166 v179 k0_hw4 k0_t15 => k0_hw4.2.2.2.2.2.2.2.2.2.2.2.2.2.2.2.2.2.2.2.2.2.1 k0_t15
theorem k0_off73_inb : ∀ (v140 : BitVec 32) (v153 : BitVec 32) (v166 : BitVec 32) (v179 : BitVec 32) (k0_hw4 : k0_chk4 v140 v153 v166 v179) (k0_t15 : Fin (k0_t15_loop v179).trips), ∀ a, (k0_off73 v179 k0_t15) a + S1x128x6144.size a ≤ S5x4096x6144.size a := fun v140 v153 v166 v179 k0_hw4 k0_t15 => k0_hw4.2.2.2.2.2.2.2.2.2.2.2.2.2.2.2.2.2.2.2.2.2.2.1 k0_t15
theorem k0_off74_inb : ∀ (v140 : BitVec 32) (v153 : BitVec 32) (v166 : BitVec 32) (v179 : BitVec 32) (k0_hw4 : k0_chk4 v140 v153 v166 v179) (k0_t15 : Fin (k0_t15_loop v179).trips), ∀ a, (k0_off74 v140 v153 v166 v179 k0_t15) a + S1x128x6144.size a ≤ S8x128x6144.size a := fun v140 v153 v166 v179 k0_hw4 k0_t15 => k0_hw4.2.2.2.2.2.2.2.2.2.2.2.2.2.2.2.2.2.2.2.2.2.2.2 k0_t15

@[reducible] def k0_t16_loop (v192 : BitVec 32) : Scf.Loop 32 :=
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_118 : BitVec 32 := 1#32
  ⟨c0_i32_116, v203, c1_i32_118⟩

def k0_mult34 (v192 : BitVec 32) (k0_t16 : Fin (k0_t16_loop v192).trips) : BitVec 32 :=
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32_156 : BitVec 32 := 128#32
  let v259 : BitVec 32 := Scalar.muli v226 c128_i32_156
  v259
def k0_cond14 (v140 : BitVec 32) (v153 : BitVec 32) (v166 : BitVec 32) (v179 : BitVec 32) (v192 : BitVec 32) (k0_t16 : Fin (k0_t16_loop v192).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off75 (v140 : BitVec 32) (v153 : BitVec 32) (v166 : BitVec 32) (v179 : BitVec 32) (v192 : BitVec 32) (k0_t16 : Fin (k0_t16_loop v192).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  ![v228.toNat]
def k0_off76 (v192 : BitVec 32) (k0_t16 : Fin (k0_t16_loop v192).trips) : Fin 3 → Nat :=
  let c4_i32_157 : BitVec 32 := 4#32
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32_156 : BitVec 32 := 128#32
  let v259 : BitVec 32 := Scalar.muli v226 c128_i32_156
  let v260 : BitVec 32 := v259
  let c0_i32_158 : BitVec 32 := 0#32
  ![4, v260.toNat, 0]
def k0_off77 (v140 : BitVec 32) (v153 : BitVec 32) (v166 : BitVec 32) (v179 : BitVec 32) (v192 : BitVec 32) (k0_t16 : Fin (k0_t16_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let c0_i32_159 : BitVec 32 := 0#32
  let c0_i32_160 : BitVec 32 := 0#32
  ![v228.toNat, 0, 0]
def k0_mult35 (v192 : BitVec 32) (k0_t16 : Fin (k0_t16_loop v192).trips) : BitVec 32 :=
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32 : BitVec 32 := 128#32
  let v232 : BitVec 32 := Scalar.muli v226 c128_i32
  v232
def k0_off78 (v192 : BitVec 32) (k0_t16 : Fin (k0_t16_loop v192).trips) : Fin 2 → Nat :=
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off79 (v140 : BitVec 32) (v153 : BitVec 32) (v166 : BitVec 32) (v179 : BitVec 32) (v192 : BitVec 32) (k0_t16 : Fin (k0_t16_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult36 (v192 : BitVec 32) (k0_t16 : Fin (k0_t16_loop v192).trips) : BitVec 32 :=
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32_152 : BitVec 32 := 128#32
  let v251 : BitVec 32 := Scalar.muli v226 c128_i32_152
  v251
def k0_off80 (v140 : BitVec 32) (v153 : BitVec 32) (v166 : BitVec 32) (v179 : BitVec 32) (v192 : BitVec 32) (k0_t16 : Fin (k0_t16_loop v192).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  ![v228.toNat]
def k0_off81 (v192 : BitVec 32) (k0_t16 : Fin (k0_t16_loop v192).trips) : Fin 3 → Nat :=
  let c4_i32 : BitVec 32 := 4#32
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let c128_i32_152 : BitVec 32 := 128#32
  let v251 : BitVec 32 := Scalar.muli v226 c128_i32_152
  let v252 : BitVec 32 := v251
  let c0_i32_153 : BitVec 32 := 0#32
  ![4, v252.toNat, 0]
def k0_off82 (v140 : BitVec 32) (v153 : BitVec 32) (v166 : BitVec 32) (v179 : BitVec 32) (v192 : BitVec 32) (k0_t16 : Fin (k0_t16_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c1_i32_118 : BitVec 32 := 1#32
  let arg18 : BitVec 32 := Scf.iv c0_i32_116 c1_i32_118 k0_t16
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let c0_i32_154 : BitVec 32 := 0#32
  let c0_i32_155 : BitVec 32 := 0#32
  ![v228.toNat, 0, 0]
@[reducible] def k0_t17_loop (v192 : BitVec 32) : Scf.Loop 32 :=
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let v200 : BitVec 32 := Scalar.addi c0_i32_116 v199
  let c1_i32_119 : BitVec 32 := 1#32
  ⟨v203, v200, c1_i32_119⟩
def k0_mult37 (v192 : BitVec 32) (k0_t17 : Fin (k0_t17_loop v192).trips) : BitVec 32 :=
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32_156 : BitVec 32 := 128#32
  let v259 : BitVec 32 := Scalar.muli v226 c128_i32_156
  v259
def k0_cond15 (v140 : BitVec 32) (v153 : BitVec 32) (v166 : BitVec 32) (v179 : BitVec 32) (v192 : BitVec 32) (k0_t17 : Fin (k0_t17_loop v192).trips) : BitVec 1 :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_142 : BitVec 32 := 8#32
  let v229 : BitVec 1 := Scalar.cmpi .sge v227 c8_i32_142
  let v230 : BitVec 32 := Scalar.extui v229
  let c0_i32_143 : BitVec 32 := 0#32
  let v231 : BitVec 1 := Scalar.cmpi .ne v230 c0_i32_143
  v231

def k0_off83 (v140 : BitVec 32) (v153 : BitVec 32) (v166 : BitVec 32) (v179 : BitVec 32) (v192 : BitVec 32) (k0_t17 : Fin (k0_t17_loop v192).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  ![v228.toNat]
def k0_off84 (v192 : BitVec 32) (k0_t17 : Fin (k0_t17_loop v192).trips) : Fin 3 → Nat :=
  let c4_i32_157 : BitVec 32 := 4#32
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32_156 : BitVec 32 := 128#32
  let v259 : BitVec 32 := Scalar.muli v226 c128_i32_156
  let v260 : BitVec 32 := v259
  let c0_i32_158 : BitVec 32 := 0#32
  ![4, v260.toNat, 0]
def k0_off85 (v140 : BitVec 32) (v153 : BitVec 32) (v166 : BitVec 32) (v179 : BitVec 32) (v192 : BitVec 32) (k0_t17 : Fin (k0_t17_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let c0_i32_159 : BitVec 32 := 0#32
  let c0_i32_160 : BitVec 32 := 0#32
  ![v228.toNat, 0, 0]
def k0_mult38 (v192 : BitVec 32) (k0_t17 : Fin (k0_t17_loop v192).trips) : BitVec 32 :=
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32 : BitVec 32 := 128#32
  let v232 : BitVec 32 := Scalar.muli v226 c128_i32
  v232
def k0_off86 (v192 : BitVec 32) (k0_t17 : Fin (k0_t17_loop v192).trips) : Fin 2 → Nat :=
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32 : BitVec 32 := 128#32
  let v232 : BitVec 32 := Scalar.muli v226 c128_i32
  let v233 : BitVec 32 := v232
  let v239 : Index := Scalar.indexCast v233
  let c0_144 : Index := 0#32
  ![v239.toNat, 0]
def k0_off87 (v140 : BitVec 32) (v153 : BitVec 32) (v166 : BitVec 32) (v179 : BitVec 32) (v192 : BitVec 32) (k0_t17 : Fin (k0_t17_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let v247 : Index := Scalar.indexCast v228
  let c0_149 : Index := 0#32
  let c0_150 : Index := 0#32
  ![v247.toNat, 0, 0]
def k0_mult39 (v192 : BitVec 32) (k0_t17 : Fin (k0_t17_loop v192).trips) : BitVec 32 :=
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32_152 : BitVec 32 := 128#32
  let v251 : BitVec 32 := Scalar.muli v226 c128_i32_152
  v251
def k0_off88 (v140 : BitVec 32) (v153 : BitVec 32) (v166 : BitVec 32) (v179 : BitVec 32) (v192 : BitVec 32) (k0_t17 : Fin (k0_t17_loop v192).trips) : Fin 1 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  ![v228.toNat]
def k0_off89 (v192 : BitVec 32) (k0_t17 : Fin (k0_t17_loop v192).trips) : Fin 3 → Nat :=
  let c4_i32 : BitVec 32 := 4#32
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let c128_i32_152 : BitVec 32 := 128#32
  let v251 : BitVec 32 := Scalar.muli v226 c128_i32_152
  let v252 : BitVec 32 := v251
  let c0_i32_153 : BitVec 32 := 0#32
  ![4, v252.toNat, 0]
def k0_off90 (v140 : BitVec 32) (v153 : BitVec 32) (v166 : BitVec 32) (v179 : BitVec 32) (v192 : BitVec 32) (k0_t17 : Fin (k0_t17_loop v192).trips) : Fin 3 → Nat :=
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_115 : BitVec 32 := 0#32
  let c0_i32_116 : BitVec 32 := 0#32
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let c0_i32_110 : BitVec 32 := 0#32
  let v195 : BitVec 32 := Scalar.subi v194 c0_i32_110
  let c1_i32_111 : BitVec 32 := 1#32
  let c1_i32_112 : BitVec 32 := 1#32
  let v196 : BitVec 32 := Scalar.subi c1_i32_111 c1_i32_112
  let v197 : BitVec 32 := Scalar.addi v195 v196
  let c1_i32_113 : BitVec 32 := 1#32
  let v198 : BitVec 32 := Scalar.divsi v197 c1_i32_113
  let v199 : BitVec 32 := Scalar.subi v198 c0_i32_116
  let c1_i32_117 : BitVec 32 := 1#32
  let v201 : BitVec 32 := Scalar.divsi v199 c1_i32_117
  let v202 : BitVec 32 := Scalar.muli v201 c1_i32_117
  let v203 : BitVec 32 := Scalar.addi c0_i32_116 v202
  let c1_i32_119 : BitVec 32 := 1#32
  let arg18 : BitVec 32 := Scf.iv v203 c1_i32_119 k0_t17
  let c1_i32_114 : BitVec 32 := 1#32
  let v225 : BitVec 32 := Scalar.muli arg18 c1_i32_114
  let v226 : BitVec 32 := Scalar.addi c0_i32_115 v225
  let v227 : BitVec 32 := Scalar.addi v191 v226
  let c8_i32_141 : BitVec 32 := 8#32
  let v228 : BitVec 32 := Scalar.remsi v227 c8_i32_141
  let c0_i32_154 : BitVec 32 := 0#32
  let c0_i32_155 : BitVec 32 := 0#32
  ![v228.toNat, 0, 0]
@[reducible] def k0_t18_loop (v12 : BitVec 32) (v18 : BitVec 32) (v24 : BitVec 32) (v30 : BitVec 32) (v36 : BitVec 32) : Scf.Loop 32 :=
  let c0_i32_127 : BitVec 32 := 0#32
  let c0_i32_3 : BitVec 32 := 0#32
  let c0_i32_2 : BitVec 32 := 0#32
  let v13 : BitVec 1 := Scalar.cmpi .eq v12 c0_i32_2
  let v14 : BitVec 32 := Scalar.extui v13
  let v15 : BitVec 32 := Scalar.addi c0_i32_3 v14
  let c0_i32_5 : BitVec 32 := 0#32
  let v19 : BitVec 1 := Scalar.cmpi .eq v18 c0_i32_5
  let v20 : BitVec 32 := Scalar.extui v19
  let v21 : BitVec 32 := Scalar.addi v15 v20
  let c0_i32_7 : BitVec 32 := 0#32
  let v25 : BitVec 1 := Scalar.cmpi .eq v24 c0_i32_7
  let v26 : BitVec 32 := Scalar.extui v25
  let v27 : BitVec 32 := Scalar.addi v21 v26
  let c0_i32_9 : BitVec 32 := 0#32
  let v31 : BitVec 1 := Scalar.cmpi .eq v30 c0_i32_9
  let v32 : BitVec 32 := Scalar.extui v31
  let v33 : BitVec 32 := Scalar.addi v27 v32
  let c0_i32_11 : BitVec 32 := 0#32
  let v37 : BitVec 1 := Scalar.cmpi .eq v36 c0_i32_11
  let v38 : BitVec 32 := Scalar.extui v37
  let v39 : BitVec 32 := Scalar.addi v33 v38
  let c32_i32_120 : BitVec 32 := 32#32
  let v205 : BitVec 32 := Scalar.muli v39 c32_i32_120
  let c0_i32_121 : BitVec 32 := 0#32
  let v206 : BitVec 32 := Scalar.subi v205 c0_i32_121
  let c1_i32_122 : BitVec 32 := 1#32
  let c1_i32_123 : BitVec 32 := 1#32
  let v207 : BitVec 32 := Scalar.subi c1_i32_122 c1_i32_123
  let v208 : BitVec 32 := Scalar.addi v206 v207
  let c1_i32_124 : BitVec 32 := 1#32
  let v209 : BitVec 32 := Scalar.divsi v208 c1_i32_124
  let v210 : BitVec 32 := Scalar.subi v209 c0_i32_127
  let c1_i32_128 : BitVec 32 := 1#32
  let v212 : BitVec 32 := Scalar.divsi v210 c1_i32_128
  let v213 : BitVec 32 := Scalar.muli v212 c1_i32_128
  let v214 : BitVec 32 := Scalar.addi c0_i32_127 v213
  let c1_i32_129 : BitVec 32 := 1#32
  ⟨c0_i32_127, v214, c1_i32_129⟩

def k0_mult40 : BitVec 32 :=
  let c0_i32_141 : BitVec 32 := 0#32
  c0_i32_141
@[reducible] def k0_t19_loop (v12 : BitVec 32) (v18 : BitVec 32) (v24 : BitVec 32) (v30 : BitVec 32) (v36 : BitVec 32) : Scf.Loop 32 :=
  let c0_i32_127 : BitVec 32 := 0#32
  let c0_i32_3 : BitVec 32 := 0#32
  let c0_i32_2 : BitVec 32 := 0#32
  let v13 : BitVec 1 := Scalar.cmpi .eq v12 c0_i32_2
  let v14 : BitVec 32 := Scalar.extui v13
  let v15 : BitVec 32 := Scalar.addi c0_i32_3 v14
  let c0_i32_5 : BitVec 32 := 0#32
  let v19 : BitVec 1 := Scalar.cmpi .eq v18 c0_i32_5
  let v20 : BitVec 32 := Scalar.extui v19
  let v21 : BitVec 32 := Scalar.addi v15 v20
  let c0_i32_7 : BitVec 32 := 0#32
  let v25 : BitVec 1 := Scalar.cmpi .eq v24 c0_i32_7
  let v26 : BitVec 32 := Scalar.extui v25
  let v27 : BitVec 32 := Scalar.addi v21 v26
  let c0_i32_9 : BitVec 32 := 0#32
  let v31 : BitVec 1 := Scalar.cmpi .eq v30 c0_i32_9
  let v32 : BitVec 32 := Scalar.extui v31
  let v33 : BitVec 32 := Scalar.addi v27 v32
  let c0_i32_11 : BitVec 32 := 0#32
  let v37 : BitVec 1 := Scalar.cmpi .eq v36 c0_i32_11
  let v38 : BitVec 32 := Scalar.extui v37
  let v39 : BitVec 32 := Scalar.addi v33 v38
  let c32_i32_120 : BitVec 32 := 32#32
  let v205 : BitVec 32 := Scalar.muli v39 c32_i32_120
  let c0_i32_121 : BitVec 32 := 0#32
  let v206 : BitVec 32 := Scalar.subi v205 c0_i32_121
  let c1_i32_122 : BitVec 32 := 1#32
  let c1_i32_123 : BitVec 32 := 1#32
  let v207 : BitVec 32 := Scalar.subi c1_i32_122 c1_i32_123
  let v208 : BitVec 32 := Scalar.addi v206 v207
  let c1_i32_124 : BitVec 32 := 1#32
  let v209 : BitVec 32 := Scalar.divsi v208 c1_i32_124
  let v210 : BitVec 32 := Scalar.subi v209 c0_i32_127
  let c1_i32_128 : BitVec 32 := 1#32
  let v212 : BitVec 32 := Scalar.divsi v210 c1_i32_128
  let v213 : BitVec 32 := Scalar.muli v212 c1_i32_128
  let v214 : BitVec 32 := Scalar.addi c0_i32_127 v213
  let v211 : BitVec 32 := Scalar.addi c0_i32_127 v210
  let c1_i32_130 : BitVec 32 := 1#32
  ⟨v214, v211, c1_i32_130⟩

def k0_chk6 (v12 : BitVec 32) (v18 : BitVec 32) (v24 : BitVec 32) (v30 : BitVec 32) (v36 : BitVec 32) : Prop :=
  ((k0_t18_loop v12 v18 v24 v30 v36).OK) ∧
  ((k0_t19_loop v12 v18 v24 v30 v36).OK)
theorem k0_t18_ok : ∀ (v12 : BitVec 32) (v18 : BitVec 32) (v24 : BitVec 32) (v30 : BitVec 32) (v36 : BitVec 32) (k0_hw6 : k0_chk6 v12 v18 v24 v30 v36), (k0_t18_loop v12 v18 v24 v30 v36).OK := fun v12 v18 v24 v30 v36 k0_hw6 => k0_hw6.1
theorem k0_t19_ok : ∀ (v12 : BitVec 32) (v18 : BitVec 32) (v24 : BitVec 32) (v30 : BitVec 32) (v36 : BitVec 32) (k0_hw6 : k0_chk6 v12 v18 v24 v30 v36), (k0_t19_loop v12 v18 v24 v30 v36).OK := fun v12 v18 v24 v30 v36 k0_hw6 => k0_hw6.2

def k0_mult41 : BitVec 32 :=
  let c0_i32_141 : BitVec 32 := 0#32
  c0_i32_141
@[reducible] def k0_t20_loop (v140 : BitVec 32) (v153 : BitVec 32) (v166 : BitVec 32) (v179 : BitVec 32) (v192 : BitVec 32) : Scf.Loop 32 :=
  let c0_i32_137 : BitVec 32 := 0#32
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let v204 : BitVec 32 := Scalar.addi v191 v194
  let c8_i32 : BitVec 32 := 8#32
  let v215 : BitVec 32 := Scalar.minsi v204 c8_i32
  let c0_i32_131 : BitVec 32 := 0#32
  let v216 : BitVec 32 := Scalar.subi v215 c0_i32_131
  let c1_i32_132 : BitVec 32 := 1#32
  let c1_i32_133 : BitVec 32 := 1#32
  let v217 : BitVec 32 := Scalar.subi c1_i32_132 c1_i32_133
  let v218 : BitVec 32 := Scalar.addi v216 v217
  let c1_i32_134 : BitVec 32 := 1#32
  let v219 : BitVec 32 := Scalar.divsi v218 c1_i32_134
  let v220 : BitVec 32 := Scalar.subi v219 c0_i32_137
  let c1_i32_138 : BitVec 32 := 1#32
  let v222 : BitVec 32 := Scalar.divsi v220 c1_i32_138
  let v223 : BitVec 32 := Scalar.muli v222 c1_i32_138
  let v224 : BitVec 32 := Scalar.addi c0_i32_137 v223
  let c1_i32_139 : BitVec 32 := 1#32
  ⟨c0_i32_137, v224, c1_i32_139⟩
def k0_mult42 : BitVec 32 :=
  let c0_i32_141 : BitVec 32 := 0#32
  c0_i32_141
def k0_off91 (v140 : BitVec 32) (v153 : BitVec 32) (v166 : BitVec 32) (v179 : BitVec 32) (v192 : BitVec 32) (k0_t20 : Fin (k0_t20_loop v140 v153 v166 v179 v192).trips) : Fin 1 → Nat :=
  let c0_i32_136 : BitVec 32 := 0#32
  let c0_i32_137 : BitVec 32 := 0#32
  let c1_i32_139 : BitVec 32 := 1#32
  let arg18 : BitVec 32 := Scf.iv c0_i32_137 c1_i32_139 k0_t20
  let c1_i32_135 : BitVec 32 := 1#32
  let v225 : BitVec 32 := Scalar.muli arg18 c1_i32_135
  let v226 : BitVec 32 := Scalar.addi c0_i32_136 v225
  ![v226.toNat]
def k0_off92 (v140 : BitVec 32) (v153 : BitVec 32) (v166 : BitVec 32) (v179 : BitVec 32) (v192 : BitVec 32) (k0_t20 : Fin (k0_t20_loop v140 v153 v166 v179 v192).trips) : Fin 3 → Nat :=
  let c0_i32_136 : BitVec 32 := 0#32
  let c0_i32_137 : BitVec 32 := 0#32
  let c1_i32_139 : BitVec 32 := 1#32
  let arg18 : BitVec 32 := Scf.iv c0_i32_137 c1_i32_139 k0_t20
  let c1_i32_135 : BitVec 32 := 1#32
  let v225 : BitVec 32 := Scalar.muli arg18 c1_i32_135
  let v226 : BitVec 32 := Scalar.addi c0_i32_136 v225
  let c0_i32_144 : BitVec 32 := 0#32
  let c0_i32_145 : BitVec 32 := 0#32
  ![v226.toNat, 0, 0]
@[reducible] def k0_t21_loop (v140 : BitVec 32) (v153 : BitVec 32) (v166 : BitVec 32) (v179 : BitVec 32) (v192 : BitVec 32) : Scf.Loop 32 :=
  let c0_i32_137 : BitVec 32 := 0#32
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let v204 : BitVec 32 := Scalar.addi v191 v194
  let c8_i32 : BitVec 32 := 8#32
  let v215 : BitVec 32 := Scalar.minsi v204 c8_i32
  let c0_i32_131 : BitVec 32 := 0#32
  let v216 : BitVec 32 := Scalar.subi v215 c0_i32_131
  let c1_i32_132 : BitVec 32 := 1#32
  let c1_i32_133 : BitVec 32 := 1#32
  let v217 : BitVec 32 := Scalar.subi c1_i32_132 c1_i32_133
  let v218 : BitVec 32 := Scalar.addi v216 v217
  let c1_i32_134 : BitVec 32 := 1#32
  let v219 : BitVec 32 := Scalar.divsi v218 c1_i32_134
  let v220 : BitVec 32 := Scalar.subi v219 c0_i32_137
  let c1_i32_138 : BitVec 32 := 1#32
  let v222 : BitVec 32 := Scalar.divsi v220 c1_i32_138
  let v223 : BitVec 32 := Scalar.muli v222 c1_i32_138
  let v224 : BitVec 32 := Scalar.addi c0_i32_137 v223
  let v221 : BitVec 32 := Scalar.addi c0_i32_137 v220
  let c1_i32_140 : BitVec 32 := 1#32
  ⟨v224, v221, c1_i32_140⟩
def k0_mult43 : BitVec 32 :=
  let c0_i32_141 : BitVec 32 := 0#32
  c0_i32_141
def k0_off93 (v140 : BitVec 32) (v153 : BitVec 32) (v166 : BitVec 32) (v179 : BitVec 32) (v192 : BitVec 32) (k0_t21 : Fin (k0_t21_loop v140 v153 v166 v179 v192).trips) : Fin 1 → Nat :=
  let c0_i32_136 : BitVec 32 := 0#32
  let c0_i32_137 : BitVec 32 := 0#32
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let v204 : BitVec 32 := Scalar.addi v191 v194
  let c8_i32 : BitVec 32 := 8#32
  let v215 : BitVec 32 := Scalar.minsi v204 c8_i32
  let c0_i32_131 : BitVec 32 := 0#32
  let v216 : BitVec 32 := Scalar.subi v215 c0_i32_131
  let c1_i32_132 : BitVec 32 := 1#32
  let c1_i32_133 : BitVec 32 := 1#32
  let v217 : BitVec 32 := Scalar.subi c1_i32_132 c1_i32_133
  let v218 : BitVec 32 := Scalar.addi v216 v217
  let c1_i32_134 : BitVec 32 := 1#32
  let v219 : BitVec 32 := Scalar.divsi v218 c1_i32_134
  let v220 : BitVec 32 := Scalar.subi v219 c0_i32_137
  let c1_i32_138 : BitVec 32 := 1#32
  let v222 : BitVec 32 := Scalar.divsi v220 c1_i32_138
  let v223 : BitVec 32 := Scalar.muli v222 c1_i32_138
  let v224 : BitVec 32 := Scalar.addi c0_i32_137 v223
  let c1_i32_140 : BitVec 32 := 1#32
  let arg18 : BitVec 32 := Scf.iv v224 c1_i32_140 k0_t21
  let c1_i32_135 : BitVec 32 := 1#32
  let v225 : BitVec 32 := Scalar.muli arg18 c1_i32_135
  let v226 : BitVec 32 := Scalar.addi c0_i32_136 v225
  ![v226.toNat]
def k0_off94 (v140 : BitVec 32) (v153 : BitVec 32) (v166 : BitVec 32) (v179 : BitVec 32) (v192 : BitVec 32) (k0_t21 : Fin (k0_t21_loop v140 v153 v166 v179 v192).trips) : Fin 3 → Nat :=
  let c0_i32_136 : BitVec 32 := 0#32
  let c0_i32_137 : BitVec 32 := 0#32
  let c0_i32_63 : BitVec 32 := 0#32
  let c0_i32_48 : BitVec 32 := 0#32
  let v141 : BitVec 1 := Scalar.cmpi .sgt v140 c0_i32_48
  let c32_i32_49 : BitVec 32 := 32#32
  let c0_i32_50 : BitVec 32 := 0#32
  let v142 : BitVec 32 := Scalar.select v141 c32_i32_49 c0_i32_50
  let v152 : BitVec 32 := Scalar.addi c0_i32_63 v142
  let c0_i32_65 : BitVec 32 := 0#32
  let v154 : BitVec 1 := Scalar.cmpi .sgt v153 c0_i32_65
  let c32_i32_66 : BitVec 32 := 32#32
  let c0_i32_67 : BitVec 32 := 0#32
  let v155 : BitVec 32 := Scalar.select v154 c32_i32_66 c0_i32_67
  let v165 : BitVec 32 := Scalar.addi v152 v155
  let c0_i32_79 : BitVec 32 := 0#32
  let v167 : BitVec 1 := Scalar.cmpi .sgt v166 c0_i32_79
  let c32_i32_80 : BitVec 32 := 32#32
  let c0_i32_81 : BitVec 32 := 0#32
  let v168 : BitVec 32 := Scalar.select v167 c32_i32_80 c0_i32_81
  let v178 : BitVec 32 := Scalar.addi v165 v168
  let c0_i32_93 : BitVec 32 := 0#32
  let v180 : BitVec 1 := Scalar.cmpi .sgt v179 c0_i32_93
  let c32_i32_94 : BitVec 32 := 32#32
  let c0_i32_95 : BitVec 32 := 0#32
  let v181 : BitVec 32 := Scalar.select v180 c32_i32_94 c0_i32_95
  let v191 : BitVec 32 := Scalar.addi v178 v181
  let c0_i32_107 : BitVec 32 := 0#32
  let v193 : BitVec 1 := Scalar.cmpi .sgt v192 c0_i32_107
  let c32_i32_108 : BitVec 32 := 32#32
  let c0_i32_109 : BitVec 32 := 0#32
  let v194 : BitVec 32 := Scalar.select v193 c32_i32_108 c0_i32_109
  let v204 : BitVec 32 := Scalar.addi v191 v194
  let c8_i32 : BitVec 32 := 8#32
  let v215 : BitVec 32 := Scalar.minsi v204 c8_i32
  let c0_i32_131 : BitVec 32 := 0#32
  let v216 : BitVec 32 := Scalar.subi v215 c0_i32_131
  let c1_i32_132 : BitVec 32 := 1#32
  let c1_i32_133 : BitVec 32 := 1#32
  let v217 : BitVec 32 := Scalar.subi c1_i32_132 c1_i32_133
  let v218 : BitVec 32 := Scalar.addi v216 v217
  let c1_i32_134 : BitVec 32 := 1#32
  let v219 : BitVec 32 := Scalar.divsi v218 c1_i32_134
  let v220 : BitVec 32 := Scalar.subi v219 c0_i32_137
  let c1_i32_138 : BitVec 32 := 1#32
  let v222 : BitVec 32 := Scalar.divsi v220 c1_i32_138
  let v223 : BitVec 32 := Scalar.muli v222 c1_i32_138
  let v224 : BitVec 32 := Scalar.addi c0_i32_137 v223
  let c1_i32_140 : BitVec 32 := 1#32
  let arg18 : BitVec 32 := Scf.iv v224 c1_i32_140 k0_t21
  let c1_i32_135 : BitVec 32 := 1#32
  let v225 : BitVec 32 := Scalar.muli arg18 c1_i32_135
  let v226 : BitVec 32 := Scalar.addi c0_i32_136 v225
  let c0_i32_144 : BitVec 32 := 0#32
  let c0_i32_145 : BitVec 32 := 0#32
  ![v226.toNat, 0, 0]

def k0_chk5 (v140 : BitVec 32) (v153 : BitVec 32) (v166 : BitVec 32) (v179 : BitVec 32) (v192 : BitVec 32) : Prop :=
  ((k0_t16_loop v192).OK) ∧
  (∀ k0_t16 : Fin (k0_t16_loop v192).trips, ∀ (k0_h14 : k0_cond14 v140 v153 v166 v179 v192 k0_t16 = 1#1), 128 ∣ (k0_mult34 v192 k0_t16).toNat) ∧
  (∀ k0_t16 : Fin (k0_t16_loop v192).trips, ∀ (k0_h14 : k0_cond14 v140 v153 v166 v179 v192 k0_t16 = 1#1), ∀ a, (k0_off75 v140 v153 v166 v179 v192 k0_t16) a + S1.size a ≤ S8.size a) ∧
  (∀ k0_t16 : Fin (k0_t16_loop v192).trips, ∀ (k0_h14 : k0_cond14 v140 v153 v166 v179 v192 k0_t16 = 1#1), ∀ a, (k0_off76 v192 k0_t16) a + S1x128x6144.size a ≤ S5x4096x6144.size a) ∧
  (∀ k0_t16 : Fin (k0_t16_loop v192).trips, ∀ (k0_h14 : k0_cond14 v140 v153 v166 v179 v192 k0_t16 = 1#1), ∀ a, (k0_off77 v140 v153 v166 v179 v192 k0_t16) a + S1x128x6144.size a ≤ S8x128x6144.size a) ∧
  (∀ k0_t16 : Fin (k0_t16_loop v192).trips, 128 ∣ (k0_mult35 v192 k0_t16).toNat) ∧
  (∀ k0_t16 : Fin (k0_t16_loop v192).trips, ∀ a, (k0_off78 v192 k0_t16) a + S128x256.size a ≤ S4096x256.size a) ∧
  (∀ k0_t16 : Fin (k0_t16_loop v192).trips, ∀ a, (k0_off79 v140 v153 v166 v179 v192 k0_t16) a + S1x128x6144.size a ≤ S8x128x6144.size a) ∧
  (∀ k0_t16 : Fin (k0_t16_loop v192).trips, 128 ∣ (k0_mult36 v192 k0_t16).toNat) ∧
  (∀ k0_t16 : Fin (k0_t16_loop v192).trips, ∀ a, (k0_off80 v140 v153 v166 v179 v192 k0_t16) a + S1.size a ≤ S8.size a) ∧
  (∀ k0_t16 : Fin (k0_t16_loop v192).trips, ∀ a, (k0_off81 v192 k0_t16) a + S1x128x6144.size a ≤ S5x4096x6144.size a) ∧
  (∀ k0_t16 : Fin (k0_t16_loop v192).trips, ∀ a, (k0_off82 v140 v153 v166 v179 v192 k0_t16) a + S1x128x6144.size a ≤ S8x128x6144.size a) ∧
  ((k0_t17_loop v192).OK) ∧
  (∀ k0_t17 : Fin (k0_t17_loop v192).trips, ∀ (k0_h15 : k0_cond15 v140 v153 v166 v179 v192 k0_t17 = 1#1), 128 ∣ (k0_mult37 v192 k0_t17).toNat) ∧
  (∀ k0_t17 : Fin (k0_t17_loop v192).trips, ∀ (k0_h15 : k0_cond15 v140 v153 v166 v179 v192 k0_t17 = 1#1), ∀ a, (k0_off83 v140 v153 v166 v179 v192 k0_t17) a + S1.size a ≤ S8.size a) ∧
  (∀ k0_t17 : Fin (k0_t17_loop v192).trips, ∀ (k0_h15 : k0_cond15 v140 v153 v166 v179 v192 k0_t17 = 1#1), ∀ a, (k0_off84 v192 k0_t17) a + S1x128x6144.size a ≤ S5x4096x6144.size a) ∧
  (∀ k0_t17 : Fin (k0_t17_loop v192).trips, ∀ (k0_h15 : k0_cond15 v140 v153 v166 v179 v192 k0_t17 = 1#1), ∀ a, (k0_off85 v140 v153 v166 v179 v192 k0_t17) a + S1x128x6144.size a ≤ S8x128x6144.size a) ∧
  (∀ k0_t17 : Fin (k0_t17_loop v192).trips, 128 ∣ (k0_mult38 v192 k0_t17).toNat) ∧
  (∀ k0_t17 : Fin (k0_t17_loop v192).trips, ∀ a, (k0_off86 v192 k0_t17) a + S128x256.size a ≤ S4096x256.size a) ∧
  (∀ k0_t17 : Fin (k0_t17_loop v192).trips, ∀ a, (k0_off87 v140 v153 v166 v179 v192 k0_t17) a + S1x128x6144.size a ≤ S8x128x6144.size a) ∧
  (∀ k0_t17 : Fin (k0_t17_loop v192).trips, 128 ∣ (k0_mult39 v192 k0_t17).toNat) ∧
  (∀ k0_t17 : Fin (k0_t17_loop v192).trips, ∀ a, (k0_off88 v140 v153 v166 v179 v192 k0_t17) a + S1.size a ≤ S8.size a) ∧
  (∀ k0_t17 : Fin (k0_t17_loop v192).trips, ∀ a, (k0_off89 v192 k0_t17) a + S1x128x6144.size a ≤ S5x4096x6144.size a) ∧
  (∀ k0_t17 : Fin (k0_t17_loop v192).trips, ∀ a, (k0_off90 v140 v153 v166 v179 v192 k0_t17) a + S1x128x6144.size a ≤ S8x128x6144.size a) ∧
  ((k0_t20_loop v140 v153 v166 v179 v192).OK) ∧
  (∀ k0_t20 : Fin (k0_t20_loop v140 v153 v166 v179 v192).trips, ∀ a, (k0_off91 v140 v153 v166 v179 v192 k0_t20) a + S1.size a ≤ S8.size a) ∧
  (∀ k0_t20 : Fin (k0_t20_loop v140 v153 v166 v179 v192).trips, ∀ a, (k0_off92 v140 v153 v166 v179 v192 k0_t20) a + S1x128x6144.size a ≤ S8x128x6144.size a) ∧
  ((k0_t21_loop v140 v153 v166 v179 v192).OK) ∧
  (∀ k0_t21 : Fin (k0_t21_loop v140 v153 v166 v179 v192).trips, ∀ a, (k0_off93 v140 v153 v166 v179 v192 k0_t21) a + S1.size a ≤ S8.size a) ∧
  (∀ k0_t21 : Fin (k0_t21_loop v140 v153 v166 v179 v192).trips, ∀ a, (k0_off94 v140 v153 v166 v179 v192 k0_t21) a + S1x128x6144.size a ≤ S8x128x6144.size a)
theorem k0_t16_ok : ∀ (v140 : BitVec 32) (v153 : BitVec 32) (v166 : BitVec 32) (v179 : BitVec 32) (v192 : BitVec 32) (k0_hw5 : k0_chk5 v140 v153 v166 v179 v192), (k0_t16_loop v192).OK := fun v140 v153 v166 v179 v192 k0_hw5 => k0_hw5.1
theorem k0_mult34_dvd : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ (k0_h14 : k0_cond14 v140 v153 v166 v179 v192 k0_t16 = 1#1), 128 ∣ (k0_mult34 v192 k0_t16).toNat := fun v140 v153 v166 v179 v192 k0_hw5 k0_t16 k0_h14 => k0_hw5.2.1 k0_t16 k0_h14
theorem k0_off75_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ (k0_h14 : k0_cond14 v140 v153 v166 v179 v192 k0_t16 = 1#1), ∀ a, (k0_off75 v140 v153 v166 v179 v192 k0_t16) a + S1.size a ≤ S8.size a := fun v140 v153 v166 v179 v192 k0_hw5 k0_t16 k0_h14 => k0_hw5.2.2.1 k0_t16 k0_h14
theorem k0_off76_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ (k0_h14 : k0_cond14 v140 v153 v166 v179 v192 k0_t16 = 1#1), ∀ a, (k0_off76 v192 k0_t16) a + S1x128x6144.size a ≤ S5x4096x6144.size a := fun v140 v153 v166 v179 v192 k0_hw5 k0_t16 k0_h14 => k0_hw5.2.2.2.1 k0_t16 k0_h14
theorem k0_off77_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ (k0_h14 : k0_cond14 v140 v153 v166 v179 v192 k0_t16 = 1#1), ∀ a, (k0_off77 v140 v153 v166 v179 v192 k0_t16) a + S1x128x6144.size a ≤ S8x128x6144.size a := fun v140 v153 v166 v179 v192 k0_hw5 k0_t16 k0_h14 => k0_hw5.2.2.2.2.1 k0_t16 k0_h14
theorem k0_mult35_dvd : ∀ (v140 : BitVec 32) (v153 : BitVec 32) (v166 : BitVec 32) (v179 : BitVec 32) (v192 : BitVec 32) (k0_hw5 : k0_chk5 v140 v153 v166 v179 v192) (k0_t16 : Fin (k0_t16_loop v192).trips), 128 ∣ (k0_mult35 v192 k0_t16).toNat := fun v140 v153 v166 v179 v192 k0_hw5 k0_t16 => k0_hw5.2.2.2.2.2.1 k0_t16
theorem k0_off78_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ a, (k0_off78 v192 k0_t16) a + S128x256.size a ≤ S4096x256.size a := fun v140 v153 v166 v179 v192 k0_hw5 k0_t16 => k0_hw5.2.2.2.2.2.2.1 k0_t16
theorem k0_off79_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ a, (k0_off79 v140 v153 v166 v179 v192 k0_t16) a + S1x128x6144.size a ≤ S8x128x6144.size a := fun v140 v153 v166 v179 v192 k0_hw5 k0_t16 => k0_hw5.2.2.2.2.2.2.2.1 k0_t16
theorem k0_mult36_dvd : ∀ (v140 : BitVec 32) (v153 : BitVec 32) (v166 : BitVec 32) (v179 : BitVec 32) (v192 : BitVec 32) (k0_hw5 : k0_chk5 v140 v153 v166 v179 v192) (k0_t16 : Fin (k0_t16_loop v192).trips), 128 ∣ (k0_mult36 v192 k0_t16).toNat := fun v140 v153 v166 v179 v192 k0_hw5 k0_t16 => k0_hw5.2.2.2.2.2.2.2.2.1 k0_t16
theorem k0_off80_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ a, (k0_off80 v140 v153 v166 v179 v192 k0_t16) a + S1.size a ≤ S8.size a := fun v140 v153 v166 v179 v192 k0_hw5 k0_t16 => k0_hw5.2.2.2.2.2.2.2.2.2.1 k0_t16
theorem k0_off81_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ a, (k0_off81 v192 k0_t16) a + S1x128x6144.size a ≤ S5x4096x6144.size a := fun v140 v153 v166 v179 v192 k0_hw5 k0_t16 => k0_hw5.2.2.2.2.2.2.2.2.2.2.1 k0_t16
theorem k0_off82_inb : ∀ (v140 : BitVec 32) (v153 : BitVec 32) (v166 : BitVec 32) (v179 : BitVec 32) (v192 : BitVec 32) (k0_hw5 : k0_chk5 v140 v153 v166 v179 v192) (k0_t16 : Fin (k0_t16_loop v192).trips), ∀ a, (k0_off82 v140 v153 v166 v179 v192 k0_t16) a + S1x128x6144.size a ≤ S8x128x6144.size a := fun v140 v153 v166 v179 v192 k0_hw5 k0_t16 => k0_hw5.2.2.2.2.2.2.2.2.2.2.2.1 k0_t16
theorem k0_t17_ok : ∀ (v140 : BitVec 32) (v153 : BitVec 32) (v166 : BitVec 32) (v179 : BitVec 32) (v192 : BitVec 32) (k0_hw5 : k0_chk5 v140 v153 v166 v179 v192), (k0_t17_loop v192).OK := fun v140 v153 v166 v179 v192 k0_hw5 => k0_hw5.2.2.2.2.2.2.2.2.2.2.2.2.1
theorem k0_mult37_dvd : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ (k0_h15 : k0_cond15 v140 v153 v166 v179 v192 k0_t17 = 1#1), 128 ∣ (k0_mult37 v192 k0_t17).toNat := fun v140 v153 v166 v179 v192 k0_hw5 k0_t17 k0_h15 => k0_hw5.2.2.2.2.2.2.2.2.2.2.2.2.2.1 k0_t17 k0_h15
theorem k0_off83_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ (k0_h15 : k0_cond15 v140 v153 v166 v179 v192 k0_t17 = 1#1), ∀ a, (k0_off83 v140 v153 v166 v179 v192 k0_t17) a + S1.size a ≤ S8.size a := fun v140 v153 v166 v179 v192 k0_hw5 k0_t17 k0_h15 => k0_hw5.2.2.2.2.2.2.2.2.2.2.2.2.2.2.1 k0_t17 k0_h15
theorem k0_off84_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ (k0_h15 : k0_cond15 v140 v153 v166 v179 v192 k0_t17 = 1#1), ∀ a, (k0_off84 v192 k0_t17) a + S1x128x6144.size a ≤ S5x4096x6144.size a := fun v140 v153 v166 v179 v192 k0_hw5 k0_t17 k0_h15 => k0_hw5.2.2.2.2.2.2.2.2.2.2.2.2.2.2.2.1 k0_t17 k0_h15
theorem k0_off85_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ (k0_h15 : k0_cond15 v140 v153 v166 v179 v192 k0_t17 = 1#1), ∀ a, (k0_off85 v140 v153 v166 v179 v192 k0_t17) a + S1x128x6144.size a ≤ S8x128x6144.size a := fun v140 v153 v166 v179 v192 k0_hw5 k0_t17 k0_h15 => k0_hw5.2.2.2.2.2.2.2.2.2.2.2.2.2.2.2.2.1 k0_t17 k0_h15
theorem k0_mult38_dvd : ∀ (v140 : BitVec 32) (v153 : BitVec 32) (v166 : BitVec 32) (v179 : BitVec 32) (v192 : BitVec 32) (k0_hw5 : k0_chk5 v140 v153 v166 v179 v192) (k0_t17 : Fin (k0_t17_loop v192).trips), 128 ∣ (k0_mult38 v192 k0_t17).toNat := fun v140 v153 v166 v179 v192 k0_hw5 k0_t17 => k0_hw5.2.2.2.2.2.2.2.2.2.2.2.2.2.2.2.2.2.1 k0_t17
theorem k0_off86_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ a, (k0_off86 v192 k0_t17) a + S128x256.size a ≤ S4096x256.size a := fun v140 v153 v166 v179 v192 k0_hw5 k0_t17 => k0_hw5.2.2.2.2.2.2.2.2.2.2.2.2.2.2.2.2.2.2.1 k0_t17
theorem k0_off87_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ a, (k0_off87 v140 v153 v166 v179 v192 k0_t17) a + S1x128x6144.size a ≤ S8x128x6144.size a := fun v140 v153 v166 v179 v192 k0_hw5 k0_t17 => k0_hw5.2.2.2.2.2.2.2.2.2.2.2.2.2.2.2.2.2.2.2.1 k0_t17
theorem k0_mult39_dvd : ∀ (v140 : BitVec 32) (v153 : BitVec 32) (v166 : BitVec 32) (v179 : BitVec 32) (v192 : BitVec 32) (k0_hw5 : k0_chk5 v140 v153 v166 v179 v192) (k0_t17 : Fin (k0_t17_loop v192).trips), 128 ∣ (k0_mult39 v192 k0_t17).toNat := fun v140 v153 v166 v179 v192 k0_hw5 k0_t17 => k0_hw5.2.2.2.2.2.2.2.2.2.2.2.2.2.2.2.2.2.2.2.2.1 k0_t17
theorem k0_off88_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ a, (k0_off88 v140 v153 v166 v179 v192 k0_t17) a + S1.size a ≤ S8.size a := fun v140 v153 v166 v179 v192 k0_hw5 k0_t17 => k0_hw5.2.2.2.2.2.2.2.2.2.2.2.2.2.2.2.2.2.2.2.2.2.1 k0_t17
theorem k0_off89_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ a, (k0_off89 v192 k0_t17) a + S1x128x6144.size a ≤ S5x4096x6144.size a := fun v140 v153 v166 v179 v192 k0_hw5 k0_t17 => k0_hw5.2.2.2.2.2.2.2.2.2.2.2.2.2.2.2.2.2.2.2.2.2.2.1 k0_t17
theorem k0_off90_inb : ∀ (v140 : BitVec 32) (v153 : BitVec 32) (v166 : BitVec 32) (v179 : BitVec 32) (v192 : BitVec 32) (k0_hw5 : k0_chk5 v140 v153 v166 v179 v192) (k0_t17 : Fin (k0_t17_loop v192).trips), ∀ a, (k0_off90 v140 v153 v166 v179 v192 k0_t17) a + S1x128x6144.size a ≤ S8x128x6144.size a := fun v140 v153 v166 v179 v192 k0_hw5 k0_t17 => k0_hw5.2.2.2.2.2.2.2.2.2.2.2.2.2.2.2.2.2.2.2.2.2.2.2.1 k0_t17
theorem k0_t20_ok : ∀ (v140 : BitVec 32) (v153 : BitVec 32) (v166 : BitVec 32) (v179 : BitVec 32) (v192 : BitVec 32) (k0_hw5 : k0_chk5 v140 v153 v166 v179 v192), (k0_t20_loop v140 v153 v166 v179 v192).OK := fun v140 v153 v166 v179 v192 k0_hw5 => k0_hw5.2.2.2.2.2.2.2.2.2.2.2.2.2.2.2.2.2.2.2.2.2.2.2.2.1
theorem k0_off91_inb : ∀ (v140 : BitVec 32) (v153 : BitVec 32) (v166 : BitVec 32) (v179 : BitVec 32) (v192 : BitVec 32) (k0_hw5 : k0_chk5 v140 v153 v166 v179 v192) (k0_t20 : Fin (k0_t20_loop v140 v153 v166 v179 v192).trips), ∀ a, (k0_off91 v140 v153 v166 v179 v192 k0_t20) a + S1.size a ≤ S8.size a := fun v140 v153 v166 v179 v192 k0_hw5 k0_t20 => k0_hw5.2.2.2.2.2.2.2.2.2.2.2.2.2.2.2.2.2.2.2.2.2.2.2.2.2.1 k0_t20
theorem k0_off92_inb : ∀ (v140 : BitVec 32) (v153 : BitVec 32) (v166 : BitVec 32) (v179 : BitVec 32) (v192 : BitVec 32) (k0_hw5 : k0_chk5 v140 v153 v166 v179 v192) (k0_t20 : Fin (k0_t20_loop v140 v153 v166 v179 v192).trips), ∀ a, (k0_off92 v140 v153 v166 v179 v192 k0_t20) a + S1x128x6144.size a ≤ S8x128x6144.size a := fun v140 v153 v166 v179 v192 k0_hw5 k0_t20 => k0_hw5.2.2.2.2.2.2.2.2.2.2.2.2.2.2.2.2.2.2.2.2.2.2.2.2.2.2.1 k0_t20
theorem k0_t21_ok : ∀ (v140 : BitVec 32) (v153 : BitVec 32) (v166 : BitVec 32) (v179 : BitVec 32) (v192 : BitVec 32) (k0_hw5 : k0_chk5 v140 v153 v166 v179 v192), (k0_t21_loop v140 v153 v166 v179 v192).OK := fun v140 v153 v166 v179 v192 k0_hw5 => k0_hw5.2.2.2.2.2.2.2.2.2.2.2.2.2.2.2.2.2.2.2.2.2.2.2.2.2.2.2.1
theorem k0_off93_inb : ∀ (v140 : BitVec 32) (v153 : BitVec 32) (v166 : BitVec 32) (v179 : BitVec 32) (v192 : BitVec 32) (k0_hw5 : k0_chk5 v140 v153 v166 v179 v192) (k0_t21 : Fin (k0_t21_loop v140 v153 v166 v179 v192).trips), ∀ a, (k0_off93 v140 v153 v166 v179 v192 k0_t21) a + S1.size a ≤ S8.size a := fun v140 v153 v166 v179 v192 k0_hw5 k0_t21 => k0_hw5.2.2.2.2.2.2.2.2.2.2.2.2.2.2.2.2.2.2.2.2.2.2.2.2.2.2.2.2.1 k0_t21
theorem k0_off94_inb : ∀ (v140 : BitVec 32) (v153 : BitVec 32) (v166 : BitVec 32) (v179 : BitVec 32) (v192 : BitVec 32) (k0_hw5 : k0_chk5 v140 v153 v166 v179 v192) (k0_t21 : Fin (k0_t21_loop v140 v153 v166 v179 v192).trips), ∀ a, (k0_off94 v140 v153 v166 v179 v192 k0_t21) a + S1x128x6144.size a ≤ S8x128x6144.size a := fun v140 v153 v166 v179 v192 k0_hw5 k0_t21 => k0_hw5.2.2.2.2.2.2.2.2.2.2.2.2.2.2.2.2.2.2.2.2.2.2.2.2.2.2.2.2.2 k0_t21

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x4096 : Shape := ⟨2, ![256, 4096]⟩
abbrev S4x4096 : Shape := ⟨2, ![4, 4096]⟩
abbrev S256x6144 : Shape := ⟨2, ![256, 6144]⟩
abbrev S4x6144 : Shape := ⟨2, ![4, 6144]⟩
abbrev S5 : Shape := ⟨1, ![5]⟩
abbrev S_ : Shape := ⟨0, ![]⟩
abbrev S256 : Shape := ⟨1, ![256]⟩
abbrev S1x256 : Shape := ⟨2, ![1, 256]⟩
abbrev S5x1 : Shape := ⟨2, ![5, 1]⟩
abbrev S5x256 : Shape := ⟨2, ![5, 256]⟩
abbrev S256x1 : Shape := ⟨2, ![256, 1]⟩
abbrev S5x4096x6144 : Shape := ⟨3, ![5, 4096, 6144]⟩
abbrev S4096x6144 : Shape := ⟨2, ![4096, 6144]⟩
abbrev S1x4096x6144 : Shape := ⟨3, ![1, 4096, 6144]⟩

abbrev nBuf : Space → Nat
  | .hbm => 106
  | .vmem => 6
  | .smem => 0
  | _ => 0

abbrev bufTy : (tb : Table) → Fin (tcTables nBuf tb) → BufTy
  | .hbm, ⟨0, _⟩ => ⟨S256x4096, .fp8e4m3⟩
  | .hbm, ⟨1, _⟩ => ⟨S4x4096, .f32⟩
  | .hbm, ⟨2, _⟩ => ⟨S256x6144, .fp8e4m3⟩
  | .hbm, ⟨3, _⟩ => ⟨S4x6144, .f32⟩
  | .hbm, ⟨4, _⟩ => ⟨S5, .i32⟩
  | .hbm, ⟨5, _⟩ => ⟨S_, .i32⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S_, .i32⟩
  | .hbm, ⟨10, _⟩ => ⟨S5, .i32⟩
  | .hbm, ⟨11, _⟩ => ⟨S5, .i32⟩
  | .hbm, ⟨12, _⟩ => ⟨S_, .i32⟩
  | .hbm, ⟨13, _⟩ => ⟨S5, .i32⟩
  | .hbm, ⟨14, _⟩ => ⟨S5, .i32⟩
  | .hbm, ⟨15, _⟩ => ⟨S_, .i32⟩
  | .hbm, ⟨16, _⟩ => ⟨S_, .i32⟩
  | .hbm, ⟨17, _⟩ => ⟨S5, .i32⟩
  | .hbm, ⟨18, _⟩ => ⟨S5, .i32⟩
  | .hbm, ⟨19, _⟩ => ⟨S5, .i32⟩
  | .hbm, ⟨20, _⟩ => ⟨S_, .i32⟩
  | .hbm, ⟨21, _⟩ => ⟨S5, .i32⟩
  | .hbm, ⟨22, _⟩ => ⟨S5, .i1⟩
  | .hbm, ⟨23, _⟩ => ⟨S5, .i32⟩
  | .hbm, ⟨24, _⟩ => ⟨S5, .i32⟩
  | .hbm, ⟨25, _⟩ => ⟨S_, .i32⟩
  | .hbm, ⟨26, _⟩ => ⟨S5, .i32⟩
  | .hbm, ⟨27, _⟩ => ⟨S5, .i1⟩
  | .hbm, ⟨28, _⟩ => ⟨S5, .i1⟩
  | .hbm, ⟨29, _⟩ => ⟨S_, .i32⟩
  | .hbm, ⟨30, _⟩ => ⟨S5, .i32⟩
  | .hbm, ⟨31, _⟩ => ⟨S5, .i32⟩
  | .hbm, ⟨32, _⟩ => ⟨S5, .i32⟩
  | .hbm, ⟨33, _⟩ => ⟨S_, .i32⟩
  | .hbm, ⟨34, _⟩ => ⟨S_, .i32⟩
  | .hbm, ⟨35, _⟩ => ⟨S5, .i32⟩
  | .hbm, ⟨36, _⟩ => ⟨S5, .i32⟩
  | .hbm, ⟨37, _⟩ => ⟨S256, .i32⟩
  | .hbm, ⟨38, _⟩ => ⟨S1x256, .i32⟩
  | .hbm, ⟨39, _⟩ => ⟨S5x1, .i32⟩
  | .hbm, ⟨40, _⟩ => ⟨S5x256, .i32⟩
  | .hbm, ⟨41, _⟩ => ⟨S5x256, .i32⟩
  | .hbm, ⟨42, _⟩ => ⟨S5x256, .i1⟩
  | .hbm, ⟨43, _⟩ => ⟨S5x256, .i32⟩
  | .hbm, ⟨44, _⟩ => ⟨S_, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S256, .i32⟩
  | .hbm, ⟨60, _⟩ => ⟨S256, .i32⟩
  | .hbm, ⟨61, _⟩ => ⟨S256, .i32⟩
  | .hbm, ⟨62, _⟩ => ⟨S256x1, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S256, .i32⟩
  | .hbm, ⟨74, _⟩ => ⟨S256, .i32⟩
  | .hbm, ⟨75, _⟩ => ⟨S_, .i32⟩
  | .hbm, ⟨76, _⟩ => ⟨S256, .i32⟩
  | .hbm, ⟨77, _⟩ => ⟨S256, .i1⟩
  | .hbm, ⟨78, _⟩ => ⟨S256, .i1⟩
  | .hbm, ⟨79, _⟩ => ⟨S_, .i32⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S_, .i32⟩
  | .hbm, ⟨85, _⟩ => ⟨S256, .i32⟩
  | .hbm, ⟨86, _⟩ => ⟨S256, .i1⟩
  | .hbm, ⟨87, _⟩ => ⟨S_, .i32⟩
  | .hbm, ⟨88, _⟩ => ⟨S256, .i32⟩
  | .hbm, ⟨89, _⟩ => ⟨S256, .i32⟩
  | .hbm, ⟨90, _⟩ => ⟨S256, .i32⟩
  | .hbm, ⟨91, _⟩ => ⟨S256x1, .i32⟩
  | .hbm, ⟨92, _⟩ => ⟨S256x4096, .f32⟩
  | .hbm, ⟨93, _⟩ => ⟨S256x4096, .bf16⟩
  | .hbm, ⟨94, _⟩ => ⟨S_, .i32⟩
  | .hbm, ⟨95, _⟩ => ⟨S256, .i32⟩
  | .hbm, ⟨96, _⟩ => ⟨S256, .i1⟩
  | .hbm, ⟨97, _⟩ => ⟨S_, .i32⟩
  | .hbm, ⟨98, _⟩ => ⟨S256, .i32⟩
  | .hbm, ⟨99, _⟩ => ⟨S256, .i32⟩
  | .hbm, ⟨100, _⟩ => ⟨S256, .i32⟩
  | .hbm, ⟨101, _⟩ => ⟨S256x1, .i32⟩
  | .hbm, ⟨102, _⟩ => ⟨S256x6144, .f32⟩
  | .hbm, ⟨103, _⟩ => ⟨S256x6144, .bf16⟩
  | .hbm, ⟨104, _⟩ => ⟨S256x1, .i32⟩
  | .hbm, ⟨105, _⟩ => ⟨S5x4096x6144, .f32⟩
  | .local _ .vmem, ⟨0, _⟩ => ⟨S256x4096, .fp8e4m3⟩
  | .local _ .vmem, ⟨1, _⟩ => ⟨S256x4096, .bf16⟩
  | .local _ .vmem, ⟨2, _⟩ => ⟨S256x6144, .fp8e4m3⟩
  | .local _ .vmem, ⟨3, _⟩ => ⟨S256x6144, .bf16⟩
  | .local _ .vmem, ⟨4, _⟩ => ⟨S256x1, .i32⟩
  | .local _ .vmem, ⟨5, _⟩ => ⟨S5x4096x6144, .f32⟩
  | _, _ => ⟨S256x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v6 : Ref sig .tc := ⟨.hbm, 32, rfl⟩
abbrev main_call2_call0_c : Ref sig .tc := ⟨.hbm, 33, rfl⟩
abbrev main_call2_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_call3_call0_v0 : Ref sig .tc := ⟨.hbm, 38, rfl⟩
abbrev main_call3_call0_v1 : Ref sig .tc := ⟨.hbm, 39, rfl⟩
abbrev main_call3_call0_v2 : Ref sig .tc := ⟨.hbm, 40, rfl⟩
abbrev main_call3_call0_v3 : Ref sig .tc := ⟨.hbm, 41, rfl⟩
abbrev main_call3_call0_v4 : Ref sig .tc := ⟨.hbm, 42, rfl⟩
abbrev main_call3_call0_v5 : Ref sig .tc := ⟨.hbm, 43, rfl⟩
abbrev main_call3_call0_c : Ref sig .tc := ⟨.hbm, 44, rfl⟩
abbrev main_v10 : Ref sig .tc := ⟨.hbm, 45, rfl⟩
abbrev main_c_2 : Ref sig .tc := ⟨.hbm, 46, rfl⟩
abbrev main_v11 : Ref sig .tc := ⟨.hbm, 47, rfl⟩
abbrev main_v12 : Ref sig .tc := ⟨.hbm, 48, rfl⟩
abbrev main_c_3 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_4 : Ref sig .tc := ⟨.hbm, 55, rfl⟩
abbrev main_v18 : Ref sig .tc := ⟨.hbm, 56, rfl⟩
abbrev main_v19 : Ref sig .tc := ⟨.hbm, 57, rfl⟩
abbrev main_c_5 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_6 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_v7 : Ref sig .tc := ⟨.hbm, 73, rfl⟩
abbrev main_call4_v8 : Ref sig .tc := ⟨.hbm, 74, rfl⟩
abbrev main_call4_c : Ref sig .tc := ⟨.hbm, 75, rfl⟩
abbrev main_call4_v9 : Ref sig .tc := ⟨.hbm, 76, rfl⟩
abbrev main_call4_v10 : Ref sig .tc := ⟨.hbm, 77, rfl⟩
abbrev main_call4_v11 : Ref sig .tc := ⟨.hbm, 78, rfl⟩
abbrev main_call4_c_0 : Ref sig .tc := ⟨.hbm, 79, rfl⟩
abbrev main_call4_v12 : Ref sig .tc := ⟨.hbm, 80, rfl⟩
abbrev main_call4_v13 : Ref sig .tc := ⟨.hbm, 81, rfl⟩
abbrev main_v26 : Ref sig .tc := ⟨.hbm, 82, rfl⟩
abbrev main_v27 : Ref sig .tc := ⟨.hbm, 83, rfl⟩
abbrev main_c_7 : Ref sig .tc := ⟨.hbm, 84, rfl⟩
abbrev main_v28 : Ref sig .tc := ⟨.hbm, 85, rfl⟩
abbrev main_v29 : Ref sig .tc := ⟨.hbm, 86, rfl⟩
abbrev main_c_8 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_9 : Ref sig .tc := ⟨.hbm, 94, rfl⟩
abbrev main_v36 : Ref sig .tc := ⟨.hbm, 95, rfl⟩
abbrev main_v37 : Ref sig .tc := ⟨.hbm, 96, rfl⟩
abbrev main_c_10 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x4096x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/-
  Hand-written, untrusted. The 32-bit words the kernel computes its loop bounds, ring slots and tile rows with, as
  natural numbers: a group's word enters them only through `live`, 32 (the tiles of one expert) for a positive size
  and 0 otherwise, so a count of tiles written before an expert is `32 * b` with `b ≤ 4`.
-/
module

public import Idealize.ShloMosaic.Lib.Scf
public import Idealize.ShloMosaic.Lib.WordCmp
public import Idealize.ShloMosaic.Lib.Ring

@[expose] public section

noncomputable section

namespace Cert.Hand

open Idealize.ShloMosaic

/-- The number of tiles a group of size `v` writes through the ring, as the kernel computes it. -/
def live (v : BitVec 32) : BitVec 32 := Scalar.select (Scalar.cmpi .sgt v 0#32) 32#32 0#32

theorem live_cases (v : BitVec 32) : live v = 32#32 ∨ live v = 0#32 := by
  unfold live Scalar.select; split <;> simp

/-- The trip's number, as the kernel forms it from the loop's counter. -/
def tripW (k : ℕ) : BitVec 32 := Scalar.addi 0#32 (Scalar.muli (Scf.iv 0#32 1#32 k) 1#32)

theorem tripW_eq (k : ℕ) : tripW k = BitVec.ofNat 32 k := by
  unfold tripW Scalar.addi Scalar.muli Scf.iv IntOp.addi IntOp.muli; simp

/-- The row a trip's tile starts at. -/
theorem row_toNat {k : ℕ} (hk : k < 32) : (Scalar.muli (tripW k) 128#32).toNat = 128 * k := by
  rw [tripW_eq]; unfold Scalar.muli IntOp.muli; simp; omega

/-- The tile's place in the sequence of written tiles, `B` tiles having been written before its expert. -/
def seqW (B : BitVec 32) (k : ℕ) : BitVec 32 := Scalar.addi B (tripW k)

theorem seqW_eq {B : BitVec 32} {b k : ℕ} (hB : B = BitVec.ofNat 32 (32 * b)) : seqW B k = BitVec.ofNat 32 (32 * b + k) := by
  unfold seqW Scalar.addi IntOp.addi; rw [tripW_eq, hB, BitVec.ofNat_add]

/-- The ring slot of a tile: its place modulo 8, which is its number modulo 8. -/
theorem slot_toNat {B : BitVec 32} {b k : ℕ} (hB : B = BitVec.ofNat 32 (32 * b)) (hb : b ≤ 4) (hk : k < 32) :
    (Scalar.remsi (seqW B k) 8#32).toNat = k % 8 := by
  rw [seqW_eq hB]
  have h : ∀ n : ℕ, n < 160 → (Scalar.remsi (BitVec.ofNat 32 n) 8#32).toNat = n % 8 := by decide +kernel
  rw [h _ (by omega)]; omega

/-- A slot is waited for exactly when eight tiles or more were written before. -/
theorem wait_iff {B : BitVec 32} {b k : ℕ} (hB : B = BitVec.ofNat 32 (32 * b)) (hb : b ≤ 4) (hk : k < 32) :
    Scalar.cmpi .ne (Scalar.extui (Scalar.cmpi .sge (seqW B k) 8#32) : BitVec 32) 0#32 = 1#1 ↔ 8 ≤ 32 * b + k := by
  rw [seqW_eq hB]
  have h : ∀ n : ℕ, n < 160 →
      (Scalar.cmpi .ne (Scalar.extui (Scalar.cmpi .sge (BitVec.ofNat 32 n) 8#32) : BitVec 32) 0#32 = 1#1 ↔ 8 ≤ n) := by
    decide +kernel
  exact h _ (by omega)

/-- The bound of a loop over `n` tiles, as the kernel divides the count by its step one. -/
def boundW (n : BitVec 32) : BitVec 32 :=
  Scalar.addi 0#32 (Scalar.muli (Scalar.divsi (Scalar.subi (Scalar.divsi (Scalar.addi (Scalar.subi n 0#32) (Scalar.subi 1#32 1#32)) 1#32) 0#32) 1#32) 1#32)

/-- The bound of the loop over the tiles the division leaves over: there are none. -/
def topW (n : BitVec 32) : BitVec 32 :=
  Scalar.addi 0#32 (Scalar.subi (Scalar.divsi (Scalar.addi (Scalar.subi n 0#32) (Scalar.subi 1#32 1#32)) 1#32) 0#32)

/-- A loop over `n ≤ 160` tiles has `n` trips, and the loop over what is left over has none. -/
theorem loop_facts {n : ℕ} (h : n ≤ 160) :
    (Scf.trips 0#32 (boundW (BitVec.ofNat 32 n)) 1#32 = n ∧ Scf.OK 0#32 (boundW (BitVec.ofNat 32 n)) 1#32)
      ∧ Scf.trips (boundW (BitVec.ofNat 32 n)) (topW (BitVec.ofNat 32 n)) 1#32 = 0
      ∧ Scf.OK (boundW (BitVec.ofNat 32 n)) (topW (BitVec.ofNat 32 n)) 1#32 := by
  have h' : ∀ n : ℕ, n < 161 → (Scf.trips 0#32 (boundW (BitVec.ofNat 32 n)) 1#32 = n
        ∧ (0 < (1#32).toInt ∧ (0#32).toInt + Scf.trips 0#32 (boundW (BitVec.ofNat 32 n)) 1#32 * (1#32).toInt < 2 ^ (32 - 1)))
      ∧ Scf.trips (boundW (BitVec.ofNat 32 n)) (topW (BitVec.ofNat 32 n)) 1#32 = 0
      ∧ (0 < (1#32).toInt ∧ (boundW (BitVec.ofNat 32 n)).toInt
          + Scf.trips (boundW (BitVec.ofNat 32 n)) (topW (BitVec.ofNat 32 n)) 1#32 * (1#32).toInt < 2 ^ (32 - 1)) := by
    decide +kernel
  exact h' n (by omega)

/-- `live` as a count. -/
def liveN (v : BitVec 32) : ℕ := if Scalar.cmpi .sgt v 0#32 = 1#1 then 1 else 0

theorem liveN_le (v : BitVec 32) : liveN v ≤ 1 := by unfold liveN; split <;> omega

theorem live_eq (v : BitVec 32) : live v = BitVec.ofNat 32 (32 * liveN v) := by
  unfold live liveN Scalar.select; split <;> simp_all

/-- The number of empty groups a word adds. -/
def zeroN (v : BitVec 32) : ℕ := if v = 0#32 then 1 else 0

theorem zeroN_le (v : BitVec 32) : zeroN v ≤ 1 := by unfold zeroN; split <;> omega

theorem zero_eq (v : BitVec 32) : (Scalar.extui (Scalar.cmpi .eq v 0#32) : BitVec 32) = BitVec.ofNat 32 (zeroN v) := by
  unfold zeroN Scalar.extui Scalar.cmpi IntOp.cmpi; by_cases h : v = 0#32
  · simp [h]
  · rw [show (v == 0#32) = false from beq_eq_false_iff_ne.mpr h]; simp [h]

/-- The kernel's test of an empty group. -/
theorem zero_iff (v : BitVec 32) :
    Scalar.cmpi .ne (Scalar.extui (Scalar.cmpi .eq v 0#32) : BitVec 32) 0#32 = 1#1 ↔ v = 0#32 := by
  rw [zero_eq]; unfold zeroN Scalar.cmpi IntOp.cmpi; by_cases h : v = 0#32 <;> simp [h]

/-- The kernel's test of a positive group, and its count. -/
theorem liveN_pos_iff (v : BitVec 32) : liveN v = 1 ↔ 0 < v.toInt := by
  unfold liveN Scalar.cmpi IntOp.cmpi; cases h : (0#32).slt v <;> simp_all [BitVec.slt]

/-- The slots in use at the end: the tiles written, at most the ring's eight. -/
theorem min_eq {n : ℕ} (h : n ≤ 160) : Scalar.minsi (BitVec.ofNat 32 n) 8#32 = BitVec.ofNat 32 (min n 8) := by
  have h' : ∀ n : ℕ, n < 161 → Scalar.minsi (BitVec.ofNat 32 n) 8#32 = BitVec.ofNat 32 (min n 8) := by decide +kernel
  exact h' n (by omega)

end Cert.Hand

end
-- ==== Proof.Chk.lean ====
/-
  Hand-written, untrusted. The side conditions the kernel assumes of the group words it reads hold of EVERY word: a
  word enters the offsets only through `live`, so one expert's conditions are one statement (`ringChk`) over the
  number of tiles written before it, and the five generated conditions are its instances.
-/
module

public import proofs.«01_k».proof.Proof.Gen.KernelIdeal
public import proofs.«01_k».proof.Proof.Words

@[expose] public section

noncomputable section

namespace Cert.KernelIdeal.Hand

open Cert.KernelIdeal Cert.KernelIdeal.Gen Cert.Hand
open Idealize.ShloMosaic

/-- The loop over an expert's tiles, and the loop over what the division leaves over. -/
abbrev mainLoop (v : BitVec 32) : Scf.Loop 32 := ⟨0#32, boundW (live v), 1#32⟩
abbrev restLoop (v : BitVec 32) : Scf.Loop 32 := ⟨boundW (live v), topW (live v), 1#32⟩

theorem mainLoop_trips (v : BitVec 32) : (mainLoop v).trips = 32 * liveN v := by
  have := liveN_le v
  show Scf.trips _ _ _ = _
  dsimp only; rw [live_eq]; exact (loop_facts (by omega)).1.1
theorem mainLoop_ok (v : BitVec 32) : (mainLoop v).OK := by
  have := liveN_le v
  show Scf.OK _ _ _
  dsimp only; rw [live_eq]; exact (loop_facts (by omega)).1.2
theorem restLoop_trips (v : BitVec 32) : (restLoop v).trips = 0 := by
  have := liveN_le v
  show Scf.trips _ _ _ = _
  dsimp only; rw [live_eq]; exact (loop_facts (by omega)).2.1
theorem restLoop_ok (v : BitVec 32) : (restLoop v).OK := by
  have := liveN_le v
  show Scf.OK _ _ _
  dsimp only; rw [live_eq]; exact (loop_facts (by omega)).2.2

theorem mainLoop_lt {v : BitVec 32} (k : Fin (mainLoop v).trips) : (k : ℕ) < 32 := by
  have := lt_of_lt_of_eq k.2 (mainLoop_trips v); have := liveN_le v; omega
theorem mainLoop_live {v : BitVec 32} (k : Fin (mainLoop v).trips) : liveN v = 1 := by
  have := lt_of_lt_of_eq k.2 (mainLoop_trips v); have := liveN_le v; omega
theorem restLoop_elim {v : BitVec 32} {P : Prop} (k : Fin (restLoop v).trips) : P := by
  exact absurd (lt_of_lt_of_eq k.2 (restLoop_trips v)) (Nat.not_lt_zero _)

/-- The offsets a trip computes: its ring slot (as a semaphore's and as a buffer's), its tile, its rows of the operand. -/
abbrev offSem (B : BitVec 32) (k : ℕ) : Fin 1 → ℕ := ![(Scalar.remsi (seqW B k) 8#32).toNat]
abbrev offSlot (B : BitVec 32) (k : ℕ) : Fin 3 → ℕ := ![(Scalar.remsi (seqW B k) 8#32).toNat, 0, 0]
abbrev offTile (e : ℕ) (k : ℕ) : Fin 3 → ℕ := ![e, (Scalar.muli (tripW k) 128#32).toNat, 0]
abbrev offRows (k : ℕ) : Fin 2 → ℕ := ![(Scalar.muli (tripW k) 128#32).toNat, 0]

section
variable {B : BitVec 32} {b k : ℕ} (hB : B = BitVec.ofNat 32 (32 * b)) (hb : b ≤ 4) (hk : k < 32)
include hB hb hk
theorem offSem_eq : offSem B k = ![k % 8] := by rw [offSem, slot_toNat hB hb hk]
theorem offSlot_eq : offSlot B k = ![k % 8, 0, 0] := by rw [offSlot, slot_toNat hB hb hk]
theorem offSem_inb : ∀ a, offSem B k a + S1.size a ≤ S8.size a := by
  rw [offSem_eq hB hb hk]
  intro a; fin_cases a; show k % 8 + 1 ≤ 8; omega
theorem offSlot_inb : ∀ a, offSlot B k a + S1x128x6144.size a ≤ S8x128x6144.size a := by
  rw [offSlot_eq hB hb hk]
  intro a; fin_cases a
  · show k % 8 + 1 ≤ 8; omega
  · show 0 + 128 ≤ 128; omega
  · show 0 + 6144 ≤ 6144; omega
end
section
variable {e k : ℕ} (hk : k < 32)
include hk
theorem offTile_eq : offTile e k = ![e, 128 * k, 0] := by rw [offTile, row_toNat hk]
theorem offRows_eq : offRows k = ![128 * k, 0] := by rw [offRows, row_toNat hk]
theorem offTile_inb (he : e < 5) : ∀ a, offTile e k a + S1x128x6144.size a ≤ S5x4096x6144.size a := by
  rw [offTile_eq hk]
  intro a; fin_cases a
  · show e + 1 ≤ 5; omega
  · show 128 * k + 128 ≤ 4096; omega
  · show 0 + 6144 ≤ 6144; omega
theorem offRows_inb : ∀ a, offRows k a + S128x256.size a ≤ S4096x256.size a := by
  rw [offRows_eq hk]
  intro a; fin_cases a
  · show 128 * k + 128 ≤ 4096; omega
  · show 0 + 256 ≤ 256; omega
theorem mult_dvd : 128 ∣ (Scalar.muli (tripW k) 128#32).toNat := by rw [row_toNat hk]; exact ⟨k, rfl⟩
end

/-- The conditions of one expert, as the kernel states them: `v` its word, `B` the tiles written before it. -/
abbrev ringFacts (B v : BitVec 32) (e : ℕ) : Prop :=
  (mainLoop v).OK ∧
  (∀ k : Fin (mainLoop v).trips, Scalar.cmpi .ne (Scalar.extui (Scalar.cmpi .sge (seqW B k) 8#32) : BitVec 32) 0#32 = 1#1 →
    128 ∣ (Scalar.muli (tripW k) 128#32).toNat) ∧
  (∀ k : Fin (mainLoop v).trips, Scalar.cmpi .ne (Scalar.extui (Scalar.cmpi .sge (seqW B k) 8#32) : BitVec 32) 0#32 = 1#1 →
    ∀ a, offSem B k a + S1.size a ≤ S8.size a) ∧
  (∀ k : Fin (mainLoop v).trips, Scalar.cmpi .ne (Scalar.extui (Scalar.cmpi .sge (seqW B k) 8#32) : BitVec 32) 0#32 = 1#1 →
    ∀ a, offTile e k a + S1x128x6144.size a ≤ S5x4096x6144.size a) ∧
  (∀ k : Fin (mainLoop v).trips, Scalar.cmpi .ne (Scalar.extui (Scalar.cmpi .sge (seqW B k) 8#32) : BitVec 32) 0#32 = 1#1 →
    ∀ a, offSlot B k a + S1x128x6144.size a ≤ S8x128x6144.size a) ∧
  (∀ k : Fin (mainLoop v).trips, 128 ∣ (Scalar.muli (tripW k) 128#32).toNat) ∧
  (∀ k : Fin (mainLoop v).trips, ∀ a, offRows k a + S128x256.size a ≤ S4096x256.size a) ∧
  (∀ k : Fin (mainLoop v).trips, ∀ a, offSlot B k a + S1x128x6144.size a ≤ S8x128x6144.size a) ∧
  (∀ k : Fin (mainLoop v).trips, 128 ∣ (Scalar.muli (tripW k) 128#32).toNat) ∧
  (∀ k : Fin (mainLoop v).trips, ∀ a, offSem B k a + S1.size a ≤ S8.size a) ∧
  (∀ k : Fin (mainLoop v).trips, ∀ a, offTile e k a + S1x128x6144.size a ≤ S5x4096x6144.size a) ∧
  (∀ k : Fin (mainLoop v).trips, ∀ a, offSlot B k a + S1x128x6144.size a ≤ S8x128x6144.size a) ∧
  (restLoop v).OK ∧ ∀ P : Prop, Fin (restLoop v).trips → P

theorem ringFacts_all {B : BitVec 32} {b : ℕ} (hB : B = BitVec.ofNat 32 (32 * b)) (hb : b ≤ 4) (v : BitVec 32) {e : ℕ} (he : e < 5) :
    ringFacts B v e :=
  ⟨mainLoop_ok v, fun k _ => mult_dvd (mainLoop_lt k), fun k _ => offSem_inb hB hb (mainLoop_lt k),
    fun k _ => offTile_inb (mainLoop_lt k) he, fun k _ => offSlot_inb hB hb (mainLoop_lt k), fun k => mult_dvd (mainLoop_lt k),
    fun k => offRows_inb (mainLoop_lt k), fun k => offSlot_inb hB hb (mainLoop_lt k), fun k => mult_dvd (mainLoop_lt k),
    fun k => offSem_inb hB hb (mainLoop_lt k), fun k => offTile_inb (mainLoop_lt k) he, fun k => offSlot_inb hB hb (mainLoop_lt k),
    restLoop_ok v, fun _ k => restLoop_elim k⟩

/-- The tiles written before each expert, as the kernel adds them up. -/
abbrev base1 (v0 : BitVec 32) : BitVec 32 := Scalar.addi 0#32 (live v0)
abbrev base2 (v0 v1 : BitVec 32) : BitVec 32 := Scalar.addi (base1 v0) (live v1)
abbrev base3 (v0 v1 v2 : BitVec 32) : BitVec 32 := Scalar.addi (base2 v0 v1) (live v2)
abbrev base4 (v0 v1 v2 v3 : BitVec 32) : BitVec 32 := Scalar.addi (base3 v0 v1 v2) (live v3)
abbrev base5 (v0 v1 v2 v3 v4 : BitVec 32) : BitVec 32 := Scalar.addi (base4 v0 v1 v2 v3) (live v4)

theorem base_add {B : BitVec 32} {b : ℕ} (hB : B = BitVec.ofNat 32 (32 * b)) (v : BitVec 32) :
    Scalar.addi B (live v) = BitVec.ofNat 32 (32 * (b + liveN v)) := by
  rw [hB, live_eq]; unfold Scalar.addi IntOp.addi; rw [Nat.mul_add, BitVec.ofNat_add]
theorem base0_eq : (0#32 : BitVec 32) = BitVec.ofNat 32 (32 * 0) := rfl
theorem base1_eq (v0 : BitVec 32) : base1 v0 = BitVec.ofNat 32 (32 * (0 + liveN v0)) := base_add base0_eq v0
theorem base2_eq (v0 v1 : BitVec 32) : base2 v0 v1 = BitVec.ofNat 32 (32 * (0 + liveN v0 + liveN v1)) := base_add (base1_eq v0) v1
theorem base3_eq (v0 v1 v2 : BitVec 32) : base3 v0 v1 v2 = BitVec.ofNat 32 (32 * (0 + liveN v0 + liveN v1 + liveN v2)) :=
  base_add (base2_eq v0 v1) v2
theorem base4_eq (v0 v1 v2 v3 : BitVec 32) :
    base4 v0 v1 v2 v3 = BitVec.ofNat 32 (32 * (0 + liveN v0 + liveN v1 + liveN v2 + liveN v3)) :=
  base_add (base3_eq v0 v1 v2) v3
theorem base5_eq (v0 v1 v2 v3 v4 : BitVec 32) :
    base5 v0 v1 v2 v3 v4 = BitVec.ofNat 32 (32 * (0 + liveN v0 + liveN v1 + liveN v2 + liveN v3 + liveN v4)) :=
  base_add (base4_eq v0 v1 v2 v3) v4

/-- The ring's last waits: over the slots in use. -/
abbrev drainLoop (v0 v1 v2 v3 v4 : BitVec 32) : Scf.Loop 32 := ⟨0#32, boundW (Scalar.minsi (base5 v0 v1 v2 v3 v4) 8#32), 1#32⟩
abbrev drainRest (v0 v1 v2 v3 v4 : BitVec 32) : Scf.Loop 32 :=
  ⟨boundW (Scalar.minsi (base5 v0 v1 v2 v3 v4) 8#32), topW (Scalar.minsi (base5 v0 v1 v2 v3 v4) 8#32), 1#32⟩

section
variable (v0 v1 v2 v3 v4 : BitVec 32)
/-- The number of positive groups. -/
abbrev liveSum : ℕ := 0 + liveN v0 + liveN v1 + liveN v2 + liveN v3 + liveN v4
theorem liveSum_le : liveSum v0 v1 v2 v3 v4 ≤ 5 := by
  have := liveN_le v0; have := liveN_le v1; have := liveN_le v2; have := liveN_le v3; have := liveN_le v4
  show 0 + liveN v0 + liveN v1 + liveN v2 + liveN v3 + liveN v4 ≤ 5; omega
theorem drain_word : Scalar.minsi (base5 v0 v1 v2 v3 v4) 8#32 = BitVec.ofNat 32 (min (32 * liveSum v0 v1 v2 v3 v4) 8) := by
  have := liveSum_le v0 v1 v2 v3 v4
  rw [show base5 v0 v1 v2 v3 v4 = BitVec.ofNat 32 (32 * liveSum v0 v1 v2 v3 v4) from base5_eq v0 v1 v2 v3 v4]; exact min_eq (by omega)
theorem drainLoop_trips : (drainLoop v0 v1 v2 v3 v4).trips = min (32 * liveSum v0 v1 v2 v3 v4) 8 := by
  show Scf.trips _ _ _ = _; dsimp only; rw [drain_word]; exact (loop_facts (by omega)).1.1
theorem drainLoop_ok : (drainLoop v0 v1 v2 v3 v4).OK := by
  show Scf.OK _ _ _; dsimp only; rw [drain_word]; exact (loop_facts (by omega)).1.2
theorem drainRest_trips : (drainRest v0 v1 v2 v3 v4).trips = 0 := by
  show Scf.trips _ _ _ = _; dsimp only; rw [drain_word]; exact (loop_facts (by omega)).2.1
theorem drainRest_ok : (drainRest v0 v1 v2 v3 v4).OK := by
  show Scf.OK _ _ _; dsimp only; rw [drain_word]; exact (loop_facts (by omega)).2.2
theorem drainLoop_lt (k : Fin (drainLoop v0 v1 v2 v3 v4).trips) : (k : ℕ) < 8 := by
  have := lt_of_lt_of_eq k.2 (drainLoop_trips v0 v1 v2 v3 v4); omega
theorem drainRest_elim {P : Prop} (k : Fin (drainRest v0 v1 v2 v3 v4).trips) : P := by
  exact absurd (lt_of_lt_of_eq k.2 (drainRest_trips v0 v1 v2 v3 v4)) (Nat.not_lt_zero _)
end

theorem trip_toNat {k : ℕ} (hk : k < 32) : (tripW k).toNat = k := by rw [tripW_eq]; simp; omega

theorem drainSem_inb {k : ℕ} (hk : k < 8) : ∀ a, (![(tripW k).toNat] : Fin 1 → ℕ) a + S1.size a ≤ S8.size a := by
  rw [trip_toNat (by omega)]; intro a; fin_cases a; show k + 1 ≤ 8; omega
theorem drainSlot_inb {k : ℕ} (hk : k < 8) : ∀ a, (![(tripW k).toNat, 0, 0] : Fin 3 → ℕ) a + S1x128x6144.size a ≤ S8x128x6144.size a := by
  rw [trip_toNat (by omega)]; intro a; fin_cases a
  · show k + 1 ≤ 8; omega
  · show 0 + 128 ≤ 128; omega
  · show 0 + 6144 ≤ 6144; omega

theorem chk1_all (v0 : BitVec 32) : k0_chk1 v0 := by
  obtain ⟨h1, h2, h3, h4, h5, h6, h7, h8, h9, h10, h11, h12, h13, hr⟩ := ringFacts_all (e := 0) base0_eq (by omega) v0 (by omega)
  exact ⟨h1, h2, h3, h4, h5, h6, h7, h8, h9, h10, h11, h12, h13, fun k => hr _ k, fun k => hr _ k, fun k => hr _ k, fun k => hr _ k,
    fun k => hr _ k, fun k => hr _ k, fun k => hr _ k, fun k => hr _ k, fun k => hr _ k, fun k => hr _ k, fun k => hr _ k⟩
theorem chk2_all (v0 v1 : BitVec 32) : k0_chk2 v0 v1 := by
  have := liveN_le v0
  obtain ⟨h1, h2, h3, h4, h5, h6, h7, h8, h9, h10, h11, h12, h13, hr⟩ := ringFacts_all (e := 1) (base1_eq v0) (by omega) v1 (by omega)
  exact ⟨h1, h2, h3, h4, h5, h6, h7, h8, h9, h10, h11, h12, h13, fun k => hr _ k, fun k => hr _ k, fun k => hr _ k, fun k => hr _ k,
    fun k => hr _ k, fun k => hr _ k, fun k => hr _ k, fun k => hr _ k, fun k => hr _ k, fun k => hr _ k, fun k => hr _ k⟩
theorem chk3_all (v0 v1 v2 : BitVec 32) : k0_chk3 v0 v1 v2 := by
  have := liveN_le v0; have := liveN_le v1
  obtain ⟨h1, h2, h3, h4, h5, h6, h7, h8, h9, h10, h11, h12, h13, hr⟩ := ringFacts_all (e := 2) (base2_eq v0 v1) (by omega) v2 (by omega)
  exact ⟨h1, h2, h3, h4, h5, h6, h7, h8, h9, h10, h11, h12, h13, fun k => hr _ k, fun k => hr _ k, fun k => hr _ k, fun k => hr _ k,
    fun k => hr _ k, fun k => hr _ k, fun k => hr _ k, fun k => hr _ k, fun k => hr _ k, fun k => hr _ k, fun k => hr _ k⟩
theorem chk4_all (v0 v1 v2 v3 : BitVec 32) : k0_chk4 v0 v1 v2 v3 := by
  have := liveN_le v0; have := liveN_le v1; have := liveN_le v2
  obtain ⟨h1, h2, h3, h4, h5, h6, h7, h8, h9, h10, h11, h12, h13, hr⟩ := ringFacts_all (e := 3) (base3_eq v0 v1 v2) (by omega) v3 (by omega)
  exact ⟨h1, h2, h3, h4, h5, h6, h7, h8, h9, h10, h11, h12, h13, fun k => hr _ k, fun k => hr _ k, fun k => hr _ k, fun k => hr _ k,
    fun k => hr _ k, fun k => hr _ k, fun k => hr _ k, fun k => hr _ k, fun k => hr _ k, fun k => hr _ k, fun k => hr _ k⟩
theorem chk5_all (v0 v1 v2 v3 v4 : BitVec 32) : k0_chk5 v0 v1 v2 v3 v4 := by
  have := liveN_le v0; have := liveN_le v1; have := liveN_le v2; have := liveN_le v3
  obtain ⟨h1, h2, h3, h4, h5, h6, h7, h8, h9, h10, h11, h12, h13, hr⟩ := ringFacts_all (e := 4) (base4_eq v0 v1 v2 v3) (by omega) v4 (by omega)
  exact ⟨h1, h2, h3, h4, h5, h6, h7, h8, h9, h10, h11, h12, h13, fun k => hr _ k, fun k => hr _ k, fun k => hr _ k, fun k => hr _ k,
    fun k => hr _ k, fun k => hr _ k, fun k => hr _ k, fun k => hr _ k, fun k => hr _ k, fun k => hr _ k, fun k => hr _ k,
    drainLoop_ok v0 v1 v2 v3 v4, fun k => drainSem_inb (drainLoop_lt v0 v1 v2 v3 v4 k), fun k => drainSlot_inb (drainLoop_lt v0 v1 v2 v3 v4 k),
    drainRest_ok v0 v1 v2 v3 v4, fun k => drainRest_elim v0 v1 v2 v3 v4 k, fun k => drainRest_elim v0 v1 v2 v3 v4 k⟩

/-- The empty groups, as the kernel counts them, and the loop waiting for their tiles. -/
abbrev cntW (v0 v1 v2 v3 v4 : BitVec 32) : BitVec 32 :=
  Scalar.addi (Scalar.addi (Scalar.addi (Scalar.addi (Scalar.addi 0#32 (Scalar.extui (Scalar.cmpi .eq v0 0#32))) (Scalar.extui (Scalar.cmpi .eq v1 0#32)))
    (Scalar.extui (Scalar.cmpi .eq v2 0#32))) (Scalar.extui (Scalar.cmpi .eq v3 0#32))) (Scalar.extui (Scalar.cmpi .eq v4 0#32))
abbrev zeroSum (v0 v1 v2 v3 v4 : BitVec 32) : ℕ := zeroN v0 + zeroN v1 + zeroN v2 + zeroN v3 + zeroN v4
abbrev zeroLoop (v0 v1 v2 v3 v4 : BitVec 32) : Scf.Loop 32 := ⟨0#32, boundW (Scalar.muli (cntW v0 v1 v2 v3 v4) 32#32), 1#32⟩
abbrev zeroRest (v0 v1 v2 v3 v4 : BitVec 32) : Scf.Loop 32 :=
  ⟨boundW (Scalar.muli (cntW v0 v1 v2 v3 v4) 32#32), topW (Scalar.muli (cntW v0 v1 v2 v3 v4) 32#32), 1#32⟩

section
variable (v0 v1 v2 v3 v4 : BitVec 32)
theorem zeroSum_le : zeroSum v0 v1 v2 v3 v4 ≤ 5 := by
  have := zeroN_le v0; have := zeroN_le v1; have := zeroN_le v2; have := zeroN_le v3; have := zeroN_le v4
  show zeroN v0 + zeroN v1 + zeroN v2 + zeroN v3 + zeroN v4 ≤ 5; omega
theorem zero_word : Scalar.muli (cntW v0 v1 v2 v3 v4) 32#32 = BitVec.ofNat 32 (32 * zeroSum v0 v1 v2 v3 v4) := by
  simp only [cntW, zero_eq, Scalar.addi, Scalar.muli, IntOp.addi, IntOp.muli, zeroSum, BitVec.ofNat_mul, BitVec.ofNat_add, BitVec.zero_add]
  exact BitVec.mul_comm _ _
theorem zeroLoop_trips : (zeroLoop v0 v1 v2 v3 v4).trips = 32 * zeroSum v0 v1 v2 v3 v4 := by
  have := zeroSum_le v0 v1 v2 v3 v4
  show Scf.trips _ _ _ = _; dsimp only; rw [zero_word]; exact (loop_facts (by omega)).1.1
theorem zeroRest_trips : (zeroRest v0 v1 v2 v3 v4).trips = 0 := by
  have := zeroSum_le v0 v1 v2 v3 v4
  show Scf.trips _ _ _ = _; dsimp only; rw [zero_word]; exact (loop_facts (by omega)).2.1
end

theorem t8_loop (v0 : BitVec 32) : k0_t8_loop v0 = mainLoop v0 := rfl
theorem t16_loop (v4 : BitVec 32) : k0_t16_loop v4 = mainLoop v4 := rfl
theorem t18_loop (v0 v1 v2 v3 v4 : BitVec 32) : k0_t18_loop v0 v1 v2 v3 v4 = zeroLoop v0 v1 v2 v3 v4 := rfl
theorem t19_loop (v0 v1 v2 v3 v4 : BitVec 32) : k0_t19_loop v0 v1 v2 v3 v4 = zeroRest v0 v1 v2 v3 v4 := rfl
theorem t20_loop (v0 v1 v2 v3 v4 : BitVec 32) : k0_t20_loop v0 v1 v2 v3 v4 = drainLoop v0 v1 v2 v3 v4 := rfl
theorem t21_loop (v0 v1 v2 v3 v4 : BitVec 32) : k0_t21_loop v0 v1 v2 v3 v4 = drainRest v0 v1 v2 v3 v4 := rfl

end Cert.KernelIdeal.Hand

end
-- ==== Proof.Ring.lean ====
/-
  Hand-written, untrusted. The ring of eight slots the kernel streams its product tiles out through, one trip at a
  time: a slot is free, or in flight with the tile last put in it, and the wait of a later trip collects that tile.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Chk
public import Idealize.ShloMosaic.Lib.Pipeline.FrameBody
public import Idealize.ShloMosaic.Lib.Batch
public import Idealize.ShloMosaic.Lib.Ring
public import Idealize.ShloMosaic.Lib.ViewIndex
public import Idealize.ShloMosaic.Lib.ValueLayout
public import Idealize.ShloMosaic.Lib.Tactic

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

theorem ret_bind' {Ef : Type → Type 1} {α β : Type} (x : α) (k : α → Prog Ef β) : (Prog.ret x).bind k = k x := rfl

/-- A tile of the result, a slot of the ring, and a slot's semaphore, as the kernel names them. -/
abbrev tileM (off : Fin 3 → ℕ) (h : ∀ a, off a + S1x128x6144.size a ≤ S5x4096x6144.size a) : Memref sig .tc .hbm S128x6144 .f32 :=
  ((Memref.whole main_v0).slice (Rect.unit (s := S5x4096x6144) off S1x128x6144.size h) (fun _ => rfl)).squeeze S128x6144 squeezes_S1x128x6144_S128x6144
abbrev slotM (off : Fin 3 → ℕ) (h : ∀ a, off a + S1x128x6144.size a ≤ S8x128x6144.size a) : Memref sig .tc .vmem S128x6144 .f32 :=
  ((Memref.whole cc0_scratch8).slice (Rect.unit (s := S8x128x6144) off S1x128x6144.size h) (fun _ => rfl)).squeeze S128x6144 squeezes_S1x128x6144_S128x6144
abbrev semM (off : Fin 1 → ℕ) (h : ∀ a, off a + S1.size a ≤ S8.size a) : DmaSem sig :=
  ((cc0_scratch11.slice (Rect.unit (s := S8) off S1.size h)).squeeze S_ squeezes_S1_S_).sem

/-- The wait a trip starts with, before a slot's reuse. -/
def ringWait (cnd : BitVec 1) (oS : Fin 1 → ℕ) (oT oL : Fin 3 → ℕ)
    (hS : ∀ a, oS a + S1.size a ≤ S8.size a) (hT : ∀ a, oT a + S1x128x6144.size a ≤ S5x4096x6144.size a)
    (hL : ∀ a, oL a + S1x128x6144.size a ≤ S8x128x6144.size a) : Prog (TpuEff nD τ sig (Elt F) Λ₀ .tc) Unit :=
  if _h : cnd = 1#1 then
    .op (.waitDma2 (semM oS hS) (slotM oL hL) (tileM oT hT) ((View.wordExact_bits rfl).reshape _ _) ((View.wordExact_bits rfl).reshape _ _)) fun _ => .ret ⟨⟩
  else .ret ⟨⟩

/-- The rest of a trip: the product of a block of rows with the matrix `y`, into the slot and out to its tile. -/
def ringRest (oS : Fin 1 → ℕ) (oT oL : Fin 3 → ℕ) (oR : Fin 2 → ℕ)
    (hS : ∀ a, oS a + S1.size a ≤ S8.size a) (hT : ∀ a, oT a + S1x128x6144.size a ≤ S5x4096x6144.size a)
    (hL : ∀ a, oL a + S1x128x6144.size a ≤ S8x128x6144.size a) (hR : ∀ a, oR a + S128x256.size a ≤ S4096x256.size a)
    (pay : Vec F S128x256 .bf16 → Vec F S256x6144 .bf16 → FVec F S1x128x6144 .f32) : Prog (TpuEff nD τ sig (Elt F) Λ₀ .tc) Unit :=
  .op (.load (Memref.whole cc0_scratch5) (Rect.unit (s := S4096x256) oR S128x256.size hR).toLoadRect (View.loadsAt_vmem h_S128x256)) fun x =>
  .op (.load (Memref.whole cc0_scratch6) (Rect.unit (s := S256x6144) ![0, 0] S256x6144.size inb_S256x6144_S256x6144_0_0).toLoadRect (View.loadsAt_vmem h_S256x6144)) fun y =>
  .op (.load (Memref.whole cc0_scratch8) (Rect.unit (s := S8x128x6144) oL S1x128x6144.size hL).toLoadRect (View.loadsAt_vmem h_S1x128x6144)) fun _ =>
  .op (.store (Memref.whole cc0_scratch8) (Rect.unit (s := S8x128x6144) oL S1x128x6144.size hL) (pay x y) Finset.univ (View.stores_vmem_bits_univ h_S1x128x6144 rfl) (.inl rfl)) fun _ =>
  .op (.enqueueDma (slotM oL hL) (.here (tileM oT hT)) (.dma (semM oS hS)) ((View.wordExact_bits rfl).reshape _ _) ((View.wordExact_bits rfl).reshape _ _) ⟨Or.inl rfl, trivial⟩) fun _ =>
  .ret ⟨⟩

/-- One trip of an expert's loop. -/
def ringBody (cnd : BitVec 1) (oS : Fin 1 → ℕ) (oT oL : Fin 3 → ℕ) (oR : Fin 2 → ℕ)
    (hS : ∀ a, oS a + S1.size a ≤ S8.size a) (hT : ∀ a, oT a + S1x128x6144.size a ≤ S5x4096x6144.size a)
    (hL : ∀ a, oL a + S1x128x6144.size a ≤ S8x128x6144.size a) (hR : ∀ a, oR a + S128x256.size a ≤ S4096x256.size a)
    (pay : Vec F S128x256 .bf16 → Vec F S256x6144 .bf16 → FVec F S1x128x6144 .f32) : Prog (TpuEff nD τ sig (Elt F) Λ₀ .tc) Unit :=
  if _h : cnd = 1#1 then
    .op (.waitDma2 (semM oS hS) (slotM oL hL) (tileM oT hT) ((View.wordExact_bits rfl).reshape _ _) ((View.wordExact_bits rfl).reshape _ _)) fun _ =>
      ringRest oS oT oL oR hS hT hL hR pay
  else ringRest oS oT oL oR hS hT hL hR pay

theorem ringBody_bind (cnd : BitVec 1) (oS : Fin 1 → ℕ) (oT oL : Fin 3 → ℕ) (oR : Fin 2 → ℕ)
    (hS : ∀ a, oS a + S1.size a ≤ S8.size a) (hT : ∀ a, oT a + S1x128x6144.size a ≤ S5x4096x6144.size a)
    (hL : ∀ a, oL a + S1x128x6144.size a ≤ S8x128x6144.size a) (hR : ∀ a, oR a + S128x256.size a ≤ S4096x256.size a)
    (pay : Vec F S128x256 .bf16 → Vec F S256x6144 .bf16 → FVec F S1x128x6144 .f32) :
    ringBody cnd oS oT oL oR hS hT hL hR pay = (ringWait cnd oS oT oL hS hT hL).bind fun _ => ringRest oS oT oL oR hS hT hL hR pay := by
  unfold ringBody ringWait
  split <;> rfl

/-- The elements of tile `k` of expert `e`, and of slot `s`. -/
def TS (e k : ℕ) : Finset S5x4096x6144.Idx := Finset.univ.filter fun i => (i 0).val = e ∧ 128 * k ≤ (i 1).val ∧ (i 1).val < 128 * k + 128
def SS (s : ℕ) : Finset S8x128x6144.Idx := Finset.univ.filter fun i => (i 0).val = s

/-- The credit of one tile's transfer. -/
@[irreducible] def NT : ℕ := (main_v0 : Ref sig .tc).dmaCredit S128x6144 .f32

theorem tile_credit (off : Fin 3 → ℕ) (h : ∀ a, off a + S1x128x6144.size a ≤ S5x4096x6144.size a) : (tileM off h).view.dmaCredit = NT := by unfold NT; rfl
theorem NT_pos : 0 < NT := by
  rw [← tile_credit ![0, 0, 0] inb_S5x4096x6144_S1x128x6144_0_0_0]; exact View.dmaCredit_pos _ (by decide)

theorem tile_set {off : Fin 3 → ℕ} (h : ∀ a, off a + S1x128x6144.size a ≤ S5x4096x6144.size a) {e k : ℕ} (ho : off = ![e, 128 * k, 0]) :
    (tileM off h).view.set = TS e k := by
  subst ho
  rw [Memref.set_view_squeeze]
  refine (View.set_slice_whole main_v0 _).trans (Finset.ext fun i => ?_)
  have h2 : (i 2).val < 6144 := (i 2).isLt
  refine (Rect.mem_set_unit (s := S5x4096x6144)).trans ?_
  simp only [TS, Finset.mem_filter, Finset.mem_univ, _root_.true_and, Fin.forall_fin_succ, IsEmpty.forall_iff, and_true]
  show (e ≤ (i 0).val ∧ (i 0).val < e + 1) ∧ (128 * k ≤ (i 1).val ∧ (i 1).val < 128 * k + 128) ∧ (0 ≤ (i 2).val ∧ (i 2).val < 0 + 6144) ↔ _
  omega
theorem slot_set' {off : Fin 3 → ℕ} (h : ∀ a, off a + S1x128x6144.size a ≤ S8x128x6144.size a) {s : ℕ} (ho : off = ![s, 0, 0]) :
    ((Memref.whole cc0_scratch8).access (Rect.unit (s := S8x128x6144) off S1x128x6144.size h)).set = SS s := by
  subst ho
  refine (View.set_slice_whole cc0_scratch8 _).trans (Finset.ext fun i => ?_)
  have h1 : (i 1).val < 128 := (i 1).isLt
  have h2 : (i 2).val < 6144 := (i 2).isLt
  refine (Rect.mem_set_unit (s := S8x128x6144)).trans ?_
  simp only [SS, Finset.mem_filter, Finset.mem_univ, _root_.true_and, Fin.forall_fin_succ, IsEmpty.forall_iff, and_true]
  show (s ≤ (i 0).val ∧ (i 0).val < s + 1) ∧ (0 ≤ (i 1).val ∧ (i 1).val < 0 + 128) ∧ (0 ≤ (i 2).val ∧ (i 2).val < 0 + 6144) ↔ _
  omega
theorem slot_set {off : Fin 3 → ℕ} (h : ∀ a, off a + S1x128x6144.size a ≤ S8x128x6144.size a) {s : ℕ} (ho : off = ![s, 0, 0]) :
    (slotM off h).view.set = SS s := by
  rw [Memref.set_view_squeeze]; exact slot_set' h ho

theorem rsem_inb (s : Fin 8) : ∀ a, (![s.val] : Fin 1 → ℕ) a + S1.size a ≤ S8.size a := fun a => by fin_cases a; exact s.2
/-- Slot `s`'s semaphore. -/
def rsem (s : Fin 8) : DmaSem sig := semM ![s.val] (rsem_inb s)
theorem sem_eq {off : Fin 1 → ℕ} (h : ∀ a, off a + S1.size a ≤ S8.size a) (s : Fin 8) (ho : off = ![s.val]) : semM off h = rsem s := by
  subst ho; rfl
theorem rsem_vals : (rsem 0 = (6 : Fin 14)) ∧ (rsem 1 = (7 : Fin 14)) ∧ (rsem 2 = (8 : Fin 14)) ∧ (rsem 3 = (9 : Fin 14)) ∧ (rsem 4 = (10 : Fin 14)) ∧ (rsem 5 = (11 : Fin 14))
    ∧ (rsem 6 = (12 : Fin 14)) ∧ (rsem 7 = (13 : Fin 14)) := by
  refine ⟨?_, ?_, ?_, ?_, ?_, ?_, ?_, ?_⟩ <;> decide

/-- The ring's memory in one slot, at some contents. -/
def Rslot (c : Dev nD) (s : ℕ) : sProp 𝕄 :=
  iprop(∃ f : Buf (Elt F) ((c : Thread nD τ).loc cc0_scratch8), ((c : Thread nD τ).loc cc0_scratch8) ↦[SS s]{fullShare} f)

/-- Slot `s` with the tile `Q` last put in it: in flight (`true`), or its semaphore at zero and the slot and the tile at hand. -/
def Slot (c : Dev nD) (u : Bool) (s : Fin 8) (Q : sProp 𝕄) : sProp 𝕄 :=
  match u with
  | true => Transfers.Flight EC (c : Thread nD τ) (.dma (rsem s)) () NT iprop(Q ∗ Rslot c s)
  | false => iprop(Q ∗ Rslot c s ∗ semVal ((c : Thread nD τ), SemLoc.dma (rsem s)) 0)

/-- The ring with the slots of `u` in flight, the tiles at hand and those in flight being `A` in all. -/
def RingSt (c : Dev nD) (u : Fin 8 → Bool) (A : sProp 𝕄) : sProp 𝕄 :=
  iprop(∃ (Q : Fin 8 → sProp 𝕄) (D : sProp 𝕄), ⌜D ∗ bigSep Finset.univ Q ⊢ A⌝ ∗ D ∗ bigSep Finset.univ fun s => Slot c (u s) s (Q s))

/-- What the core owes, at some record of its waits. -/
def Owes (c : Dev nD) : sProp 𝕄 := iprop(∃ W, owes (c : Thread nD τ) 0 W)

theorem sep_focus {I : Type} [DecidableEq I] {S : Finset I} {i : I} (hi : i ∈ S) (Φ : I → sProp 𝕄) : bigSep S Φ ⊢ iprop(Φ i ∗ bigSep (S.erase i) Φ) :=
  Entails.of_eq (bigSep_erase hi)
theorem sep_unfocus {I : Type} [DecidableEq I] {S : Finset I} {i : I} (hi : i ∈ S) (Φ : I → sProp 𝕄) : iprop(Φ i ∗ bigSep (S.erase i) Φ) ⊢ bigSep S Φ :=
  Entails.of_eq (bigSep_erase hi).symm

/-- Opening slot `s` of a ring state, and closing it with a next tile. -/
theorem ring_focus (c : Dev nD) (u : Fin 8 → Bool) (A : sProp 𝕄) (s : Fin 8) :
    RingSt c u A ⊢ iprop(∃ Q, Slot c (u s) s Q ∗ ∀ (b : Bool) (Q' : sProp 𝕄), (Q ∗ Slot c b s iprop(Q')) -∗ RingSt c (Function.update u s b) iprop(A ∗ Q')) := by
  unfold RingSt
  iintro ⟨%Q, %D, %hA, HD, HS⟩
  ihave HS := (sep_focus (Finset.mem_univ s) _) $$ HS
  icases HS with ⟨H1, HR⟩
  iexists (Q s)
  isplitl [H1]; iexact H1
  iintro %b %Q' ⟨HQ, HS⟩
  iexists (Function.update Q s Q'), iprop(D ∗ Q s)
  isplitr
  · ipureintro
    have h1 : bigSep Finset.univ (Function.update Q s Q') ⊢ iprop(Q' ∗ bigSep (Finset.univ.erase s) Q) :=
      (sep_focus (Finset.mem_univ s) _).trans (Entails.of_eq (by
        rw [Function.update_self, bigSep_congr (Φ := Function.update Q s Q') (Ψ := Q) (fun t ht => by rw [Function.update_of_ne (Finset.ne_of_mem_erase ht)])]))
    iintro ⟨⟨HD, HQ⟩, HU⟩
    ihave HU := h1 $$ HU
    icases HU with ⟨HQ', HR⟩
    isplitr [HQ']
    · iapply hA; isplitl [HD]; iexact HD; iapply (sep_unfocus (Finset.mem_univ s) Q); isplitl [HQ]; iexact HQ; iexact HR
    · iexact HQ'
  isplitl [HD HQ]
  · isplitl [HD]; iexact HD; iexact HQ
  iapply (sep_unfocus (Finset.mem_univ s) fun t => Slot c (Function.update u s b t) t (Function.update Q s Q' t))
  isplitl [HS]
  · iapply (Entails.of_eq (show Slot c b s Q' = Slot c (Function.update u s b s) s (Function.update Q s Q' s) by rw [Function.update_self, Function.update_self])) $$ HS
  iapply (Entails.of_eq (bigSep_congr fun t ht => by
    rw [Function.update_of_ne (Finset.ne_of_mem_erase ht), Function.update_of_ne (Finset.ne_of_mem_erase ht)])) $$ HR

theorem wait_flight (c : Dev nD) (s : Fin 8) (D : sProp 𝕄) {oT oL : Fin 3 → ℕ}
    (hT : ∀ a, oT a + S1x128x6144.size a ≤ S5x4096x6144.size a)
    (hL : ∀ a, oL a + S1x128x6144.size a ≤ S8x128x6144.size a) {α : Type} (k : PUnit → Prog (TpuEff nD τ sig (Elt F) Λ₀ .tc) α) (Q : α → sProp 𝕄) :
    iprop(Transfers.Flight EC (c : Thread nD τ) (.dma (rsem s)) () NT D ∗ Owes c) ⊢
     iprop((iprop(D ∗ semVal ((c : Thread nD τ), SemLoc.dma (rsem s)) 0 ∗ Owes c) -∗ wp frame (wpE (defs₀ (F := F)) Variants.none c none) Set.univ (k ⟨⟩) Q) -∗
    wp frame (wpE (defs₀ (F := F)) Variants.none c none) Set.univ
      (.op (.waitDma2 (rsem s) (slotM oL hL) (tileM oT hT) ((View.wordExact_bits rfl).reshape _ _) ((View.wordExact_bits rfl).reshape _ _)) k) Q) := by
  unfold Owes
  iintro ⟨HF, ⟨%W, HW⟩⟩ Hk
  iapply (Transfers.wp_waitLocal EC Variants.none (c : Thread nD τ) none () (tile_credit oT hT)) $$ [HF HW]
  · isplitl [HF]; iexact HF; iexact HW
  iintro ⟨HD, Hs, HW⟩
  iapply Hk $$ [HD Hs HW]
  isplitl [HD]; iexact HD
  isplitl [Hs]; iexact Hs
  iexists _; iexact HW

/-- The wait a trip starts with: the slot at hand after it, in flight before it or not. -/
theorem ring_wait (c : Dev nD) (cnd : BitVec 1) (u : Bool) (hcnd : cnd = 1#1 ↔ u = true) (s : Fin 8) (Q : sProp 𝕄)
    {oS : Fin 1 → ℕ} {oT oL : Fin 3 → ℕ}
    (hS : ∀ a, oS a + S1.size a ≤ S8.size a) (hT : ∀ a, oT a + S1x128x6144.size a ≤ S5x4096x6144.size a)
    (hL : ∀ a, oL a + S1x128x6144.size a ≤ S8x128x6144.size a) (hoS : oS = ![s.val]) :
    iprop(Slot c u s Q ∗ Owes c) ⊢ wp frame (wpE (defs₀ (F := F)) Variants.none c none) Set.univ
      (ringWait cnd oS oT oL hS hT hL) (fun _ => iprop(Slot c false s Q ∗ Owes c)) := by
  unfold ringWait
  rw [sem_eq hS s hoS]
  by_cases h : cnd = 1#1
  · rw [dif_pos h, hcnd.mp h]
    unfold Slot
    iintro ⟨HF, HO⟩
    iapply (wait_flight c s _ hT hL) $$ [HF HO]
    · isplitl [HF]; iexact HF; iexact HO
    iintro ⟨⟨HQ, HR⟩, Hs, HO⟩
    rw [wp_ret]
    imodintro
    isplitr [HO]
    · isplitl [HQ]; iexact HQ; isplitl [HR]; iexact HR; iexact Hs
    · iexact HO
  · rw [dif_neg h, show u = false by cases u; rfl; exact absurd (hcnd.mpr rfl) h]
    rw [wp_ret]
    iintro H
    imodintro
    iexact H

/-- What a tile holds after a transfer into it. -/
theorem tile_write {off : Fin 3 → ℕ} (h : ∀ a, off a + S1x128x6144.size a ≤ S5x4096x6144.size a) {e k : ℕ} (ho : off = ![e, 128 * k, 0])
    (f : S5x4096x6144.Idx → Elt F .f32) (w : S128x6144.Idx → Elt F .f32) {i : S5x4096x6144.Idx} (hi : i ∈ TS e k) (x : Fin 128) (y : Fin 6144)
    (hx : (i 1).val = 128 * k + x.val) (hy : (i 2).val = y.val) :
    (tileM off h).view.write (Elt F) f w Finset.univ i = w (ix2 x y) := by
  subst ho
  have hi' := hi
  simp only [TS, Finset.mem_filter, Finset.mem_univ, _root_.true_and] at hi'
  have he : (tileM ![e, 128 * k, 0] h).view.emb (ix2 x y) = i := by
    show (Rect.unit (s := S5x4096x6144) ![e, 128 * k, 0] S1x128x6144.size h).emb (Shape.reshapeEquiv squeezes_S1x128x6144_S128x6144.numel_eq (ix2 x y)) = i
    rw [show (Shape.reshapeEquiv squeezes_S1x128x6144_S128x6144.numel_eq (ix2 x y) : S1x128x6144.Idx) = ix3 (⟨0, Nat.one_pos⟩ : Fin 1) x y from reshapeEquiv_ix2_1ab _ x y]
    refine Shape.idx3_ext ?_ ?_ ?_
    · show e + 1 * 0 = _; omega
    · show 128 * k + 1 * x.val = _; omega
    · show 0 + 1 * y.val = _; omega
  rw [← he]
  exact View.write_emb_of_mem _ _ (Finset.mem_univ _)

/-- What a slot reads, squeezed, after a store into it. -/
theorem slot_read {off : Fin 3 → ℕ} (h : ∀ a, off a + S1x128x6144.size a ≤ S8x128x6144.size a)
    (f : S8x128x6144.Idx → Elt F .f32) (w : S1x128x6144.Idx → Elt F .f32) (x : Fin 128) (y : Fin 6144) :
    (slotM off h).view.read (Elt F) (((Memref.whole cc0_scratch8).access (Rect.unit (s := S8x128x6144) off S1x128x6144.size h)).write (Elt F) f w Finset.univ) (ix2 x y)
      = w (ix3 (⟨0, Nat.one_pos⟩ : Fin 1) x y) := by
  refine (congrFun (View.read_write_univ (v := (Memref.whole cc0_scratch8).access (Rect.unit (s := S8x128x6144) off S1x128x6144.size h)) f w)
    (Shape.reshapeEquiv squeezes_S1x128x6144_S128x6144.numel_eq (ix2 x y))).trans ?_
  rw [show (Shape.reshapeEquiv squeezes_S1x128x6144_S128x6144.numel_eq (ix2 x y) : S1x128x6144.Idx) = ix3 (⟨0, Nat.one_pos⟩ : Fin 1) x y from reshapeEquiv_ix2_1ab _ x y]

theorem flight_slot (c : Dev nD) (s : Fin 8) (D Q : sProp 𝕄) (h : D ⊢ iprop(Q ∗ Rslot c s)) :
    Transfers.Flight EC (c : Thread nD τ) (.dma (rsem s)) () NT D ⊢ Slot c true s Q :=
  Transfers.Flight_mono EC (c : Thread nD τ) h

/-- The rest of a trip: the slot goes in flight with the tile at the contents `G`. -/
theorem ring_rest (c : Dev nD) (s : Fin 8) {e k : ℕ} {oS : Fin 1 → ℕ} {oT oL : Fin 3 → ℕ} {oR : Fin 2 → ℕ}
    (hS : ∀ a, oS a + S1.size a ≤ S8.size a) (hT : ∀ a, oT a + S1x128x6144.size a ≤ S5x4096x6144.size a)
    (hL : ∀ a, oL a + S1x128x6144.size a ≤ S8x128x6144.size a) (hR : ∀ a, oR a + S128x256.size a ≤ S4096x256.size a)
    (hoS : oS = ![s.val]) (hoL : oL = ![s.val, 0, 0]) (hoT : oT = ![e, 128 * k, 0])
    (pay : Vec F S128x256 .bf16 → Vec F S256x6144 .bf16 → FVec F S1x128x6144 .f32)
    (XT : S4096x256.Idx → Elt F .bf16) (DY : S256x6144.Idx → Elt F .bf16) (V G : S5x4096x6144.Idx → Elt F .f32)
    (hG : ∀ i ∈ TS e k, ∀ (x : Fin 128) (y : Fin 6144), (i 1).val = 128 * k + x.val → (i 2).val = y.val →
      G i = pay (((Memref.whole cc0_scratch5).access (Rect.unit (s := S4096x256) oR S128x256.size hR)).read (Elt F) XT)
        (((Memref.whole cc0_scratch6).access (Rect.unit (s := S256x6144) ![0, 0] S256x6144.size inb_S256x6144_S256x6144_0_0)).read (Elt F) DY)
        (ix3 (⟨0, Nat.one_pos⟩ : Fin 1) x y)) :
    iprop(Rslot c s ∗ semVal ((c : Thread nD τ), SemLoc.dma (rsem s)) 0
        ∗ (((c : Thread nD τ).loc cc0_scratch5) ↦{fullShare} XT) ∗ (((c : Thread nD τ).loc cc0_scratch6) ↦{fullShare} DY)
        ∗ (((c : Thread nD τ).loc main_v0) ↦[TS e k]{fullShare} V))
      ⊢ wp frame (wpE (defs₀ (F := F)) Variants.none c none) Set.univ (ringRest oS oT oL oR hS hT hL hR pay)
        (fun _ => iprop(Slot c true s iprop(((c : Thread nD τ).loc main_v0) ↦[TS e k]{fullShare} G)
          ∗ (((c : Thread nD τ).loc cc0_scratch5) ↦{fullShare} XT) ∗ (((c : Thread nD τ).loc cc0_scratch6) ↦{fullShare} DY))) := by
  subst hoS
  unfold ringRest Rslot
  iintro ⟨⟨%f, HR⟩, Hs, HX, HD, HT⟩
  iapply (wp_load_rect Variants.none (c : Thread nD τ) none Set.univ (m := Memref.whole cc0_scratch5) (Finset.subset_univ _)) $$ [HX]
  · iexact HX
  iintro HX
  iapply (wp_load_rect Variants.none (c : Thread nD τ) none Set.univ (m := Memref.whole cc0_scratch6) (Finset.subset_univ _)) $$ [HD]
  · iexact HD
  iintro HD
  iapply (wp_load_rect Variants.none (c : Thread nD τ) none Set.univ (m := Memref.whole cc0_scratch8) (slot_set' hL hoL).subset) $$ [HR]
  · iexact HR
  iintro HR
  iapply (wp_store Variants.none (c : Thread nD τ) none Set.univ (m := Memref.whole cc0_scratch8) (slot_set' hL hoL).subset) $$ [HR]
  · iexact HR
  iintro HR
  iapply (Transfers.wp_dmaLocal EC Variants.none (c : Thread nD τ) none (src := slotM oL hL) (dst := tileM oT hT) (sm := .dma (rsem s)) () NT (tile_credit oT hT) NT_pos (tile_set hT hoT).subset) $$ [HR HT Hs]
  · isplitl [HR]
    · rw [slot_set hL hoL]; iexact HR
    isplitl [HT]; iexact HT
    iexact Hs
  iintro HF
  rw [wp_ret]
  imodintro
  isplitl [HF]
  · iapply (flight_slot c s _ _ ?_) $$ HF
    iintro ⟨H1, H2⟩
    isplitl [H1]
    · iapply (Entails.of_eq (pointsTo_congr fun i hi => ?_)) $$ H1
      have hi' := hi
      simp only [TS, Finset.mem_filter, Finset.mem_univ, _root_.true_and] at hi'
      have hx : (i 1).val = 128 * k + (⟨(i 1).val - 128 * k, by omega⟩ : Fin 128).val := by simp only []; omega
      refine (tile_write hT hoT V _ hi _ ⟨(i 2).val, (i 2).isLt⟩ hx rfl).trans ?_
      rw [hG i hi _ ⟨(i 2).val, (i 2).isLt⟩ hx rfl]
      exact slot_read hL _ _ _ _
    · unfold Rslot; iexists _; rw [← slot_set hL hoL]; iexact H2
  isplitl [HX]; iexact HX
  iexact HD

end Cert.KernelIdeal.Hand

end
-- ==== Proof.Loops.lean ====
/-
  Hand-written, untrusted. The kernel's counted loops: an expert's trips through the ring, and the loops that never run.
-/
module

public import proofs.«01_k».proof.Proof.Ring
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

/-- A program in two parts. -/
theorem wp_seq (c : Dev nD) {α β : Type} {p : Prog (TpuEff nD τ sig (Elt F) Λ₀ .tc) α} {k : α → Prog (TpuEff nD τ sig (Elt F) Λ₀ .tc) β}
    {P R : sProp 𝕄} {Q' : α → sProp 𝕄} {Q : β → sProp 𝕄}
    (h1 : P ⊢ wp frame (wpE (defs₀ (F := F)) Variants.none (c : Thread nD τ) none) Set.univ p Q')
    (h2 : ∀ a, iprop(Q' a ∗ R) ⊢ wp frame (wpE (defs₀ (F := F)) Variants.none (c : Thread nD τ) none) Set.univ (k a) Q) :
    iprop(P ∗ R) ⊢ wp frame (wpE (defs₀ (F := F)) Variants.none (c : Thread nD τ) none) Set.univ (p.bind k) Q := by
  have e : wp frame (wpE (defs₀ (F := F)) Variants.none (c : Thread nD τ) none) Set.univ (p.bind k) Q
      = wp frame (wpE (defs₀ (F := F)) Variants.none (c : Thread nD τ) none) Set.univ p (fun a => wp frame (wpE (defs₀ (F := F)) Variants.none (c : Thread nD τ) none) Set.univ (k a) Q) :=
    wp_bind _ _ _ _ _ _
  rw [e]
  exact (sep_mono h1 .rfl).trans ((wp_frame_r _ _ _).trans (wp_mono _ _ _ h2))

theorem wp_last (c : Dev nD) {α : Type} {p : Prog (TpuEff nD τ sig (Elt F) Λ₀ .tc) α} {P R : sProp 𝕄} {Q' Q : α → sProp 𝕄}
    (h1 : P ⊢ wp frame (wpE (defs₀ (F := F)) Variants.none (c : Thread nD τ) none) Set.univ p Q') (h2 : ∀ a, iprop(Q' a ∗ R) ⊢ Q a) :
    iprop(P ∗ R) ⊢ wp frame (wpE (defs₀ (F := F)) Variants.none (c : Thread nD τ) none) Set.univ p Q :=
  (sep_mono h1 .rfl).trans ((wp_frame_r _ _ _).trans (wp_mono _ _ _ h2))

/-- One trip of an expert's loop. -/
theorem ring_trip (c : Dev nD) (u : Fin 8 → Bool) (A : sProp 𝕄) (cnd : BitVec 1) (s : Fin 8) (hcnd : cnd = 1#1 ↔ u s = true)
    {e k : ℕ} {oS : Fin 1 → ℕ} {oT oL : Fin 3 → ℕ} {oR : Fin 2 → ℕ}
    (hS : ∀ a, oS a + S1.size a ≤ S8.size a) (hT : ∀ a, oT a + S1x128x6144.size a ≤ S5x4096x6144.size a)
    (hL : ∀ a, oL a + S1x128x6144.size a ≤ S8x128x6144.size a) (hR : ∀ a, oR a + S128x256.size a ≤ S4096x256.size a)
    (hoS : oS = ![s.val]) (hoL : oL = ![s.val, 0, 0]) (hoT : oT = ![e, 128 * k, 0])
    (pay : Vec F S128x256 .bf16 → Vec F S256x6144 .bf16 → FVec F S1x128x6144 .f32)
    (XT : S4096x256.Idx → Elt F .bf16) (DY : S256x6144.Idx → Elt F .bf16) (V G : S5x4096x6144.Idx → Elt F .f32)
    (hG : ∀ i ∈ TS e k, ∀ (x : Fin 128) (y : Fin 6144), (i 1).val = 128 * k + x.val → (i 2).val = y.val →
      G i = pay (((Memref.whole cc0_scratch5).access (Rect.unit (s := S4096x256) oR S128x256.size hR)).read (Elt F) XT)
        (((Memref.whole cc0_scratch6).access (Rect.unit (s := S256x6144) ![0, 0] S256x6144.size inb_S256x6144_S256x6144_0_0)).read (Elt F) DY)
        (ix3 (⟨0, Nat.one_pos⟩ : Fin 1) x y)) :
    iprop((((c : Thread nD τ).loc cc0_scratch5) ↦{fullShare} XT) ∗ (((c : Thread nD τ).loc cc0_scratch6) ↦{fullShare} DY)
        ∗ (((c : Thread nD τ).loc main_v0) ↦[TS e k]{fullShare} V) ∗ RingSt c u A ∗ Owes c)
      ⊢ wp frame (wpE (defs₀ (F := F)) Variants.none c none) Set.univ (ringBody cnd oS oT oL oR hS hT hL hR pay)
        (fun _ => iprop((((c : Thread nD τ).loc cc0_scratch5) ↦{fullShare} XT) ∗ (((c : Thread nD τ).loc cc0_scratch6) ↦{fullShare} DY)
          ∗ RingSt c (Function.update u s true) iprop(A ∗ (((c : Thread nD τ).loc main_v0) ↦[TS e k]{fullShare} G)) ∗ Owes c)) := by
  rw [ringBody_bind]
  iintro ⟨HX, HD, HT, HR, HO⟩
  ihave HR := (ring_focus c u A s) $$ HR
  icases HR with ⟨%Q, HS, HK⟩
  iapply (wp_seq c (ring_wait c cnd (u s) hcnd s Q hS hT hL hoS) (R := iprop((((c : Thread nD τ).loc cc0_scratch5) ↦{fullShare} XT)
    ∗ (((c : Thread nD τ).loc cc0_scratch6) ↦{fullShare} DY) ∗ (((c : Thread nD τ).loc main_v0) ↦[TS e k]{fullShare} V)
    ∗ ∀ (b : Bool) (Q' : sProp 𝕄), (Q ∗ Slot c b s iprop(Q')) -∗ RingSt c (Function.update u s b) iprop(A ∗ Q'))) fun _ => ?_) $$ [HX HD HT HS HK HO]
  · iintro ⟨⟨HS, HO⟩, HX, HD, HT, HK⟩
    unfold Slot
    icases HS with ⟨HQ, HRs, Hs⟩
    iapply (wp_last c (ring_rest c s hS hT hL hR hoS hoL hoT pay XT DY V G hG) (R := iprop(Q
      ∗ (∀ (b : Bool) (Q' : sProp 𝕄), (Q ∗ Slot c b s iprop(Q')) -∗ RingSt c (Function.update u s b) iprop(A ∗ Q')) ∗ Owes c)) fun _ => ?_) $$ [HX HD HT HK HO HQ HRs Hs]
    · iintro ⟨⟨HS, HX, HD⟩, HQ, HK, HO⟩
      isplitl [HX]; iexact HX
      isplitl [HD]; iexact HD
      isplitr [HO]
      · iapply HK $$ [HQ HS]
        isplitl [HQ]; iexact HQ; iexact HS
      · iexact HO
    isplitr [HQ HK HO]
    · isplitl [HRs]; iexact HRs
      isplitl [Hs]; iexact Hs
      isplitl [HX]; iexact HX
      isplitl [HD]; iexact HD
      iexact HT
    isplitl [HQ]; iexact HQ
    isplitl [HK]; iexact HK
    iexact HO
  isplitl [HS HO]
  · isplitl [HS]; iexact HS; iexact HO
  isplitl [HX]; iexact HX
  isplitl [HD]; iexact HD
  isplitl [HT]; iexact HT
  iexact HK

theorem ring_mono (c : Dev nD) (u : Fin 8 → Bool) {A A' : sProp 𝕄} (h : A ⊢ A') : RingSt c u A ⊢ RingSt c u A' := by
  unfold RingSt
  iintro ⟨%Q, %D, %hA, HD, HS⟩
  iexists Q, D
  isplitr
  · ipureintro; exact hA.trans h
  isplitl [HD]; iexact HD
  iexact HS

/-- The slots in flight when `32 b + k` tiles have gone out. -/
def ust (b k : ℕ) : Fin 8 → Bool := fun s => decide (0 < b ∨ s.val < k)

theorem ust_step (b k : ℕ) (s : Fin 8) (hs : s.val = k % 8) : Function.update (ust b k) s true = ust b (k + 1) := by
  funext t
  by_cases h : t = s
  · subst h; rw [Function.update_self]; symm; unfold ust; rw [decide_eq_true_iff]; omega
  · rw [Function.update_of_ne h]; unfold ust
    rw [decide_eq_decide]
    have : t.val ≠ s.val := fun e => h (Fin.ext e)
    omega

theorem ust_next (b n : ℕ) (hn : n ≤ 1) : ust b (32 * n) = ust (b + n) 0 := by
  funext t; unfold ust; rw [decide_eq_decide]; have := t.2; omega

/-- A loop that never runs. -/
theorem loop_none (c : Dev nD) (L : Scf.Loop 32) (ok : L.OK) (h : L.trips = 0) (body : Fin L.trips → Unit → Prog (TpuEff nD τ sig (Elt F) Λ₀ .tc) Unit)
    (R : sProp 𝕄) : R ⊢ wp frame (wpE (defs₀ (F := F)) Variants.none (c : Thread nD τ) none) Set.univ (Scf.Loop.for L ok ⟨⟩ body) (fun _ => R) := by
  have hw := Scf.wp_for frame (wpE (defs₀ (F := F)) Variants.none (c : Thread nD τ) none) Set.univ L.lb L.ub L.st ok ⟨⟩ body (fun _ _ => R)
    (fun k => absurd (lt_of_lt_of_eq k.2 h) (Nat.not_lt_zero _)) (Q := fun _ => R)
  refine BIBase.Entails.trans ?_ hw
  iintro H
  isplitl [H]; iexact H
  iintro %_ H; iexact H

/-- The wait word of trip `k` past the base word `B`. -/
abbrev cndW (B : BitVec 32) (k : ℕ) : BitVec 1 := Scalar.cmpi .ne (Scalar.extui (Scalar.cmpi .sge (seqW B k) 8#32) : BitVec 32) 0#32

/-- An expert's trips: the ring takes its tiles out at the contents `G`. -/
theorem expert_loop (c : Dev nD) (A : sProp 𝕄) (B v : BitVec 32) {b e : ℕ} (hB : B = BitVec.ofNat 32 (32 * b)) (hb : b ≤ 4) (he : e < 5) (ok : (mainLoop v).OK)
    (body : Fin (mainLoop v).trips → Unit → Prog (TpuEff nD τ sig (Elt F) Λ₀ .tc) Unit)
    (pay : Vec F S128x256 .bf16 → Vec F S256x6144 .bf16 → FVec F S1x128x6144 .f32)
    (hbody : ∀ k, body k ⟨⟩ = ringBody (cndW B k) (offSem B k) (offTile e k) (offSlot B k) (offRows k)
      (offSem_inb hB hb (mainLoop_lt k)) (offTile_inb (mainLoop_lt k) he) (offSlot_inb hB hb (mainLoop_lt k)) (offRows_inb (mainLoop_lt k)) pay)
    (XT : S4096x256.Idx → Elt F .bf16) (DY : S256x6144.Idx → Elt F .bf16) (V G : S5x4096x6144.Idx → Elt F .f32)
    (hG : ∀ k (hk : k < 32 * liveN v) (hR : ∀ a, offRows k a + S128x256.size a ≤ S4096x256.size a), ∀ i ∈ TS e k, ∀ (x : Fin 128) (y : Fin 6144), (i 1).val = 128 * k + x.val → (i 2).val = y.val →
      G i = pay (((Memref.whole cc0_scratch5).access (Rect.unit (s := S4096x256) (offRows k) S128x256.size hR)).read (Elt F) XT)
        (((Memref.whole cc0_scratch6).access (Rect.unit (s := S256x6144) ![0, 0] S256x6144.size inb_S256x6144_S256x6144_0_0)).read (Elt F) DY)
        (ix3 (⟨0, Nat.one_pos⟩ : Fin 1) x y)) :
    iprop((((c : Thread nD τ).loc cc0_scratch5) ↦{fullShare} XT) ∗ (((c : Thread nD τ).loc cc0_scratch6) ↦{fullShare} DY)
        ∗ (bigSep (Finset.Ico 0 (32 * liveN v)) fun k => ((c : Thread nD τ).loc main_v0) ↦[TS e k]{fullShare} V) ∗ RingSt c (ust b 0) A ∗ Owes c)
      ⊢ wp frame (wpE (defs₀ (F := F)) Variants.none c none) Set.univ (Scf.Loop.for (mainLoop v) ok ⟨⟩ body)
        (fun _ => iprop((((c : Thread nD τ).loc cc0_scratch5) ↦{fullShare} XT) ∗ (((c : Thread nD τ).loc cc0_scratch6) ↦{fullShare} DY)
          ∗ RingSt c (ust (b + liveN v) 0) iprop(A ∗ bigSep (Finset.range (32 * liveN v)) fun k => ((c : Thread nD τ).loc main_v0) ↦[TS e k]{fullShare} G) ∗ Owes c)) := by
  have ht := mainLoop_trips v
  refine BIBase.Entails.trans ?_ (Scf.wp_for frame (wpE (defs₀ (F := F)) Variants.none (c : Thread nD τ) none) Set.univ (mainLoop v).lb (mainLoop v).ub (mainLoop v).st ok ⟨⟩ body
    (fun k _ => iprop((((c : Thread nD τ).loc cc0_scratch5) ↦{fullShare} XT) ∗ (((c : Thread nD τ).loc cc0_scratch6) ↦{fullShare} DY)
        ∗ (bigSep (Finset.Ico k (32 * liveN v)) fun k => ((c : Thread nD τ).loc main_v0) ↦[TS e k]{fullShare} V)
        ∗ RingSt c (ust b k) iprop(A ∗ bigSep (Finset.range k) fun k => ((c : Thread nD τ).loc main_v0) ↦[TS e k]{fullShare} G) ∗ Owes c)) (fun k _ => ?_))
  · iintro ⟨HX, HD, HT, HR, HO⟩
    isplitl [HX HD HT HR HO]
    · isplitl [HX]; iexact HX
      isplitl [HD]; iexact HD
      isplitl [HT]; iexact HT
      isplitl [HR]
      · iapply (ring_mono c (ust b 0) ?_) $$ HR
        iintro HA
        isplitl [HA]; iexact HA
        iapply (Entails.of_eq (show (iprop(emp) : sProp 𝕄) = _ from by rw [Finset.range_zero, bigSep_empty]; rfl)); iempintro
      iexact HO
    · iintro %_ ⟨HX, HD, HT, HR, HO⟩
      isplitl [HX]; iexact HX
      isplitl [HD]; iexact HD
      isplitl [HR]
      · iapply (Entails.of_eq ?_) $$ HR
        rw [show Scf.trips (mainLoop v).lb (mainLoop v).ub (mainLoop v).st = 32 * liveN v from ht, ust_next b _ (liveN_le v)]
      iexact HO
  · have hk := mainLoop_lt k
    have hk' : k.val < 32 * liveN v := lt_of_lt_of_eq k.2 ht
    have htr := ring_trip c (ust b k) iprop(A ∗ bigSep (Finset.range k) fun k => ((c : Thread nD τ).loc main_v0) ↦[TS e k]{fullShare} G)
      (cndW B k) ⟨k % 8, Nat.mod_lt _ (by decide)⟩ (by
        rw [wait_iff hB hb hk]; unfold ust; rw [decide_eq_true_iff]; show _ ↔ 0 < b ∨ k.val % 8 < k; omega)
      (offSem_inb hB hb hk) (offTile_inb hk he) (offSlot_inb hB hb hk) (offRows_inb hk)
      (offSem_eq hB hb hk) (offSlot_eq hB hb hk) (offTile_eq hk) pay XT DY V G (hG k hk' (offRows_inb hk))
    rw [hbody]
    iintro ⟨HX, HD, HT, HR, HO⟩
    ihave HT := (Entails.of_eq (bigSep_Ico_succ_bot hk' _)) $$ HT
    icases HT with ⟨HT, HTs⟩
    iapply (wp_last c htr (R := iprop(bigSep (Finset.Ico (k.val + 1) (32 * liveN v)) fun k => ((c : Thread nD τ).loc main_v0) ↦[TS e k]{fullShare} V)) fun _ => ?_) $$ [HX HD HT HTs HR HO]
    · iintro ⟨⟨HX, HD, HR, HO⟩, HT⟩
      isplitl [HX]; iexact HX
      isplitl [HD]; iexact HD
      isplitl [HT]; iexact HT
      isplitl [HR]
      · rw [ust_step b k _ rfl]
        iapply (ring_mono c (ust b (k + 1)) ?_) $$ HR
        iintro ⟨⟨HA, HB⟩, HC⟩
        isplitl [HA]; iexact HA
        iapply (Entails.of_eq (bigSep_range_succ k.val _).symm)
        isplitl [HC]; iexact HC
        iexact HB
      iexact HO
    isplitr [HTs]
    · isplitl [HX]; iexact HX
      isplitl [HD]; iexact HD
      isplitl [HT]; iexact HT
      isplitl [HR]; iexact HR
      iexact HO
    iexact HTs

end Cert.KernelIdeal.Hand

end
-- ==== Proof.Drain.lean ====
/-
  Hand-written, untrusted. The zero tiles, issued together on one semaphore and collected together, and the ring emptied at the end.
-/
module

public import proofs.«01_k».proof.Proof.Loops
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

theorem sep_each {I : Type} {S : Finset I} {Φ Ψ : I → sProp 𝕄} (h : ∀ i ∈ S, Φ i ⊢ Ψ i) : bigSep S Φ ⊢ bigSep S Ψ := bigSep_mono h

/-! ## The ring at its ends -/

theorem ring_disj : ∀ t ∈ (Finset.univ : Finset (Fin 8)), ∀ t' ∈ (Finset.univ : Finset (Fin 8)), t ≠ t' → Disjoint (SS t.val) (SS t'.val) := by
  intro t _ t' _ h
  rw [Finset.disjoint_left]
  intro i hi hi'
  simp only [SS, Finset.mem_filter, Finset.mem_univ, _root_.true_and] at hi hi'
  exact h (Fin.ext (hi.symm.trans hi'))
theorem ring_cover : (Finset.univ : Finset (Fin 8)).biUnion (fun t => SS t.val) = Finset.univ := by
  ext i
  simp only [SS, Finset.mem_biUnion, Finset.mem_filter, Finset.mem_univ, _root_.true_and, iff_true]
  exact ⟨⟨(i 0).val, (i 0).isLt⟩, rfl⟩

/-- The whole ring's memory, as its slots'. -/
theorem ring_split (c : Dev nD) (f : Buf (Elt F) ((c : Thread nD τ).loc cc0_scratch8)) :
    (((c : Thread nD τ).loc cc0_scratch8) ↦{fullShare} f : sProp 𝕄) ⊢ bigSep Finset.univ fun s : Fin 8 => Rslot c s.val := by
  have h := (pointsTo_biUnion (ℓ := (c : Thread nD τ).loc cc0_scratch8) (q := fullShare) (f := f) Finset.univ (fun t : Fin 8 => SS t.val) ring_disj : (_ : sProp 𝕄) = _)
  rw [show (Finset.univ : Finset (Fin 8)).biUnion (fun t => SS t.val) = Finset.univ from ring_cover] at h
  rw [h]
  exact sep_each fun s _ => by unfold Rslot; iintro H; iexists f; iexact H
theorem ring_join (c : Dev nD) :
    (bigSep Finset.univ fun s : Fin 8 => Rslot c s.val) ⊢ (iprop(∃ f, ((c : Thread nD τ).loc cc0_scratch8) ↦{fullShare} f) : sProp 𝕄) := by
  unfold Rslot
  refine (bigSep_exists_pi Finset.univ fun (s : Fin 8) (f : Buf (Elt F) ((c : Thread nD τ).loc cc0_scratch8)) => iprop(((c : Thread nD τ).loc cc0_scratch8) ↦[SS s.val]{fullShare} f)).trans ?_
  iintro ⟨%fs, H⟩
  ihave H := (pointsTo_biUnion_join (ℓ := (c : Thread nD τ).loc cc0_scratch8) (q := fullShare) Finset.univ (fun t : Fin 8 => SS t.val) fs (fs 0) ring_disj) $$ H
  icases H with ⟨%g, -, H⟩
  iexists g
  iapply (Entails.of_eq (by rw [show (Finset.univ : Finset (Fin 8)).biUnion (fun t => SS t.val) = Finset.univ from ring_cover])) $$ H

theorem sep_both {I : Type} (S : Finset I) (Φ Ψ : I → sProp 𝕄) : iprop(bigSep S Φ ∗ bigSep S Ψ) ⊢ bigSep S fun i => iprop(Φ i ∗ Ψ i) :=
  Entails.of_eq (bigSep_sep S Φ Ψ).symm
theorem sep_unboth {I : Type} (S : Finset I) (Φ Ψ : I → sProp 𝕄) : (bigSep S fun i => iprop(Φ i ∗ Ψ i)) ⊢ iprop(bigSep S Φ ∗ bigSep S Ψ) :=
  Entails.of_eq (bigSep_sep S Φ Ψ)

theorem ring_init (c : Dev nD) :
    iprop((bigSep Finset.univ fun s : Fin 8 => Rslot c s.val) ∗ bigSep Finset.univ fun s : Fin 8 => semVal ((c : Thread nD τ), SemLoc.dma (rsem s)) 0)
      ⊢ (RingSt c (ust 0 0) iprop(emp) : sProp 𝕄) := by
  unfold RingSt
  iintro ⟨H1, H2⟩
  iexists (fun _ => iprop(emp)), iprop(emp)
  isplitr
  · ipureintro
    iintro -; iempintro
  isplitr
  · iempintro
  ihave H := (sep_both _ _ _) $$ [H1 H2]
  · isplitl [H1]; iexact H1; iexact H2
  iapply (sep_each fun s _ => ?_) $$ H
  rw [show ust 0 0 s = false by simp [ust]]
  unfold Slot
  iintro ⟨H1, H2⟩
  isplitr
  · iempintro
  isplitl [H1]; iexact H1; iexact H2

theorem ring_final (c : Dev nD) (A : sProp 𝕄) (u : Fin 8 → Bool) (hu : ∀ s, u s = false) :
    RingSt c u A ⊢ iprop(A ∗ (bigSep Finset.univ fun s : Fin 8 => Rslot c s.val) ∗ bigSep Finset.univ fun s : Fin 8 => semVal ((c : Thread nD τ), SemLoc.dma (rsem s)) 0) := by
  unfold RingSt
  iintro ⟨%Q, %D, %hA, HD, HS⟩
  ihave HS := (sep_each fun s _ => (by rw [hu]; unfold Slot; exact .rfl : Slot c (u s) s (Q s) ⊢ iprop(Q s ∗ Rslot c s ∗ semVal ((c : Thread nD τ), SemLoc.dma (rsem s)) 0))) $$ HS
  ihave HS := (sep_unboth _ _ _) $$ HS
  icases HS with ⟨HQ, HS⟩
  ihave HS := (sep_unboth _ _ _) $$ HS
  isplitl [HD HQ]
  · iapply hA; isplitl [HD]; iexact HD; iexact HQ
  iexact HS

/-- One wait of the final drain. -/
def drainBody (oS : Fin 1 → ℕ) (oT oL : Fin 3 → ℕ)
    (hS : ∀ a, oS a + S1.size a ≤ S8.size a) (hT : ∀ a, oT a + S1x128x6144.size a ≤ S5x4096x6144.size a)
    (hL : ∀ a, oL a + S1x128x6144.size a ≤ S8x128x6144.size a) : Prog (TpuEff nD τ sig (Elt F) Λ₀ .tc) Unit :=
  .op (.waitDma2 (semM oS hS) (slotM oL hL) (tileM oT hT) ((View.wordExact_bits rfl).reshape _ _) ((View.wordExact_bits rfl).reshape _ _)) fun _ => .ret ⟨⟩

theorem drain_trip (c : Dev nD) (u : Fin 8 → Bool) (A : sProp 𝕄) (s : Fin 8) (hu : u s = true) {oS : Fin 1 → ℕ} {oT oL : Fin 3 → ℕ}
    (hS : ∀ a, oS a + S1.size a ≤ S8.size a) (hT : ∀ a, oT a + S1x128x6144.size a ≤ S5x4096x6144.size a)
    (hL : ∀ a, oL a + S1x128x6144.size a ≤ S8x128x6144.size a) (hoS : oS = ![s.val]) :
    iprop(RingSt c u A ∗ Owes c) ⊢ wp frame (wpE (defs₀ (F := F)) Variants.none c none) Set.univ (drainBody oS oT oL hS hT hL)
      (fun _ => iprop(RingSt c (Function.update u s false) A ∗ Owes c)) := by
  unfold drainBody
  rw [sem_eq hS s hoS]
  iintro ⟨HR, HO⟩
  ihave HR := (ring_focus c u A s) $$ HR
  icases HR with ⟨%Q, HS, HK⟩
  rw [hu]
  unfold Slot
  iapply (wait_flight c s _ hT hL) $$ [HS HO]
  · isplitl [HS]; iexact HS; iexact HO
  iintro ⟨⟨HQ, HR⟩, Hs, HO⟩
  rw [wp_ret]
  imodintro
  isplitr [HO]
  · iapply (ring_mono c _ (A := iprop(A ∗ emp)) (by iintro ⟨H, -⟩; iexact H))
    iapply HK $$ %false %iprop(emp) [HQ HR Hs]
    isplitl [HQ]; iexact HQ
    isplitr
    · iempintro
    isplitl [HR]; iexact HR; iexact Hs
  · iexact HO

/-- The final drain: the ring empty after it. -/
theorem drain_loop (c : Dev nD) (A : sProp 𝕄) (v0 v1 v2 v3 v4 : BitVec 32) (ok : (drainLoop v0 v1 v2 v3 v4).OK)
    (body : Fin (drainLoop v0 v1 v2 v3 v4).trips → Unit → Prog (TpuEff nD τ sig (Elt F) Λ₀ .tc) Unit)
    (hbody : ∀ k, body k ⟨⟩ = drainBody ![(tripW k).toNat] ![0, 0, 0] ![(tripW k).toNat, 0, 0]
      (drainSem_inb (drainLoop_lt _ _ _ _ _ k)) inb_S5x4096x6144_S1x128x6144_0_0_0 (drainSlot_inb (drainLoop_lt _ _ _ _ _ k))) :
    iprop(RingSt c (ust (liveSum v0 v1 v2 v3 v4) 0) A ∗ Owes c)
      ⊢ wp frame (wpE (defs₀ (F := F)) Variants.none c none) Set.univ (Scf.Loop.for (drainLoop v0 v1 v2 v3 v4) ok ⟨⟩ body)
        (fun _ => iprop(A ∗ (bigSep Finset.univ fun s : Fin 8 => Rslot c s.val)
          ∗ (bigSep Finset.univ fun s : Fin 8 => semVal ((c : Thread nD τ), SemLoc.dma (rsem s)) 0) ∗ Owes c)) := by
  have ht := drainLoop_trips v0 v1 v2 v3 v4
  refine BIBase.Entails.trans ?_ (Scf.wp_for frame (wpE (defs₀ (F := F)) Variants.none (c : Thread nD τ) none) Set.univ (drainLoop v0 v1 v2 v3 v4).lb (drainLoop v0 v1 v2 v3 v4).ub (drainLoop v0 v1 v2 v3 v4).st ok ⟨⟩ body
    (fun k _ => iprop(RingSt c (fun s => decide (0 < liveSum v0 v1 v2 v3 v4 ∧ k ≤ s.val)) A ∗ Owes c)) (fun k _ => ?_))
  · iintro ⟨HR, HO⟩
    isplitl [HR HO]
    · isplitl [HR]
      · iapply (Entails.of_eq (congrArg (fun u => RingSt c u A) (funext fun s => by unfold ust; rw [decide_eq_decide]; omega))) $$ HR
      iexact HO
    · iintro %_ ⟨HR, HO⟩
      ihave H := (ring_final c A _ (fun s => by
        rw [show Scf.trips (drainLoop v0 v1 v2 v3 v4).lb (drainLoop v0 v1 v2 v3 v4).ub (drainLoop v0 v1 v2 v3 v4).st = min (32 * liveSum v0 v1 v2 v3 v4) 8 from ht]
        rw [decide_eq_false_iff_not]; have := s.2; generalize liveSum v0 v1 v2 v3 v4 = L; omega)) $$ HR
      icases H with ⟨HA, H1, H2⟩
      isplitl [HA]; iexact HA
      isplitl [H1]; iexact H1
      isplitl [H2]; iexact H2
      iexact HO
  · have hk := drainLoop_lt v0 v1 v2 v3 v4 k
    have hk' : k.val < min (32 * liveSum v0 v1 v2 v3 v4) 8 := lt_of_lt_of_eq k.2 ht
    rw [hbody]
    refine (drain_trip c _ A ⟨k.val, hk⟩ (by rw [decide_eq_true_iff]; show _ ∧ k.val ≤ k.val; generalize liveSum v0 v1 v2 v3 v4 = L at hk' ⊢; omega) _ _ _
      (by rw [trip_toNat (by omega)])).trans (wp_mono _ _ _ fun _ => ?_)
    refine Entails.of_eq (congrArg (fun u => iprop(RingSt c u A ∗ Owes c)) (funext fun t => ?_))
    by_cases h : t = ⟨k.val, hk⟩
    · subst h; rw [Function.update_self]; symm; rw [decide_eq_false_iff_not]; show ¬ (_ ∧ k.val + 1 ≤ k.val); omega
    · rw [Function.update_of_ne h, decide_eq_decide]
      have : t.val ≠ k.val := fun e => h (Fin.ext e)
      omega

/-! ## The zero tiles -/

/-- The zero tiles' semaphore. -/
abbrev zsem : DmaSem sig := cc0_scratch10.sem

/-- `n` of the `m` zero tiles issued, `w` of them waited for; `A` what they deliver. -/
def ZSt (c : Dev nD) (Zb : S128x6144.Idx → Elt F .f32) (m n w : ℕ) (A : sProp 𝕄) : sProp 𝕄 :=
  iprop(∃ Ds : List (sProp 𝕄), ⌜Ds.length = n⌝
    ∗ ⌜bigSep (Finset.range n) (fun t => Ds.getD t iprop(emp)) ⊢ iprop(A ∗ bigSep (Finset.range n) fun i => ((c : Thread nD τ).loc cc0_scratch7) ↦{Transfers.shareTokN fullShare i} Zb)⌝
    ∗ Transfers.Batched EC (c : Thread nD τ) (.dma zsem) () NT m Ds (w * NT)
    ∗ (((c : Thread nD τ).loc cc0_scratch7) ↦{Transfers.shareDrop fullShare n} Zb))

/-- One zero tile sent out. -/
def zeroBody (oT : Fin 3 → ℕ) (hT : ∀ a, oT a + S1x128x6144.size a ≤ S5x4096x6144.size a) : Prog (TpuEff nD τ sig (Elt F) Λ₀ .tc) Unit :=
  .op (.enqueueDma (Memref.whole cc0_scratch7) (.here (tileM oT hT)) (.dma zsem) (Memref.isWhole_whole cc0_scratch7).wordExact ((View.wordExact_bits rfl).reshape _ _) ⟨Or.inl rfl, trivial⟩) fun _ => .ret ⟨⟩

/-- One wait for a zero tile. -/
def zwaitBody : Prog (TpuEff nD τ sig (Elt F) Λ₀ .tc) Unit :=
  .op (.waitDma2 zsem (Memref.whole cc0_scratch7) (tileM ![0, 0, 0] inb_S5x4096x6144_S1x128x6144_0_0_0) (Memref.isWhole_whole cc0_scratch7).wordExact ((View.wordExact_bits rfl).reshape _ _)) fun _ => .ret ⟨⟩

theorem list_step (Ds : List (sProp 𝕄)) (D : sProp 𝕄) (n : ℕ) (hl : Ds.length = n) (A B : sProp 𝕄) (T : ℕ → sProp 𝕄)
    (hA : bigSep (Finset.range n) (fun t => Ds.getD t iprop(emp)) ⊢ iprop(A ∗ bigSep (Finset.range n) T)) (hD : D ⊢ iprop(B ∗ T n)) :
    bigSep (Finset.range (n + 1)) (fun t => (Ds ++ [D]).getD t iprop(emp)) ⊢ iprop((A ∗ B) ∗ bigSep (Finset.range (n + 1)) T) := by
  iintro H
  ihave H := (Entails.of_eq (bigSep_range_succ n _)) $$ H
  icases H with ⟨H1, H2⟩
  ihave H1 := (Entails.of_eq (show (Ds ++ [D]).getD n iprop(emp) = D by subst hl; simp [List.getD_eq_getElem?_getD])) $$ H1
  ihave H1 := hD $$ H1
  icases H1 with ⟨HB, HT⟩
  ihave H2 := (Entails.of_eq (bigSep_congr (Ψ := fun t => Ds.getD t iprop(emp)) fun t ht => by
    have : t < Ds.length := hl ▸ Finset.mem_range.mp ht
    simp [List.getD_eq_getElem?_getD, List.getElem?_append_left this])) $$ H2
  ihave H2 := hA $$ H2
  icases H2 with ⟨HA, HTs⟩
  isplitl [HA HB]
  · isplitl [HA]; iexact HA; iexact HB
  iapply (Entails.of_eq (bigSep_range_succ n _).symm)
  isplitl [HT]; iexact HT; iexact HTs

theorem univ_range (m : ℕ) (Φ : ℕ → sProp 𝕄) : (bigSep Finset.univ fun t : Fin m => Φ t.val) ⊢ bigSep (Finset.range m) Φ := by
  refine Entails.of_eq ?_
  rw [show Finset.range m = Finset.univ.map Fin.valEmbedding from (Finset.ext fun x => by simp [Fin.exists_iff] : Finset.range m = (Finset.univ : Finset (Fin m)).map Fin.valEmbedding), bigSep_map]
  rfl

theorem zst_mono (c : Dev nD) (Zb : S128x6144.Idx → Elt F .f32) {m n w : ℕ} {A A' : sProp 𝕄} (h : A ⊢ A') : ZSt c Zb m n w A ⊢ ZSt c Zb m n w A' := by
  unfold ZSt
  iintro ⟨%Ds, %hl, %hA, HB, HZ⟩
  iexists Ds
  isplitr
  · ipureintro; exact hl
  isplitr
  · ipureintro; exact hA.trans (sep_mono h .rfl)
  isplitl [HB]; iexact HB
  iexact HZ

theorem zero_trip (c : Dev nD) (Zb : S128x6144.Idx → Elt F .f32) {m n : ℕ} (hn : n < m) (A : sProp 𝕄) {e k : ℕ} {oT : Fin 3 → ℕ}
    (hT : ∀ a, oT a + S1x128x6144.size a ≤ S5x4096x6144.size a) (hoT : oT = ![e, 128 * k, 0]) (V G : S5x4096x6144.Idx → Elt F .f32)
    (hG : ∀ i ∈ TS e k, ∀ (x : Fin 128) (y : Fin 6144), (i 1).val = 128 * k + x.val → (i 2).val = y.val → G i = Zb (ix2 x y)) :
    iprop(ZSt c Zb m n 0 A ∗ (((c : Thread nD τ).loc main_v0) ↦[TS e k]{fullShare} V))
      ⊢ wp frame (wpE (defs₀ (F := F)) Variants.none c none) Set.univ (zeroBody oT hT)
        (fun _ => ZSt c Zb m (n + 1) 0 iprop(A ∗ (((c : Thread nD τ).loc main_v0) ↦[TS e k]{fullShare} G))) := by
  unfold zeroBody ZSt
  iintro ⟨⟨%Ds, %hl, %hA, HB, HZ⟩, HT⟩
  ihave HZ := (show (((c : Thread nD τ).loc cc0_scratch7) ↦{Transfers.shareDrop fullShare n} Zb : sProp 𝕄) ⊢ iprop((((c : Thread nD τ).loc cc0_scratch7) ↦{Transfers.shareDrop fullShare (n + 1)} Zb)
    ∗ (((c : Thread nD τ).loc cc0_scratch7) ↦{Transfers.shareTokN fullShare n} Zb)) from (pointsTo_share (PosShare.mem_left_op_right _)).1) $$ HZ
  icases HZ with ⟨HZ, Ht⟩
  iapply (Transfers.wp_dmaBatched EC Variants.none (c : Thread nD τ) none (src := Memref.whole cc0_scratch7) (dst := tileM oT hT) (sm := .dma zsem) () NT (tile_credit oT hT)
    (tile_set hT hoT).subset (m := m) (Ds := Ds) (u := 0 * NT) (by omega) (by simp)) $$ [Ht HT HB]
  · isplitl [Ht]
    · rw [show (Memref.whole cc0_scratch7).view.set = Finset.univ from View.set_whole _]; iexact Ht
    isplitl [HT]; iexact HT
    iexact HB
  iintro HB
  rw [wp_ret]
  imodintro
  iexists _
  isplitr; swap
  isplitr; swap
  isplitl [HB]; iexact HB
  iexact HZ
  · ipureintro
    refine list_step Ds _ n hl A _ _ hA ?_
    iintro ⟨H1, H2⟩
    isplitl [H1]
    · iapply (Entails.of_eq (pointsTo_congr fun i hi => ?_)) $$ H1
      have hi' := hi
      simp only [TS, Finset.mem_filter, Finset.mem_univ, _root_.true_and] at hi'
      have hx : (i 1).val = 128 * k + (⟨(i 1).val - 128 * k, by omega⟩ : Fin 128).val := by simp only []; omega
      refine (tile_write hT hoT V _ hi _ ⟨(i 2).val, (i 2).isLt⟩ hx rfl).trans ?_
      rw [hG i hi _ ⟨(i 2).val, (i 2).isLt⟩ hx rfl]
      rfl
    · rw [← show (Memref.whole cc0_scratch7).view.set = Finset.univ from View.set_whole _]; iexact H2
  · ipureintro
    exact (List.length_append).trans (by rw [hl]; rfl)

/-- An expert's zero tiles sent out. -/
theorem zero_loop (c : Dev nD) (Zb : S128x6144.Idx → Elt F .f32) {m n e : ℕ} (he : e < 5) (hn : n + 32 ≤ m) (A : sProp 𝕄) (L : Scf.Loop 32) (ok : L.OK) (hL : L.trips = 32)
    (body : Fin L.trips → Unit → Prog (TpuEff nD τ sig (Elt F) Λ₀ .tc) Unit)
    (hbody : ∀ k, body k ⟨⟩ = zeroBody (offTile e k) (offTile_inb (lt_of_lt_of_eq k.2 hL) he)) (V G : S5x4096x6144.Idx → Elt F .f32)
    (hG : ∀ k < 32, ∀ i ∈ TS e k, ∀ (x : Fin 128) (y : Fin 6144), (i 1).val = 128 * k + x.val → (i 2).val = y.val → G i = Zb (ix2 x y)) :
    iprop(ZSt c Zb m n 0 A ∗ bigSep (Finset.Ico 0 32) fun k => ((c : Thread nD τ).loc main_v0) ↦[TS e k]{fullShare} V)
      ⊢ wp frame (wpE (defs₀ (F := F)) Variants.none c none) Set.univ (Scf.Loop.for L ok ⟨⟩ body)
        (fun _ => ZSt c Zb m (n + 32) 0 iprop(A ∗ bigSep (Finset.range 32) fun k => ((c : Thread nD τ).loc main_v0) ↦[TS e k]{fullShare} G)) := by
  refine BIBase.Entails.trans ?_ (Scf.wp_for frame (wpE (defs₀ (F := F)) Variants.none (c : Thread nD τ) none) Set.univ L.lb L.ub L.st ok ⟨⟩ body
    (fun k _ => iprop(ZSt c Zb m (n + k) 0 iprop(A ∗ bigSep (Finset.range k) fun k => ((c : Thread nD τ).loc main_v0) ↦[TS e k]{fullShare} G)
      ∗ bigSep (Finset.Ico k 32) fun k => ((c : Thread nD τ).loc main_v0) ↦[TS e k]{fullShare} V)) (fun k _ => ?_))
  · iintro ⟨HZ, HT⟩
    isplitl [HZ HT]
    · isplitl [HZ]
      · iapply (zst_mono c Zb ?_) $$ HZ
        iintro HA
        isplitl [HA]; iexact HA
        iapply (Entails.of_eq (show (iprop(emp) : sProp 𝕄) = _ from by rw [Finset.range_zero, bigSep_empty]; rfl)); iempintro
      iexact HT
    · iintro %_ ⟨HZ, -⟩
      iapply (Entails.of_eq ?_) $$ HZ
      rw [show Scf.trips L.lb L.ub L.st = 32 from hL]
  · have hk : k.val < 32 := lt_of_lt_of_eq k.2 hL
    have htr := zero_trip c Zb (m := m) (n := n + k.val) (by omega) iprop(A ∗ bigSep (Finset.range k) fun k => ((c : Thread nD τ).loc main_v0) ↦[TS e k]{fullShare} G)
      (offTile_inb hk he) (offTile_eq hk) V G (hG k hk)
    rw [hbody]
    iintro ⟨HZ, HT⟩
    ihave HT := (Entails.of_eq (bigSep_Ico_succ_bot hk _)) $$ HT
    icases HT with ⟨HT, HTs⟩
    iapply (wp_last c htr (R := iprop(bigSep (Finset.Ico (k.val + 1) 32) fun k => ((c : Thread nD τ).loc main_v0) ↦[TS e k]{fullShare} V)) fun _ => ?_) $$ [HZ HT HTs]
    · iintro ⟨HZ, HT⟩
      isplitl [HZ]
      · iapply (zst_mono c Zb ?_) $$ HZ
        iintro ⟨⟨HA, HB⟩, HC⟩
        isplitl [HA]; iexact HA
        iapply (Entails.of_eq (bigSep_range_succ k.val _).symm)
        isplitl [HC]; iexact HC
        iexact HB
      iexact HT
    isplitr [HTs]
    · isplitl [HZ]; iexact HZ
      iexact HT
    iexact HTs

/-- The waits for all the zero tiles. -/
theorem zwait_loop (c : Dev nD) (Zb : S128x6144.Idx → Elt F .f32) {m : ℕ} (A : sProp 𝕄) (L : Scf.Loop 32) (ok : L.OK) (hL : L.trips = m)
    (body : Fin L.trips → Unit → Prog (TpuEff nD τ sig (Elt F) Λ₀ .tc) Unit) (hbody : ∀ k, body k ⟨⟩ = zwaitBody) :
    iprop(ZSt c Zb m m 0 A ∗ Owes c)
      ⊢ wp frame (wpE (defs₀ (F := F)) Variants.none c none) Set.univ (Scf.Loop.for L ok ⟨⟩ body)
        (fun _ => iprop(ZSt c Zb m m m A ∗ Owes c)) := by
  refine BIBase.Entails.trans ?_ (Scf.wp_for frame (wpE (defs₀ (F := F)) Variants.none (c : Thread nD τ) none) Set.univ L.lb L.ub L.st ok ⟨⟩ body
    (fun k _ => iprop(ZSt c Zb m m k A ∗ Owes c)) (fun k _ => ?_))
  · iintro H
    isplitl [H]; iexact H
    iintro %_ H
    iapply (Entails.of_eq ?_) $$ H
    rw [show Scf.trips L.lb L.ub L.st = m from hL]
  · have hk : k.val < m := lt_of_lt_of_eq k.2 hL
    rw [hbody]
    unfold zwaitBody ZSt Owes
    iintro ⟨⟨%Ds, %hl, %hA, HB, HZ⟩, ⟨%W, HO⟩⟩
    iapply (Transfers.wp_waitBatchedMul EC Variants.none (c : Thread nD τ) none () 1 (N := NT) (by rw [one_mul]; exact tile_credit _ _)
      (u := k.val * NT) (Ds := Ds) (m := m) (by rw [hl, one_mul, Nat.mul_comm NT m, ← Nat.succ_mul]; exact Nat.mul_le_mul_right _ hk)) $$ [HB HO]
    · isplitl [HB]; iexact HB; iexact HO
    iintro ⟨HB, HO⟩
    rw [wp_ret]
    imodintro
    isplitr [HO]
    · iexists Ds
      isplitr
      · ipureintro; exact hl
      isplitr
      · ipureintro; exact hA
      isplitl [HB]
      · iapply (Entails.of_eq (by rw [Nat.succ_mul k.val NT, one_mul])) $$ HB
      iexact HZ
    · iexists _; iexact HO

/-- All the zero tiles waited for: their tiles, the zero buffer and the semaphore at hand. -/
theorem zero_collect (c : Dev nD) (Zb : S128x6144.Idx → Elt F .f32) {m : ℕ} (A : sProp 𝕄) :
    ZSt c Zb m m m A ⊢ iprop(|={Set.univ}=> (A ∗ (((c : Thread nD τ).loc cc0_scratch7) ↦{fullShare} Zb) ∗ semVal ((c : Thread nD τ), SemLoc.dma zsem) 0)) := by
  unfold ZSt
  iintro ⟨%Ds, %hl, %hA, HB, HZ⟩
  ihave HB := (Entails.of_eq (show Transfers.Batched EC (c : Thread nD τ) (.dma zsem) () NT m Ds (m * NT) = Transfers.Batched EC (c : Thread nD τ) (.dma zsem) () NT m Ds (NT * m) by rw [Nat.mul_comm])) $$ HB
  imod (Transfers.batched_collect (Lvl := ℕ) EC (c : Thread nD τ) NT_pos hl) $$ HB with ⟨HD, Hs⟩
  imodintro
  ihave HD := (univ_range m fun t => Ds.getD t iprop(emp)) $$ HD
  ihave HD := hA $$ HD
  icases HD with ⟨HA, HT⟩
  isplitl [HA]; iexact HA
  isplitl [HZ HT]
  · iapply ((Transfers.pointsTo_toks_range fullShare m).2)
    isplitl [HZ]; iexact HZ; iexact HT
  iexact Hs

/-- No zero tile issued. -/
theorem zero_init (c : Dev nD) (Zb : S128x6144.Idx → Elt F .f32) (m : ℕ) :
    iprop((((c : Thread nD τ).loc cc0_scratch7) ↦{fullShare} Zb) ∗ semVal ((c : Thread nD τ), SemLoc.dma zsem) 0) ⊢ iprop(|={Set.univ}=> ZSt c Zb m 0 0 iprop(emp)) := by
  iintro ⟨HZ, Hs⟩
  imod (Transfers.batched_alloc (Lvl := ℕ) EC (c : Thread nD τ) () NT m (sm := .dma zsem) (E := Set.univ)) $$ Hs with HB
  imodintro
  unfold ZSt
  iexists []
  isplitr
  · ipureintro; rfl
  isplitr
  · ipureintro
    rw [Finset.range_zero, bigSep_empty, bigSep_empty]
    iintro -
    isplitr
    · iempintro
    · iempintro
  isplitl [HB]
  · iapply (Entails.of_eq (by rw [Nat.zero_mul])) $$ HB
  iexact HZ

end Cert.KernelIdeal.Hand

end
-- ==== Proof.Bodies.lean ====
/-
  Hand-written, untrusted. The kernel's loop bodies over the whole arrays, as the small programs their rules are stated on.
-/
module

public import proofs.«01_k».proof.Proof.Drain
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

set_option maxRecDepth 65536

variable (arg0 : Memref sig .tc .smem S5 .i32) (h0 : arg0.IsWhole)

theorem t1_body_eq (k : Fin k0_t1_loop.trips) :
    k0_t1_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 k ⟨⟩ = zeroBody (F := F) (offTile 0 k.val) (offTile_inb (k.2 : k.val < 32) (by decide)) := rfl

theorem t2_body_eq (k : Fin k0_t2_loop.trips) :
    k0_t2_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 k ⟨⟩ = zeroBody (F := F) (offTile 1 k.val) (offTile_inb (k.2 : k.val < 32) (by decide)) := rfl

theorem t3_body_eq (k : Fin k0_t3_loop.trips) :
    k0_t3_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 k ⟨⟩ = zeroBody (F := F) (offTile 2 k.val) (offTile_inb (k.2 : k.val < 32) (by decide)) := rfl

theorem t4_body_eq (v12 v18 v24 : BitVec 32) (v27 v30 : BitVec 32) (v31 : BitVec 1) (k : Fin k0_t4_loop.trips) :
    k0_t4_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31 k ⟨⟩ = zeroBody (F := F) (offTile 3 k.val) (offTile_inb (k.2 : k.val < 32) (by decide)) := rfl

theorem t5_body_eq (v12 v18 v24 : BitVec 32) (v27 v30 : BitVec 32) (v31 : BitVec 1) (k : Fin k0_t5_loop.trips) :
    k0_t5_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31 k ⟨⟩ = zeroBody (F := F) (offTile 4 k.val) (offTile_inb (k.2 : k.val < 32) (by decide)) := rfl

theorem t8_body_eq (v45 v50 : BitVec 32) (v139 : IVec S128x256 32) (v0 : BitVec 32) (hw1 : k0_chk1 v0) (v142 v146 c1 c2 c3 c4 : BitVec 32) (k : Fin (mainLoop v0).trips) :
    k0_t8_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4 k ⟨⟩ = ringBody (cndW 0#32 k.val) (offSem 0#32 k.val) (offTile 0 k.val) (offSlot 0#32 k.val) (offRows k.val)
      (offSem_inb base0_eq (by omega) (mainLoop_lt k)) (offTile_inb (mainLoop_lt k) (by decide)) (offSlot_inb base0_eq (by omega) (mainLoop_lt k)) (offRows_inb (mainLoop_lt k))
      (fun a b => k0_pay10 (F := F) v45 v139 c4 a b) := rfl

theorem t10_body_eq (v45 v50 : BitVec 32) (v139 : IVec S128x256 32) (v0 : BitVec 32) (hw1 : k0_chk1 v0) (v142 v146 c1 c2 c3 c4 : BitVec 32) (v1 : BitVec 32) (hw2 : k0_chk2 v0 v1) (k : Fin (mainLoop v1).trips) :
    k0_t10_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4 v1 hw2 k ⟨⟩ = ringBody (cndW (base1 v0) k.val) (offSem (base1 v0) k.val) (offTile 1 k.val) (offSlot (base1 v0) k.val) (offRows k.val)
      (offSem_inb (base1_eq v0) (by have := liveN_le v0; omega) (mainLoop_lt k)) (offTile_inb (mainLoop_lt k) (by decide)) (offSlot_inb (base1_eq v0) (by have := liveN_le v0; omega) (mainLoop_lt k)) (offRows_inb (mainLoop_lt k))
      (fun a b => k0_pay12 (F := F) v45 v50 v139 a b) := rfl

theorem t12_body_eq (v50 v55 v60 : BitVec 32) (v139 : IVec S128x256 32) (v0 v1 v165 v2 : BitVec 32) (hw3 : k0_chk3 v0 v1 v2) (v168 v172 c1 : BitVec 32) (k : Fin (mainLoop v2).trips) :
    k0_t12_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1 k ⟨⟩ = ringBody (cndW (base2 v0 v1) k.val) (offSem (base2 v0 v1) k.val) (offTile 2 k.val) (offSlot (base2 v0 v1) k.val) (offRows k.val)
      (offSem_inb (base2_eq v0 v1) (by have := liveN_le v0; have := liveN_le v1; omega) (mainLoop_lt k)) (offTile_inb (mainLoop_lt k) (by decide)) (offSlot_inb (base2_eq v0 v1) (by have := liveN_le v0; have := liveN_le v1; omega) (mainLoop_lt k)) (offRows_inb (mainLoop_lt k))
      (fun a b => k0_pay14 (F := F) v50 v55 v139 a b) := rfl

theorem t14_body_eq (v50 v55 v60 : BitVec 32) (v139 : IVec S128x256 32) (v0 v1 v165 v2 : BitVec 32) (hw3 : k0_chk3 v0 v1 v2) (v168 v172 c1 : BitVec 32) (v3 : BitVec 32) (hw4 : k0_chk4 v0 v1 v2 v3) (k : Fin (mainLoop v3).trips) :
    k0_t14_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1 v3 hw4 k ⟨⟩ = ringBody (cndW (base3 v0 v1 v2) k.val) (offSem (base3 v0 v1 v2) k.val) (offTile 3 k.val) (offSlot (base3 v0 v1 v2) k.val) (offRows k.val)
      (offSem_inb (base3_eq v0 v1 v2) (by have := liveN_le v0; have := liveN_le v1; have := liveN_le v2; omega) (mainLoop_lt k)) (offTile_inb (mainLoop_lt k) (by decide)) (offSlot_inb (base3_eq v0 v1 v2) (by have := liveN_le v0; have := liveN_le v1; have := liveN_le v2; omega) (mainLoop_lt k)) (offRows_inb (mainLoop_lt k))
      (fun a b => k0_pay16 (F := F) v55 v60 v139 a b) := rfl

theorem t16_body_eq (v60 v63 : BitVec 32) (v139 : IVec S128x256 32) (v0 v1 v2 v3 v4 : BitVec 32) (hw5 : k0_chk5 v0 v1 v2 v3 v4) (k : Fin (mainLoop v4).trips) :
    k0_t16_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v60 v63 v139 v0 v1 v2 v3 v4 hw5 k ⟨⟩ = ringBody (cndW (base4 v0 v1 v2 v3) k.val) (offSem (base4 v0 v1 v2 v3) k.val) (offTile 4 k.val) (offSlot (base4 v0 v1 v2 v3) k.val) (offRows k.val)
      (offSem_inb (base4_eq v0 v1 v2 v3) (by have := liveN_le v0; have := liveN_le v1; have := liveN_le v2; have := liveN_le v3; omega) (mainLoop_lt k)) (offTile_inb (mainLoop_lt k) (by decide)) (offSlot_inb (base4_eq v0 v1 v2 v3) (by have := liveN_le v0; have := liveN_le v1; have := liveN_le v2; have := liveN_le v3; omega) (mainLoop_lt k)) (offRows_inb (mainLoop_lt k))
      (fun a b => k0_pay18 (F := F) v60 v63 v139 a b) := rfl

theorem t18_body_eq (v0 v1 v2 v3 v4 : BitVec 32) (hw : k0_chk6 v0 v1 v2 v3 v4) (k : Fin (zeroLoop v0 v1 v2 v3 v4).trips) :
    k0_t18_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v0 v1 v2 v3 v4 hw k ⟨⟩ = zwaitBody (F := F) := rfl

theorem t20_body_eq (v0 v1 v2 v3 v4 : BitVec 32) (hw : k0_chk5 v0 v1 v2 v3 v4) (k : Fin (drainLoop v0 v1 v2 v3 v4).trips) :
    k0_t20_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v0 v1 v2 v3 v4 hw k ⟨⟩ = drainBody (F := F) ![(tripW k.val).toNat] ![0, 0, 0] ![(tripW k.val).toNat, 0, 0]
      (drainSem_inb (drainLoop_lt _ _ _ _ _ k)) inb_S5x4096x6144_S1x128x6144_0_0_0 (drainSlot_inb (drainLoop_lt _ _ _ _ _ k)) := rfl

/-- The count of empty groups, one more word in. -/
abbrev zc (n v : BitVec 32) : BitVec 32 := Scalar.addi n (Scalar.extui (Scalar.cmpi .eq v 0#32))

/-- A word of the group sizes. -/
def rd (i : ℕ) (h : ∀ a, (![i] : Fin 1 → ℕ) a + S1.size a ≤ S5.size a) : Prog (TpuEff nD τ sig (Elt F) Λ₀ .tc) (Elt F .i32) :=
  smemLoad arg0 (Rect.unit (s := S5) ![i] S1.size h) numel1_S1 rfl

/-- The semaphore of input copy `i`. -/
def isem (i : ℕ) (h : ∀ a, (![i] : Fin 1 → ℕ) a + S1.size a ≤ S4.size a) : DmaSem sig :=
  ((cc0_scratch9.slice (Rect.unit (s := S4) ![i] S1.size h)).squeeze S_ squeezes_S1_S_).sem

/-- An expert's zero tiles, when its group is empty, and what follows. -/
def zeroIf {α : Type} (v : BitVec 32) (L : Scf.Loop 32) (ok : L.OK) (body : Fin L.trips → Unit → Prog (TpuEff nD τ sig (Elt F) Λ₀ .tc) Unit)
    (k : Prog (TpuEff nD τ sig (Elt F) Λ₀ .tc) α) : Prog (TpuEff nD τ sig (Elt F) Λ₀ .tc) α :=
  if Scalar.cmpi .ne (Scalar.extui (Scalar.cmpi .eq v 0#32) : BitVec 32) 0#32 = 1#1 then (Scf.Loop.for L ok ⟨⟩ body).bind fun _ => k else k

/-- The four input copies started, and the zero buffer filled. -/
def startH : Prog (TpuEff nD τ sig (Elt F) Λ₀ .tc) PUnit :=
  .op (.enqueueDma (Memref.whole main_arg0) (.here (Memref.whole cc0_scratch0)) (.dma (isem 0 inb_S4_S1_0)) (Memref.isWhole_whole main_arg0).wordExact (Memref.isWhole_whole cc0_scratch0).wordExact ⟨Or.inl rfl, trivial⟩) fun _ =>
  .op (.enqueueDma (Memref.whole main_arg1) (.here (Memref.whole cc0_scratch1)) (.dma (isem 1 inb_S4_S1_1)) (Memref.isWhole_whole main_arg1).wordExact (Memref.isWhole_whole cc0_scratch1).wordExact ⟨Or.inl rfl, trivial⟩) fun _ =>
  .op (.enqueueDma (Memref.whole main_arg2) (.here (Memref.whole cc0_scratch2)) (.dma (isem 2 inb_S4_S1_2)) (Memref.isWhole_whole main_arg2).wordExact (Memref.isWhole_whole cc0_scratch2).wordExact ⟨Or.inl rfl, trivial⟩) fun _ =>
  .op (.enqueueDma (Memref.whole main_arg3) (.here (Memref.whole cc0_scratch3)) (.dma (isem 3 inb_S4_S1_3)) (Memref.isWhole_whole main_arg3).wordExact (Memref.isWhole_whole cc0_scratch3).wordExact ⟨Or.inl rfl, trivial⟩) fun _ =>
  .op (.load (Memref.whole cc0_scratch7) (Rect.unit (s := S128x6144) ![0, 0] S128x6144.size inb_S128x6144_S128x6144_0_0).toLoadRect (View.loadsAt_vmem h_S128x6144)) fun _ =>
  .op (.store (Memref.whole cc0_scratch7) (Rect.unit (s := S128x6144) ![0, 0] S128x6144.size inb_S128x6144_S128x6144_0_0) (k0_pay1 (F := F)) Finset.univ (View.stores_vmem_bits_univ h_S128x6144 rfl) (.inl rfl)) fun _ => .ret ⟨⟩

theorem part1_eq : k0_part1 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 =
    startH.bind fun _ => (rd arg0 0 inb_S5_S1_0).bind fun v12 => zeroIf v12 k0_t1_loop k0_t1_ok (k0_t1_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11) <|
    (rd arg0 1 inb_S5_S1_1).bind fun v18 => zeroIf v18 k0_t2_loop k0_t2_ok (k0_t2_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11) <|
    (rd arg0 2 inb_S5_S1_2).bind fun v24 => zeroIf v24 k0_t3_loop k0_t3_ok (k0_t3_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11) <|
    (rd arg0 3 inb_S5_S1_3).bind fun v30 => .ret ⟨v12, v18, v24, zc (zc (zc 0#32 v12) v18) v24, v30, Scalar.cmpi .eq v30 0#32⟩ := rfl

/-- The running ends of the groups, and the running counts of their scale rows. -/
abbrev end1 (w0 : BitVec 32) : BitVec 32 := Scalar.addi 0#32 w0
abbrev end2 (w0 w1 : BitVec 32) : BitVec 32 := Scalar.addi (end1 w0) w1
abbrev end3 (w0 w1 w2 : BitVec 32) : BitVec 32 := Scalar.addi (end2 w0 w1) w2
abbrev end4 (w0 w1 w2 w3 : BitVec 32) : BitVec 32 := Scalar.addi (end3 w0 w1 w2) w3
abbrev end5 (w0 w1 w2 w3 w4 : BitVec 32) : BitVec 32 := Scalar.addi (end4 w0 w1 w2 w3) w4
abbrev blk (w : BitVec 32) : BitVec 32 := Scalar.shrui (Scalar.addi w 127#32) 7#32
abbrev num1 (w0 : BitVec 32) : BitVec 32 := Scalar.addi 0#32 (blk w0)
abbrev num2 (w0 w1 : BitVec 32) : BitVec 32 := Scalar.addi (num1 w0) (blk w1)
abbrev num3 (w0 w1 w2 : BitVec 32) : BitVec 32 := Scalar.addi (num2 w0 w1) (blk w2)
abbrev num4 (w0 w1 w2 w3 : BitVec 32) : BitVec 32 := Scalar.addi (num3 w0 w1 w2) (blk w3)
abbrev topD (b : BitVec 32) : BitVec 32 := Scalar.divsi (Scalar.addi (Scalar.subi b 0#32) (Scalar.subi 1#32 1#32)) 1#32
abbrev endW (b : BitVec 32) : BitVec 32 := Scalar.muli (Scalar.divsi (Scalar.subi (topD (Scalar.minsi b 8#32)) 0#32) 1#32) 1#32

/-- The row-of-scales table stored. -/
def gidH (v63 : BitVec 32) (v64 v113 v119 v120 : IVec S256x128 32) : Prog (TpuEff nD τ sig (Elt F) Λ₀ .tc) PUnit :=
  .op (.load (Memref.whole cc0_scratch4) (Rect.unit (s := S256x128) ![0, 0] S256x128.size inb_S256x128_S256x128_0_0).toLoadRect (View.loadsAt_vmem h_S256x128)) fun _ =>
  .op (.store (Memref.whole cc0_scratch4) (Rect.unit (s := S256x128) ![0, 0] S256x128.size inb_S256x128_S256x128_0_0) (k0_pay7 v63 v64 v113 v119 v120) Finset.univ
    (View.stores_vmem_bits_univ h_S256x128 rfl) (.inl rfl)) fun _ => .ret ⟨⟩

/-- The wait for input copy `i`. -/
def waitH (i : ℕ) (a b : Ref sig .tc) (h : ∀ x, (![i] : Fin 1 → ℕ) x + S1.size x ≤ S4.size x) : Prog (TpuEff nD τ sig (Elt F) Λ₀ .tc) PUnit :=
  .op (.waitDma2 (isem i h) (Memref.whole a) (Memref.whole b) (Memref.isWhole_whole a).wordExact (Memref.isWhole_whole b).wordExact) fun _ => .ret ⟨⟩

theorem part2_eq (v12 v18 v24 v27 v30 : BitVec 32) (v31 : BitVec 1) (hv : v31 = Scalar.cmpi .eq v30 0#32) : k0_part2 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31 =
    (zeroIf v30 k0_t4_loop k0_t4_ok (k0_t4_body (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31) <|
    (rd arg0 4 inb_S5_S1_4).bind fun v36 => .op (.assume (k0_chk6 v12 v18 v24 v30 v36) (k0_chk6.dec v12 v18 v24 v30 v36)) fun hw =>
    zeroIf v36 k0_t5_loop k0_t5_ok (k0_t5_body (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31) <|
    (rd arg0 0 inb_S5_S1_0).bind fun w0 => (rd arg0 1 inb_S5_S1_1).bind fun w1 => (rd arg0 2 inb_S5_S1_2).bind fun w2 =>
    (rd arg0 3 inb_S5_S1_3).bind fun w3 => (rd arg0 4 inb_S5_S1_4).bind fun w4 =>
    .ret ⟨v36, hw.down, zc (zc v27 v30) v36, end1 w0, num1 w0, end2 w0 w1, num2 w0 w1, end3 w0 w1 w2, num3 w0 w1 w2, end4 w0 w1 w2 w3, num4 w0 w1 w2 w3, end5 w0 w1 w2 w3 w4,
      iota .tc S256x128 32 [0] iota_S256x128_d0_w32, k0_pay2, k0_pay3⟩) := by subst hv; rfl

/-- A block of the matrix `x` dequantized, transposed, rounded and stored. -/
def deqX (k : Fin 32) : Prog (TpuEff nD τ sig (Elt F) Λ₀ .tc) Unit :=
  .op (.load (Memref.whole cc0_scratch1) (Rect.unit (s := S4x4096) (k0_off6 k) S4x128.size (k0_off6_inb k)).toLoadRect (View.loadsAt_vmem h_S4x128)) fun a =>
  .op (.load (Memref.whole cc0_scratch4) (Rect.unit (s := S256x128) ![0, 0] S256x128.size inb_S256x128_S256x128_0_0).toLoadRect (View.loadsAt_vmem h_S256x128)) fun b =>
  .op (.load (Memref.whole cc0_scratch0) (Rect.unit (s := S256x4096) (k0_off7 k) S256x128.size (k0_off7_inb k)).toLoadRect (View.loadsAt_vmem h_S256x128)) fun d =>
  .op (.load (Memref.whole cc0_scratch5) (Rect.unit (s := S4096x256) (k0_off8 k) S128x256.size (k0_off8_inb k)).toLoadRect (View.loadsAt_vmem h_S128x256)) fun _ =>
  .op (.store (Memref.whole cc0_scratch5) (Rect.unit (s := S4096x256) (k0_off8 k) S128x256.size (k0_off8_inb k)) (k0_pay8 a b d) Finset.univ
    (View.stores_vmem h_S128x256 ((Memref.isWhole_whole cc0_scratch5).storeExact_slice rfl _ (k0_off8_packedbf16 k)) (fun _ => rfl)) (.inl rfl)) fun _ => .ret ⟨⟩

/-- A block of the matrix `dy` dequantized, rounded and stored. -/
def deqY (k : Fin 48) : Prog (TpuEff nD τ sig (Elt F) Λ₀ .tc) Unit :=
  .op (.load (Memref.whole cc0_scratch3) (Rect.unit (s := S4x6144) (k0_off9 k) S4x128.size (k0_off9_inb k)).toLoadRect (View.loadsAt_vmem h_S4x128)) fun a =>
  .op (.load (Memref.whole cc0_scratch4) (Rect.unit (s := S256x128) ![0, 0] S256x128.size inb_S256x128_S256x128_0_0).toLoadRect (View.loadsAt_vmem h_S256x128)) fun b =>
  .op (.load (Memref.whole cc0_scratch2) (Rect.unit (s := S256x6144) (k0_off10 k) S256x128.size (k0_off10_inb k)).toLoadRect (View.loadsAt_vmem h_S256x128)) fun d =>
  .op (.load (Memref.whole cc0_scratch6) (Rect.unit (s := S256x6144) (k0_off10 k) S256x128.size (k0_off10_inb k)).toLoadRect (View.loadsAt_vmem h_S256x128)) fun _ =>
  .op (.store (Memref.whole cc0_scratch6) (Rect.unit (s := S256x6144) (k0_off10 k) S256x128.size (k0_off10_inb k)) (k0_pay9 a b d) Finset.univ
    (View.stores_vmem h_S256x128 ((Memref.isWhole_whole cc0_scratch6).storeExact_slice rfl _ (k0_off10_packedbf16 k)) (fun _ => rfl)) (.inl rfl)) fun _ => .ret ⟨⟩

theorem t6_body_eq (v63 : BitVec 32) (v64 v113 v119 v120 : IVec S256x128 32) (k : Fin k0_t6_loop.trips) :
    k0_t6_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120 k ⟨⟩ = deqX (F := F) k := rfl
theorem t7_body_eq (v63 : BitVec 32) (v64 v113 v119 v120 : IVec S256x128 32) (k : Fin k0_t7_loop.trips) :
    k0_t7_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120 k ⟨⟩ = deqY (F := F) k := rfl

theorem part4_eq (v63 : BitVec 32) (v64 v113 v119 v120 : IVec S256x128 32) : k0_part4 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120 =
    (gidH v63 v64 v113 v119 v120).bind fun _ => (waitH 0 main_arg0 cc0_scratch0 inb_S4_S1_0).bind fun _ => (waitH 1 main_arg1 cc0_scratch1 inb_S4_S1_1).bind fun _ =>
    (Scf.Loop.for k0_t6_loop k0_t6_ok ⟨⟩ (k0_t6_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120)).bind fun _ =>
    (waitH 2 main_arg2 cc0_scratch2 inb_S4_S1_2).bind fun _ => (waitH 3 main_arg3 cc0_scratch3 inb_S4_S1_3).bind fun _ =>
    (Scf.Loop.for k0_t7_loop k0_t7_ok ⟨⟩ (k0_t7_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120)).bind fun _ =>
    (rd arg0 0 inb_S5_S1_0).bind fun v140 => .op (.assume (k0_chk1 v140) (k0_chk1.dec v140)) fun hw =>
    .ret ⟨iota .tc S128x256 32 [1] iota_S128x256_d1_w32, v140, hw.down, live v140, topD (live v140), 1#32, 0#32, 0#32, 0#32⟩ := rfl

theorem part5_eq (v45 v50 : BitVec 32) (v139 : IVec S128x256 32) (v0 : BitVec 32) (hw1 : k0_chk1 v0) (v142 v146 c1 c2 c3 c4 : BitVec 32) :
    k0_part5 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4 =
    (Scf.Loop.for (k0_t8_loop v0) (k0_t8_ok v0 hw1) ⟨⟩ (k0_t8_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4)).bind fun _ =>
    (Scf.Loop.for (k0_t9_loop v0) (k0_t9_ok v0 hw1) ⟨⟩ (k0_t9_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4)).bind fun _ =>
    (rd arg0 1 inb_S5_S1_1).bind fun v1 => .op (.assume (k0_chk2 v0 v1) (k0_chk2.dec v0 v1)) fun hw2 =>
    (Scf.Loop.for (k0_t10_loop v1) (k0_t10_ok v0 v1 hw2.down) ⟨⟩ (k0_t10_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4 v1 hw2.down)).bind fun _ =>
    (Scf.Loop.for (k0_t11_loop v1) (k0_t11_ok v0 v1 hw2.down) ⟨⟩ (k0_t11_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v0 hw1 v142 v146 c1 c2 c3 c4 v1 hw2.down)).bind fun _ =>
    (rd arg0 2 inb_S5_S1_2).bind fun v2 => .op (.assume (k0_chk3 v0 v1 v2) (k0_chk3.dec v0 v1 v2)) fun hw3 =>
    .ret ⟨v1, Scalar.addi (Scalar.addi 0#32 v142) (live v1), v2, hw3.down, live v2, topD (live v2), 1#32⟩ := rfl

theorem part6_eq (v50 v55 v60 : BitVec 32) (v139 : IVec S128x256 32) (v0 v1 v165 v2 : BitVec 32) (hw3 : k0_chk3 v0 v1 v2) (v168 v172 c1 : BitVec 32) :
    k0_part6 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1 =
    (Scf.Loop.for (k0_t12_loop v2) (k0_t12_ok v0 v1 v2 hw3) ⟨⟩ (k0_t12_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1)).bind fun _ =>
    (Scf.Loop.for (k0_t13_loop v2) (k0_t13_ok v0 v1 v2 hw3) ⟨⟩ (k0_t13_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1)).bind fun _ =>
    (rd arg0 3 inb_S5_S1_3).bind fun v3 => .op (.assume (k0_chk4 v0 v1 v2 v3) (k0_chk4.dec v0 v1 v2 v3)) fun hw4 =>
    (Scf.Loop.for (k0_t14_loop v3) (k0_t14_ok v0 v1 v2 v3 hw4.down) ⟨⟩ (k0_t14_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1 v3 hw4.down)).bind fun _ =>
    (Scf.Loop.for (k0_t15_loop v3) (k0_t15_ok v0 v1 v2 v3 hw4.down) ⟨⟩ (k0_t15_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v0 v1 v165 v2 hw3 v168 v172 c1 v3 hw4.down)).bind fun _ =>
    (rd arg0 4 inb_S5_S1_4).bind fun v4 => .op (.assume (k0_chk5 v0 v1 v2 v3 v4) (k0_chk5.dec v0 v1 v2 v3 v4)) fun hw5 =>
    .ret ⟨v3, Scalar.addi (Scalar.addi v165 v168) (live v3), v4, hw5.down, live v4, topD (live v4), 1#32⟩ := rfl

/-- The fifth expert's products, and the waits for the zero tiles. -/
def tailH (v60 v63 : BitVec 32) (v139 : IVec S128x256 32) (v0 v1 v2 v3 v4 : BitVec 32) (hw5 : k0_chk5 v0 v1 v2 v3 v4) (z0 z1 z2 z3 z4 : BitVec 32) (hw6 : k0_chk6 z0 z1 z2 z3 z4)
    {α : Type} (k : Prog (TpuEff nD τ sig (Elt F) Λ₀ .tc) α) : Prog (TpuEff nD τ sig (Elt F) Λ₀ .tc) α :=
  (Scf.Loop.for (k0_t16_loop v4) (k0_t16_ok v0 v1 v2 v3 v4 hw5) ⟨⟩ (k0_t16_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v60 v63 v139 v0 v1 v2 v3 v4 hw5)).bind fun _ =>
  (Scf.Loop.for (k0_t17_loop v4) (k0_t17_ok v0 v1 v2 v3 v4 hw5) ⟨⟩ (k0_t17_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v60 v63 v139 v0 v1 v2 v3 v4 hw5)).bind fun _ =>
  (Scf.Loop.for (k0_t18_loop z0 z1 z2 z3 z4) (k0_t18_ok z0 z1 z2 z3 z4 hw6) ⟨⟩ (k0_t18_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 z0 z1 z2 z3 z4 hw6)).bind fun _ =>
  (Scf.Loop.for (k0_t19_loop z0 z1 z2 z3 z4) (k0_t19_ok z0 z1 z2 z3 z4 hw6) ⟨⟩ (k0_t19_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 z0 z1 z2 z3 z4 hw6)).bind fun _ => k

/-- The ring's last waits. -/
def endH (v0 v1 v2 v3 v4 : BitVec 32) (hw5 : k0_chk5 v0 v1 v2 v3 v4) : Prog (TpuEff nD τ sig (Elt F) Λ₀ .tc) PUnit :=
  (Scf.Loop.for (k0_t20_loop v0 v1 v2 v3 v4) (k0_t20_ok v0 v1 v2 v3 v4 hw5) ⟨⟩ (k0_t20_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v0 v1 v2 v3 v4 hw5)).bind fun _ =>
  (Scf.Loop.for (k0_t21_loop v0 v1 v2 v3 v4) (k0_t21_ok v0 v1 v2 v3 v4 hw5) ⟨⟩ (k0_t21_body arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v0 v1 v2 v3 v4 hw5)).bind fun _ => .ret ⟨⟩

theorem part7_eq : k0_part7 (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 =
    (k0_part1 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11).bind fun ⟨v12, v18, v24, v27, v30, v31⟩ =>
    (k0_part2 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v12 v18 v24 v27 v30 v31).bind fun ⟨v36, hw6, _, v45, v46, v50, v51, v55, v56, v60, v61, v63, v64, v65, v67⟩ =>
    (k0_part3 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v46 v50 v51 v55 v56 v60 v61 v64 v65 v67).bind fun ⟨v113, v119, v120⟩ =>
    (k0_part4 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v63 v64 v113 v119 v120).bind fun ⟨v139, v140, hw1, v142, v146, c1, c2, c3, c4⟩ =>
    (k0_part5 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v50 v139 v140 hw1 v142 v146 c1 c2 c3 c4).bind fun ⟨v153, v165, v166, hw3, v168, v172, c5⟩ =>
    (k0_part6 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v50 v55 v60 v139 v140 v153 v165 v166 hw3 v168 v172 c5).bind fun ⟨v179, v191, v192, hw5, v194, _, _⟩ =>
    tailH arg0 h0 v60 v63 v139 v140 v153 v166 v179 v192 hw5 v12 v18 v24 v30 v36 hw6 (.ret ⟨v140, v153, v166, v179, v192, hw5, 1#32, 0#32, 0#32, endW (Scalar.addi v191 v194)⟩) := rfl

theorem kernel_eq : cc0_grouped_fp8_wgrad (F := F) arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 =
    (k0_part7 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11).bind fun ⟨v140, v153, v166, v179, v192, hw5, _, _, _, _⟩ => endH arg0 h0 v140 v153 v166 v179 v192 hw5 := rfl

end Cert.KernelIdeal.Hand
-- ==== Proof.Deq.lean ====
/-
  Hand-written, untrusted. The two matrices dequantized block by block, and the program's small steps: the words read, the input copies and their waits.
-/
module

public import proofs.«01_k».proof.Proof.Bodies
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

set_option maxRecDepth 65536

theorem idx2_ext {d : Fin 2 → ℕ} {x y : (⟨2, d⟩ : Shape).Idx} (h0 : (x 0).val = (y 0).val) (h1 : (x 1).val = (y 1).val) : x = y :=
  funext fun a => Fin.ext (match a with | ⟨0, _⟩ => h0 | ⟨1, _⟩ => h1)

/-- The whole of an array as a loaded block. -/
abbrev wholeRead4 (GD : S256x128.Idx → Elt F .i32) : Vec F S256x128 .i32 :=
  ((Memref.whole cc0_scratch4).access (Rect.unit (s := S256x128) ![0, 0] S256x128.size inb_S256x128_S256x128_0_0)).read (Elt F) GD

/-- Block `k` of the dequantized `x`, transposed. -/
def xBlk (X : S256x4096.Idx → Elt F .fp8e4m3) (XS : S4x4096.Idx → Elt F .f32) (GD : S256x128.Idx → Elt F .i32) (k : Fin 32) : FVec F S128x256 .bf16 :=
  k0_pay8 (((Memref.whole cc0_scratch1).access (Rect.unit (s := S4x4096) (k0_off6 k) S4x128.size (k0_off6_inb k))).read (Elt F) XS) (wholeRead4 GD)
    (((Memref.whole cc0_scratch0).access (Rect.unit (s := S256x4096) (k0_off7 k) S256x128.size (k0_off7_inb k))).read (Elt F) X)

/-- Block `k` of the dequantized `dy`. -/
def yBlk (Y : S256x6144.Idx → Elt F .fp8e4m3) (YS : S4x6144.Idx → Elt F .f32) (GD : S256x128.Idx → Elt F .i32) (k : Fin 48) : FVec F S256x128 .bf16 :=
  k0_pay9 (((Memref.whole cc0_scratch3).access (Rect.unit (s := S4x6144) (k0_off9 k) S4x128.size (k0_off9_inb k))).read (Elt F) YS) (wholeRead4 GD)
    (((Memref.whole cc0_scratch2).access (Rect.unit (s := S256x6144) (k0_off10 k) S256x128.size (k0_off10_inb k))).read (Elt F) Y)

/-- The dequantized matrices. -/
def xAll (X : S256x4096.Idx → Elt F .fp8e4m3) (XS : S4x4096.Idx → Elt F .f32) (GD : S256x128.Idx → Elt F .i32) : S4096x256.Idx → Elt F .bf16 :=
  fun i => xBlk X XS GD ⟨(i 0).val / 128, by have : (i 0).val < 4096 := (i 0).isLt; omega⟩ (ix2 ⟨(i 0).val % 128, by omega⟩ (i 1))
def yAll (Y : S256x6144.Idx → Elt F .fp8e4m3) (YS : S4x6144.Idx → Elt F .f32) (GD : S256x128.Idx → Elt F .i32) : S256x6144.Idx → Elt F .bf16 :=
  fun i => yBlk Y YS GD ⟨(i 1).val / 128, by have : (i 1).val < 6144 := (i 1).isLt; omega⟩ (ix2 (i 0) ⟨(i 1).val % 128, by omega⟩)

theorem x_write (f : S4096x256.Idx → Elt F .bf16) (w : S128x256.Idx → Elt F .bf16) (k : Fin 32) (i : S4096x256.Idx) :
    ((Memref.whole cc0_scratch5).access (Rect.unit (s := S4096x256) (k0_off8 k) S128x256.size (k0_off8_inb k))).write (Elt F) f w Finset.univ i
      = if (i 0).val / 128 = k.val then w (ix2 ⟨(i 0).val % 128, by omega⟩ (i 1)) else f i := by
  have hk := k.2
  have ho : k0_off8 k = ![128 * k.val, 0] := k0_off8_eq k
  split
  · rename_i h
    have he : ((Memref.whole cc0_scratch5).access (Rect.unit (s := S4096x256) (k0_off8 k) S128x256.size (k0_off8_inb k))).emb (ix2 ⟨(i 0).val % 128, by omega⟩ (i 1)) = i := by
      refine idx2_ext ?_ ?_
      · show (k0_off8 k) 0 + 1 * ((i 0).val % 128) = _
        rw [ho]; show 128 * k.val + 1 * ((i 0).val % 128) = (i 0).val; omega
      · show (k0_off8 k) 1 + 1 * (i 1).val = _
        rw [ho]; show 0 + 1 * (i 1).val = (i 1).val; omega
    conv_lhs => rw [← he]
    exact View.write_emb_of_mem _ _ (Finset.mem_univ _)
  · rename_i h
    refine View.write_of_not_mem _ _ _ ?_
    intro hm
    rw [show ((Memref.whole cc0_scratch5).access (Rect.unit (s := S4096x256) (k0_off8 k) S128x256.size (k0_off8_inb k))).setOn Finset.univ = _ from View.set_slice_whole _ _] at hm
    have := (Rect.mem_set_unit.mp hm) 0
    rw [ho] at this
    have h1 : 128 * k.val ≤ (i 0).val := this.1
    have h2 : (i 0).val < 128 * k.val + 128 := this.2
    omega

theorem y_write (f : S256x6144.Idx → Elt F .bf16) (w : S256x128.Idx → Elt F .bf16) (k : Fin 48) (i : S256x6144.Idx) :
    ((Memref.whole cc0_scratch6).access (Rect.unit (s := S256x6144) (k0_off10 k) S256x128.size (k0_off10_inb k))).write (Elt F) f w Finset.univ i
      = if (i 1).val / 128 = k.val then w (ix2 (i 0) ⟨(i 1).val % 128, by omega⟩) else f i := by
  have hk := k.2
  have ho : k0_off10 k = ![0, 128 * k.val] := k0_off10_eq k
  split
  · rename_i h
    have he : ((Memref.whole cc0_scratch6).access (Rect.unit (s := S256x6144) (k0_off10 k) S256x128.size (k0_off10_inb k))).emb (ix2 (i 0) ⟨(i 1).val % 128, by omega⟩) = i := by
      refine idx2_ext ?_ ?_
      · show (k0_off10 k) 0 + 1 * (i 0).val = _
        rw [ho]; show 0 + 1 * (i 0).val = (i 0).val; omega
      · show (k0_off10 k) 1 + 1 * ((i 1).val % 128) = _
        rw [ho]; show 128 * k.val + 1 * ((i 1).val % 128) = (i 1).val; omega
    conv_lhs => rw [← he]
    exact View.write_emb_of_mem _ _ (Finset.mem_univ _)
  · rename_i h
    refine View.write_of_not_mem _ _ _ ?_
    intro hm
    rw [show ((Memref.whole cc0_scratch6).access (Rect.unit (s := S256x6144) (k0_off10 k) S256x128.size (k0_off10_inb k))).setOn Finset.univ = _ from View.set_slice_whole _ _] at hm
    have := (Rect.mem_set_unit.mp hm) 1
    rw [ho] at this
    have h1 : 128 * k.val ≤ (i 1).val := this.1
    have h2 : (i 1).val < 128 * k.val + 128 := this.2
    omega

theorem x_trip (c : Dev nD) (X : S256x4096.Idx → Elt F .fp8e4m3) (XS : S4x4096.Idx → Elt F .f32) (GD : S256x128.Idx → Elt F .i32) (f : S4096x256.Idx → Elt F .bf16) (k : Fin 32) :
    (iprop((((c : Thread nD τ).loc cc0_scratch1) ↦{fullShare} XS) ∗ (((c : Thread nD τ).loc cc0_scratch4) ↦{fullShare} GD) ∗ (((c : Thread nD τ).loc cc0_scratch0) ↦{fullShare} X) ∗ (((c : Thread nD τ).loc cc0_scratch5) ↦{fullShare} f)) : sProp 𝕄)
      ⊢ wp frame (wpE (defs₀ (F := F)) Variants.none c none) Set.univ (deqX k)
        (fun _ => iprop((((c : Thread nD τ).loc cc0_scratch1) ↦{fullShare} XS) ∗ (((c : Thread nD τ).loc cc0_scratch4) ↦{fullShare} GD) ∗ (((c : Thread nD τ).loc cc0_scratch0) ↦{fullShare} X)
          ∗ (((c : Thread nD τ).loc cc0_scratch5) ↦{fullShare} ((Memref.whole cc0_scratch5).access (Rect.unit (s := S4096x256) (k0_off8 k) S128x256.size (k0_off8_inb k))).write (Elt F) f (xBlk X XS GD k) Finset.univ))) := by
  unfold deqX
  iintro ⟨Ha, Hb, Hd, Hw⟩
  iapply (wp_load_rect Variants.none (c : Thread nD τ) none Set.univ (m := Memref.whole cc0_scratch1) (Finset.subset_univ _)) $$ [Ha]
  · iexact Ha
  iintro Ha
  iapply (wp_load_rect Variants.none (c : Thread nD τ) none Set.univ (m := Memref.whole cc0_scratch4) (Finset.subset_univ _)) $$ [Hb]
  · iexact Hb
  iintro Hb
  iapply (wp_load_rect Variants.none (c : Thread nD τ) none Set.univ (m := Memref.whole cc0_scratch0) (Finset.subset_univ _)) $$ [Hd]
  · iexact Hd
  iintro Hd
  iapply (wp_load_rect Variants.none (c : Thread nD τ) none Set.univ (m := Memref.whole cc0_scratch5) (Finset.subset_univ _)) $$ [Hw]
  · iexact Hw
  iintro Hw
  iapply (wp_store Variants.none (c : Thread nD τ) none Set.univ (m := Memref.whole cc0_scratch5) (Finset.subset_univ _)) $$ [Hw]
  · iexact Hw
  iintro Hw
  rw [wp_ret]
  imodintro
  isplitl [Ha]; iexact Ha
  isplitl [Hb]; iexact Hb
  isplitl [Hd]; iexact Hd
  iexact Hw

theorem x_loop (c : Dev nD) (X : S256x4096.Idx → Elt F .fp8e4m3) (XS : S4x4096.Idx → Elt F .f32) (GD : S256x128.Idx → Elt F .i32) (f : S4096x256.Idx → Elt F .bf16)
    (body : Fin k0_t6_loop.trips → Unit → Prog (TpuEff nD τ sig (Elt F) Λ₀ .tc) Unit) (hbody : ∀ k, body k ⟨⟩ = deqX (F := F) k) :
    (iprop((((c : Thread nD τ).loc cc0_scratch1) ↦{fullShare} XS) ∗ (((c : Thread nD τ).loc cc0_scratch4) ↦{fullShare} GD) ∗ (((c : Thread nD τ).loc cc0_scratch0) ↦{fullShare} X) ∗ (((c : Thread nD τ).loc cc0_scratch5) ↦{fullShare} f)) : sProp 𝕄)
      ⊢ wp frame (wpE (defs₀ (F := F)) Variants.none c none) Set.univ (Scf.Loop.for k0_t6_loop k0_t6_ok ⟨⟩ body)
        (fun _ => iprop((((c : Thread nD τ).loc cc0_scratch1) ↦{fullShare} XS) ∗ (((c : Thread nD τ).loc cc0_scratch4) ↦{fullShare} GD) ∗ (((c : Thread nD τ).loc cc0_scratch0) ↦{fullShare} X) ∗ (((c : Thread nD τ).loc cc0_scratch5) ↦{fullShare} xAll X XS GD))) := by
  refine BIBase.Entails.trans ?_ (Scf.wp_for frame (wpE (defs₀ (F := F)) Variants.none (c : Thread nD τ) none) Set.univ k0_t6_loop.lb k0_t6_loop.ub k0_t6_loop.st k0_t6_ok ⟨⟩ body
    (fun k _ => iprop(∃ g, ⌜∀ i : S4096x256.Idx, (i 0).val < 128 * k → g i = xAll X XS GD i⌝ ∗ (((c : Thread nD τ).loc cc0_scratch1) ↦{fullShare} XS) ∗ (((c : Thread nD τ).loc cc0_scratch4) ↦{fullShare} GD) ∗ (((c : Thread nD τ).loc cc0_scratch0) ↦{fullShare} X) ∗ (((c : Thread nD τ).loc cc0_scratch5) ↦{fullShare} g))) (fun k _ => ?_))
  · iintro H
    isplitl [H]
    · iexists f
      isplitr
      · ipureintro; intro i h; omega
      iexact H
    iintro %_ ⟨%g, %hg, Ha, Hb, Hd, Hw⟩
    isplitl [Ha]; iexact Ha
    isplitl [Hb]; iexact Hb
    isplitl [Hd]; iexact Hd
    iapply (Entails.of_eq (congrArg (fun z => iprop(((c : Thread nD τ).loc cc0_scratch5) ↦{fullShare} z)) (funext fun i => hg i ?_))) $$ Hw
    show (i 0).val < 128 * 32
    exact (i 0).isLt
  · rw [hbody]
    iintro ⟨%g, %hg, H⟩
    iapply (wp_last c (x_trip c X XS GD g k) (R := iprop(emp)) fun _ => ?_) $$ [H]
    · iintro ⟨⟨Ha, Hb, Hd, Hw⟩, -⟩
      iexists _
      isplitr; swap
      · isplitl [Ha]; iexact Ha
        isplitl [Hb]; iexact Hb
        isplitl [Hd]; iexact Hd
        iexact Hw
      · ipureintro
        intro i hi
        rw [x_write g _ k i]
        split
        · rename_i h
          unfold xAll
          congr 2
          exact (Fin.ext h).symm
        · rename_i h
          refine hg i ?_
          omega
    isplitl [H]; iexact H
    iempintro

theorem y_trip (c : Dev nD) (X : S256x6144.Idx → Elt F .fp8e4m3) (XS : S4x6144.Idx → Elt F .f32) (GD : S256x128.Idx → Elt F .i32) (f : S256x6144.Idx → Elt F .bf16) (k : Fin 48) :
    (iprop((((c : Thread nD τ).loc cc0_scratch3) ↦{fullShare} XS) ∗ (((c : Thread nD τ).loc cc0_scratch4) ↦{fullShare} GD) ∗ (((c : Thread nD τ).loc cc0_scratch2) ↦{fullShare} X) ∗ (((c : Thread nD τ).loc cc0_scratch6) ↦{fullShare} f)) : sProp 𝕄)
      ⊢ wp frame (wpE (defs₀ (F := F)) Variants.none c none) Set.univ (deqY k)
        (fun _ => iprop((((c : Thread nD τ).loc cc0_scratch3) ↦{fullShare} XS) ∗ (((c : Thread nD τ).loc cc0_scratch4) ↦{fullShare} GD) ∗ (((c : Thread nD τ).loc cc0_scratch2) ↦{fullShare} X)
          ∗ (((c : Thread nD τ).loc cc0_scratch6) ↦{fullShare} ((Memref.whole cc0_scratch6).access (Rect.unit (s := S256x6144) (k0_off10 k) S256x128.size (k0_off10_inb k))).write (Elt F) f (yBlk X XS GD k) Finset.univ))) := by
  unfold deqY
  iintro ⟨Ha, Hb, Hd, Hw⟩
  iapply (wp_load_rect Variants.none (c : Thread nD τ) none Set.univ (m := Memref.whole cc0_scratch3) (Finset.subset_univ _)) $$ [Ha]
  · iexact Ha
  iintro Ha
  iapply (wp_load_rect Variants.none (c : Thread nD τ) none Set.univ (m := Memref.whole cc0_scratch4) (Finset.subset_univ _)) $$ [Hb]
  · iexact Hb
  iintro Hb
  iapply (wp_load_rect Variants.none (c : Thread nD τ) none Set.univ (m := Memref.whole cc0_scratch2) (Finset.subset_univ _)) $$ [Hd]
  · iexact Hd
  iintro Hd
  iapply (wp_load_rect Variants.none (c : Thread nD τ) none Set.univ (m := Memref.whole cc0_scratch6) (Finset.subset_univ _)) $$ [Hw]
  · iexact Hw
  iintro Hw
  iapply (wp_store Variants.none (c : Thread nD τ) none Set.univ (m := Memref.whole cc0_scratch6) (Finset.subset_univ _)) $$ [Hw]
  · iexact Hw
  iintro Hw
  rw [wp_ret]
  imodintro
  isplitl [Ha]; iexact Ha
  isplitl [Hb]; iexact Hb
  isplitl [Hd]; iexact Hd
  iexact Hw

theorem y_loop (c : Dev nD) (X : S256x6144.Idx → Elt F .fp8e4m3) (XS : S4x6144.Idx → Elt F .f32) (GD : S256x128.Idx → Elt F .i32) (f : S256x6144.Idx → Elt F .bf16)
    (body : Fin k0_t7_loop.trips → Unit → Prog (TpuEff nD τ sig (Elt F) Λ₀ .tc) Unit) (hbody : ∀ k, body k ⟨⟩ = deqY (F := F) k) :
    (iprop((((c : Thread nD τ).loc cc0_scratch3) ↦{fullShare} XS) ∗ (((c : Thread nD τ).loc cc0_scratch4) ↦{fullShare} GD) ∗ (((c : Thread nD τ).loc cc0_scratch2) ↦{fullShare} X) ∗ (((c : Thread nD τ).loc cc0_scratch6) ↦{fullShare} f)) : sProp 𝕄)
      ⊢ wp frame (wpE (defs₀ (F := F)) Variants.none c none) Set.univ (Scf.Loop.for k0_t7_loop k0_t7_ok ⟨⟩ body)
        (fun _ => iprop((((c : Thread nD τ).loc cc0_scratch3) ↦{fullShare} XS) ∗ (((c : Thread nD τ).loc cc0_scratch4) ↦{fullShare} GD) ∗ (((c : Thread nD τ).loc cc0_scratch2) ↦{fullShare} X) ∗ (((c : Thread nD τ).loc cc0_scratch6) ↦{fullShare} yAll X XS GD))) := by
  refine BIBase.Entails.trans ?_ (Scf.wp_for frame (wpE (defs₀ (F := F)) Variants.none (c : Thread nD τ) none) Set.univ k0_t7_loop.lb k0_t7_loop.ub k0_t7_loop.st k0_t7_ok ⟨⟩ body
    (fun k _ => iprop(∃ g, ⌜∀ i : S256x6144.Idx, (i 1).val < 128 * k → g i = yAll X XS GD i⌝ ∗ (((c : Thread nD τ).loc cc0_scratch3) ↦{fullShare} XS) ∗ (((c : Thread nD τ).loc cc0_scratch4) ↦{fullShare} GD) ∗ (((c : Thread nD τ).loc cc0_scratch2) ↦{fullShare} X) ∗ (((c : Thread nD τ).loc cc0_scratch6) ↦{fullShare} g))) (fun k _ => ?_))
  · iintro H
    isplitl [H]
    · iexists f
      isplitr
      · ipureintro; intro i h; omega
      iexact H
    iintro %_ ⟨%g, %hg, Ha, Hb, Hd, Hw⟩
    isplitl [Ha]; iexact Ha
    isplitl [Hb]; iexact Hb
    isplitl [Hd]; iexact Hd
    iapply (Entails.of_eq (congrArg (fun z => iprop(((c : Thread nD τ).loc cc0_scratch6) ↦{fullShare} z)) (funext fun i => hg i ?_))) $$ Hw
    show (i 1).val < 128 * 48
    exact (i 1).isLt
  · rw [hbody]
    iintro ⟨%g, %hg, H⟩
    iapply (wp_last c (y_trip c X XS GD g k) (R := iprop(emp)) fun _ => ?_) $$ [H]
    · iintro ⟨⟨Ha, Hb, Hd, Hw⟩, -⟩
      iexists _
      isplitr; swap
      · isplitl [Ha]; iexact Ha
        isplitl [Hb]; iexact Hb
        isplitl [Hd]; iexact Hd
        iexact Hw
      · ipureintro
        intro i hi
        rw [y_write g _ k i]
        split
        · rename_i h
          unfold yAll
          congr 2
          exact (Fin.ext h).symm
        · rename_i h
          refine hg i ?_
          omega
    isplitl [H]; iexact H
    iempintro

end Cert.KernelIdeal.Hand
-- ==== Proof.Steps.lean ====
/-
  Hand-written, untrusted. The program's small steps: the words read, the input copies and their waits, an empty group's zero tiles.
-/
module

public import proofs.«01_k».proof.Proof.Deq
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

set_option maxRecDepth 65536

/-! ## The words of the group sizes -/

/-- Word `i` of the group sizes. -/
def wd (X : S5.Idx → BitVec 32) (i : ℕ) (h : ∀ a, (![i] : Fin 1 → ℕ) a + S1.size a ≤ S5.size a) : BitVec 32 :=
  X ((Rect.unit (s := S5) ![i] S1.size h).emb (Shape.Idx.first ((numel1_S1 : S1.numel = 1).symm ▸ Nat.one_pos)))

theorem rd_spec (c : Dev nD) (arg0 : Memref sig .tc .smem S5 .i32) (X : S5.Idx → Elt F .i32) (i : ℕ) (h : ∀ a, (![i] : Fin 1 → ℕ) a + S1.size a ≤ S5.size a) :
    (owns (c : Thread nD τ) arg0 fullShare X : sProp 𝕄) ⊢ wp frame (wpE (defs₀ (F := F)) Variants.none c none) Set.univ (rd arg0 i h) (fun a => iprop(⌜a = wd X i h⌝ ∗ owns (c : Thread nD τ) arg0 fullShare X)) := by
  unfold owns rd smemLoad
  iintro ⟨%f, %hf, H⟩
  iapply (wp_smemLoadElt Variants.none (c : Thread nD τ) none Set.univ (m := arg0) (View.set_slice_subset _ _)) $$ [H]
  · iexact H
  iintro H
  rw [wp_ret]
  imodintro
  isplitr
  · ipureintro
    subst hf
    rfl
  iexists f
  isplitr
  · ipureintro; exact hf
  iexact H

/-! ## Whole arrays written -/

theorem copy_whole (b : Ref sig .tc) (f w : b.ty.shape.Idx → Elt F b.ty.elt) : (Memref.whole b).view.write (Elt F) f w Finset.univ = w :=
  funext fun i => View.write_emb_of_mem (v := (Memref.whole b).view) f w (Finset.mem_univ i)

theorem zero_fill (f w : S128x6144.Idx → Elt F .f32) :
    ((Memref.whole cc0_scratch7).access (Rect.unit (s := S128x6144) ![0, 0] S128x6144.size inb_S128x6144_S128x6144_0_0)).write (Elt F) f w Finset.univ = w := by
  funext i
  have he : ((Memref.whole cc0_scratch7).access (Rect.unit (s := S128x6144) ![0, 0] S128x6144.size inb_S128x6144_S128x6144_0_0)).emb i = i := by
    refine idx2_ext ?_ ?_
    · show 0 + 1 * (i 0).val = _; omega
    · show 0 + 1 * (i 1).val = _; omega
  conv_lhs => rw [← he]
  exact View.write_emb_of_mem _ _ (Finset.mem_univ _)

theorem gid_fill (f w : S256x128.Idx → Elt F .i32) :
    ((Memref.whole cc0_scratch4).access (Rect.unit (s := S256x128) ![0, 0] S256x128.size inb_S256x128_S256x128_0_0)).write (Elt F) f w Finset.univ = w := by
  funext i
  have he : ((Memref.whole cc0_scratch4).access (Rect.unit (s := S256x128) ![0, 0] S256x128.size inb_S256x128_S256x128_0_0)).emb i = i := by
    refine idx2_ext ?_ ?_
    · show 0 + 1 * (i 0).val = _; omega
    · show 0 + 1 * (i 1).val = _; omega
  conv_lhs => rw [← he]
  exact View.write_emb_of_mem _ _ (Finset.mem_univ _)

/-! ## The input copies -/

/-- Input copy `i` in flight: it delivers its destination filled with the source's contents, and the source. -/
def Fly (c : Dev nD) (i : ℕ) (h : ∀ a, (![i] : Fin 1 → ℕ) a + S1.size a ≤ S4.size a) (b : Ref sig .tc) (D : sProp 𝕄) : sProp 𝕄 :=
  Transfers.Flight EC (c : Thread nD τ) (.dma (isem i h)) () (Memref.whole b).view.dmaCredit D

theorem wait_spec (c : Dev nD) (i : ℕ) (h : ∀ a, (![i] : Fin 1 → ℕ) a + S1.size a ≤ S4.size a) (a b : Ref sig .tc) (D : sProp 𝕄) :
    iprop(Fly c i h b D ∗ Owes c) ⊢ wp frame (wpE (defs₀ (F := F)) Variants.none c none) Set.univ (waitH (F := F) i a b h)
      (fun _ => iprop(D ∗ semVal ((c : Thread nD τ), SemLoc.dma (isem i h)) 0 ∗ Owes c)) := by
  unfold Fly Owes waitH
  iintro ⟨HF, ⟨%W, HW⟩⟩
  iapply (Transfers.wp_waitLocal EC Variants.none (c : Thread nD τ) none () rfl) $$ [HF HW]
  · isplitl [HF]; iexact HF; iexact HW
  iintro ⟨HD, Hs, HW⟩
  rw [wp_ret]
  imodintro
  isplitl [HD]; iexact HD
  isplitl [Hs]; iexact Hs
  iexists _; iexact HW

theorem fly_mono (c : Dev nD) (i : ℕ) (h : ∀ a, (![i] : Fin 1 → ℕ) a + S1.size a ≤ S4.size a) (b : Ref sig .tc) {D D' : sProp 𝕄} (hD : D ⊢ D') :
    Transfers.Flight EC (c : Thread nD τ) (.dma (isem i h)) () (Memref.whole b).view.dmaCredit D ⊢ Fly c i h b D' :=
  Transfers.Flight_mono EC (c : Thread nD τ) hD

theorem start_spec (c : Dev nD) (A0 s0 : S256x4096.Idx → Elt F .fp8e4m3) (A1 s1 : S4x4096.Idx → Elt F .f32) (A2 s2 : S256x6144.Idx → Elt F .fp8e4m3) (A3 s3 : S4x6144.Idx → Elt F .f32) (z : S128x6144.Idx → Elt F .f32) :
    iprop((((c : Thread nD τ).loc main_arg0) ↦{fullShare} A0) ∗ (((c : Thread nD τ).loc cc0_scratch0) ↦{fullShare} s0) ∗ semVal ((c : Thread nD τ), SemLoc.dma (isem 0 inb_S4_S1_0)) 0 ∗ (((c : Thread nD τ).loc main_arg1) ↦{fullShare} A1) ∗ (((c : Thread nD τ).loc cc0_scratch1) ↦{fullShare} s1) ∗ semVal ((c : Thread nD τ), SemLoc.dma (isem 1 inb_S4_S1_1)) 0 ∗ (((c : Thread nD τ).loc main_arg2) ↦{fullShare} A2) ∗ (((c : Thread nD τ).loc cc0_scratch2) ↦{fullShare} s2) ∗ semVal ((c : Thread nD τ), SemLoc.dma (isem 2 inb_S4_S1_2)) 0 ∗ (((c : Thread nD τ).loc main_arg3) ↦{fullShare} A3) ∗ (((c : Thread nD τ).loc cc0_scratch3) ↦{fullShare} s3) ∗ semVal ((c : Thread nD τ), SemLoc.dma (isem 3 inb_S4_S1_3)) 0 ∗ (((c : Thread nD τ).loc cc0_scratch7) ↦{fullShare} z))
      ⊢ wp frame (wpE (defs₀ (F := F)) Variants.none c none) Set.univ (startH (F := F))
        (fun _ => iprop(Fly c 0 inb_S4_S1_0 cc0_scratch0 iprop((((c : Thread nD τ).loc cc0_scratch0) ↦{fullShare} A0) ∗ (((c : Thread nD τ).loc main_arg0) ↦{fullShare} A0)) ∗ Fly c 1 inb_S4_S1_1 cc0_scratch1 iprop((((c : Thread nD τ).loc cc0_scratch1) ↦{fullShare} A1) ∗ (((c : Thread nD τ).loc main_arg1) ↦{fullShare} A1)) ∗ Fly c 2 inb_S4_S1_2 cc0_scratch2 iprop((((c : Thread nD τ).loc cc0_scratch2) ↦{fullShare} A2) ∗ (((c : Thread nD τ).loc main_arg2) ↦{fullShare} A2)) ∗ Fly c 3 inb_S4_S1_3 cc0_scratch3 iprop((((c : Thread nD τ).loc cc0_scratch3) ↦{fullShare} A3) ∗ (((c : Thread nD τ).loc main_arg3) ↦{fullShare} A3)) ∗ (((c : Thread nD τ).loc cc0_scratch7) ↦{fullShare} k0_pay1 (F := F)))) := by
  unfold startH
  iintro ⟨Ha0, Hs0, Hv0, Ha1, Hs1, Hv1, Ha2, Hs2, Hv2, Ha3, Hs3, Hv3, Hz⟩
  iapply (Transfers.wp_dmaLocal EC Variants.none (c : Thread nD τ) none (src := Memref.whole main_arg0) (dst := Memref.whole cc0_scratch0) (sm := .dma (isem 0 inb_S4_S1_0)) () (Memref.whole cc0_scratch0).view.dmaCredit rfl
    (View.dmaCredit_pos _ (by decide)) (Finset.subset_univ _)) $$ [Ha0 Hs0 Hv0]
  · isplitl [Ha0]
    · rw [show (Memref.whole main_arg0).view.set = Finset.univ from View.set_whole _]; iexact Ha0
    isplitl [Hs0]; iexact Hs0
    iexact Hv0
  iintro Hf0
  iapply (Transfers.wp_dmaLocal EC Variants.none (c : Thread nD τ) none (src := Memref.whole main_arg1) (dst := Memref.whole cc0_scratch1) (sm := .dma (isem 1 inb_S4_S1_1)) () (Memref.whole cc0_scratch1).view.dmaCredit rfl
    (View.dmaCredit_pos _ (by decide)) (Finset.subset_univ _)) $$ [Ha1 Hs1 Hv1]
  · isplitl [Ha1]
    · rw [show (Memref.whole main_arg1).view.set = Finset.univ from View.set_whole _]; iexact Ha1
    isplitl [Hs1]; iexact Hs1
    iexact Hv1
  iintro Hf1
  iapply (Transfers.wp_dmaLocal EC Variants.none (c : Thread nD τ) none (src := Memref.whole main_arg2) (dst := Memref.whole cc0_scratch2) (sm := .dma (isem 2 inb_S4_S1_2)) () (Memref.whole cc0_scratch2).view.dmaCredit rfl
    (View.dmaCredit_pos _ (by decide)) (Finset.subset_univ _)) $$ [Ha2 Hs2 Hv2]
  · isplitl [Ha2]
    · rw [show (Memref.whole main_arg2).view.set = Finset.univ from View.set_whole _]; iexact Ha2
    isplitl [Hs2]; iexact Hs2
    iexact Hv2
  iintro Hf2
  iapply (Transfers.wp_dmaLocal EC Variants.none (c : Thread nD τ) none (src := Memref.whole main_arg3) (dst := Memref.whole cc0_scratch3) (sm := .dma (isem 3 inb_S4_S1_3)) () (Memref.whole cc0_scratch3).view.dmaCredit rfl
    (View.dmaCredit_pos _ (by decide)) (Finset.subset_univ _)) $$ [Ha3 Hs3 Hv3]
  · isplitl [Ha3]
    · rw [show (Memref.whole main_arg3).view.set = Finset.univ from View.set_whole _]; iexact Ha3
    isplitl [Hs3]; iexact Hs3
    iexact Hv3
  iintro Hf3
  iapply (wp_load_rect Variants.none (c : Thread nD τ) none Set.univ (m := Memref.whole cc0_scratch7) (Finset.subset_univ _)) $$ [Hz]
  · iexact Hz
  iintro Hz
  iapply (wp_store Variants.none (c : Thread nD τ) none Set.univ (m := Memref.whole cc0_scratch7) (Finset.subset_univ _)) $$ [Hz]
  · iexact Hz
  iintro Hz
  rw [wp_ret]
  imodintro
  isplitl [Hf0]
  · iapply (fly_mono c 0 inb_S4_S1_0 cc0_scratch0 ?_) $$ Hf0
    iintro ⟨H1, H2⟩
    isplitl [H1]
    · iapply (Entails.of_eq ?_) $$ H1
      exact congrArg (fun z => iprop(((c : Thread nD τ).loc cc0_scratch0) ↦{fullShare} z)) (copy_whole cc0_scratch0 s0 A0)
    · rw [← show (Memref.whole main_arg0).view.set = Finset.univ from View.set_whole _]; iexact H2
  isplitl [Hf1]
  · iapply (fly_mono c 1 inb_S4_S1_1 cc0_scratch1 ?_) $$ Hf1
    iintro ⟨H1, H2⟩
    isplitl [H1]
    · iapply (Entails.of_eq ?_) $$ H1
      exact congrArg (fun z => iprop(((c : Thread nD τ).loc cc0_scratch1) ↦{fullShare} z)) (copy_whole cc0_scratch1 s1 A1)
    · rw [← show (Memref.whole main_arg1).view.set = Finset.univ from View.set_whole _]; iexact H2
  isplitl [Hf2]
  · iapply (fly_mono c 2 inb_S4_S1_2 cc0_scratch2 ?_) $$ Hf2
    iintro ⟨H1, H2⟩
    isplitl [H1]
    · iapply (Entails.of_eq ?_) $$ H1
      exact congrArg (fun z => iprop(((c : Thread nD τ).loc cc0_scratch2) ↦{fullShare} z)) (copy_whole cc0_scratch2 s2 A2)
    · rw [← show (Memref.whole main_arg2).view.set = Finset.univ from View.set_whole _]; iexact H2
  isplitl [Hf3]
  · iapply (fly_mono c 3 inb_S4_S1_3 cc0_scratch3 ?_) $$ Hf3
    iintro ⟨H1, H2⟩
    isplitl [H1]
    · iapply (Entails.of_eq ?_) $$ H1
      exact congrArg (fun z => iprop(((c : Thread nD τ).loc cc0_scratch3) ↦{fullShare} z)) (copy_whole cc0_scratch3 s3 A3)
    · rw [← show (Memref.whole main_arg3).view.set = Finset.univ from View.set_whole _]; iexact H2
  iapply (Entails.of_eq (congrArg (fun x => iprop(((c : Thread nD τ).loc cc0_scratch7) ↦{fullShare} x)) (zero_fill z (k0_pay1 (F := F))))) $$ Hz

theorem gid_spec (c : Dev nD) (g : S256x128.Idx → Elt F .i32) (v63 : BitVec 32) (v64 v113 v119 v120 : IVec S256x128 32) :
    (((c : Thread nD τ).loc cc0_scratch4) ↦{fullShare} g : sProp 𝕄)
      ⊢ wp frame (wpE (defs₀ (F := F)) Variants.none c none) Set.univ (gidH (F := F) v63 v64 v113 v119 v120) (fun _ => (((c : Thread nD τ).loc cc0_scratch4) ↦{fullShare} k0_pay7 v63 v64 v113 v119 v120)) := by
  unfold gidH
  iintro Hz
  iapply (wp_load_rect Variants.none (c : Thread nD τ) none Set.univ (m := Memref.whole cc0_scratch4) (Finset.subset_univ _)) $$ [Hz]
  · iexact Hz
  iintro Hz
  iapply (wp_store Variants.none (c : Thread nD τ) none Set.univ (m := Memref.whole cc0_scratch4) (Finset.subset_univ _)) $$ [Hz]
  · iexact Hz
  iintro Hz
  rw [wp_ret]
  imodintro
  iapply (Entails.of_eq (congrArg (fun x => iprop(((c : Thread nD τ).loc cc0_scratch4) ↦{fullShare} x)) (gid_fill g (k0_pay7 v63 v64 v113 v119 v120)))) $$ Hz

/-! ## The tiles of an expert, by the sign of its group's size -/

/-- Tiles `n` to `m` of expert `e` at the contents `f`. -/
def Tl (c : Dev nD) (e n m : ℕ) (f : S5x4096x6144.Idx → Elt F .f32) : sProp 𝕄 :=
  bigSep (Finset.Ico n m) fun k => ((c : Thread nD τ).loc main_v0) ↦[TS e k]{fullShare} f

theorem zero_if (c : Dev nD) (Zb : S128x6144.Idx → Elt F .f32) {m n e : ℕ} (he : e < 5) (v : BitVec 32) (hn : n + 32 * zeroN v ≤ m) (A R : sProp 𝕄) (L : Scf.Loop 32) (ok : L.OK) (hL : L.trips = 32)
    (body : Fin L.trips → Unit → Prog (TpuEff nD τ sig (Elt F) Λ₀ .tc) Unit)
    (hbody : ∀ k, body k ⟨⟩ = zeroBody (offTile e k) (offTile_inb (lt_of_lt_of_eq k.2 hL) he)) (V G : S5x4096x6144.Idx → Elt F .f32)
    (hG : v = 0#32 → ∀ k < 32, ∀ i ∈ TS e k, ∀ (x : Fin 128) (y : Fin 6144), (i 1).val = 128 * k + x.val → (i 2).val = y.val → G i = Zb (ix2 x y))
    {α : Type} (K : Prog (TpuEff nD τ sig (Elt F) Λ₀ .tc) α) (Q : α → sProp 𝕄)
    (hK : iprop((ZSt c Zb m (n + 32 * zeroN v) 0 iprop(A ∗ Tl c e 0 (32 * zeroN v) G) ∗ Tl c e 0 (32 * (1 - zeroN v)) V) ∗ R) ⊢ wp frame (wpE (defs₀ (F := F)) Variants.none c none) Set.univ K Q) :
    iprop((ZSt c Zb m n 0 A ∗ Tl c e 0 32 V) ∗ R) ⊢ wp frame (wpE (defs₀ (F := F)) Variants.none c none) Set.univ (zeroIf v L ok body K) Q := by
  unfold zeroIf
  by_cases hv : v = 0#32
  · rw [if_pos ((zero_iff v).mpr hv)]
    have hz : zeroN v = 1 := if_pos hv
    rw [hz] at hK hn
    refine wp_seq c (zero_loop c Zb he (by omega) A L ok hL body hbody V G (hG hv)) fun _ => BIBase.Entails.trans ?_ hK
    iintro ⟨HZ, HR⟩
    isplitr [HR]
    · isplitl [HZ]
      · iapply (zst_mono c Zb (sep_mono .rfl (Entails.of_eq (by unfold Tl; rw [Finset.range_eq_Ico])))) $$ HZ
      · unfold Tl
        iapply (Entails.of_eq (show (iprop(emp) : sProp 𝕄) = _ from by rw [show 32 * (1 - 1) = 0 from rfl, Finset.Ico_self, bigSep_empty]; rfl)); iempintro
    iexact HR
  · rw [if_neg (fun h => hv ((zero_iff v).mp h))]
    have hz : zeroN v = 0 := if_neg hv
    rw [hz] at hK
    refine BIBase.Entails.trans ?_ hK
    iintro ⟨⟨HZ, HT⟩, HR⟩
    isplitr [HR]
    · isplitl [HZ]
      · iapply (zst_mono c Zb ?_) $$ HZ
        iintro HA
        isplitl [HA]; iexact HA
        unfold Tl
        iapply (Entails.of_eq (show (iprop(emp) : sProp 𝕄) = _ from by rw [show 32 * 0 = 0 from rfl, Finset.Ico_self, bigSep_empty]; rfl)); iempintro
      · iexact HT
    iexact HR

/-- What is left of an expert's tiles after the zeros, split for its products. -/
theorem tl_split (c : Dev nD) (e : ℕ) (v : BitVec 32) (V : S5x4096x6144.Idx → Elt F .f32) :
    (Tl c e 0 (32 * (1 - zeroN v)) V : sProp 𝕄) ⊢ iprop(Tl c e 0 (32 * liveN v) V ∗ Tl c e 0 (32 * (1 - zeroN v - liveN v)) V) := by
  have h0 := zeroN_le v
  have h1 := liveN_le v
  rcases Nat.lt_or_ge 0 (liveN v) with h | h
  · have hl : liveN v = 1 := by omega
    have hz : zeroN v = 0 := by
      unfold zeroN
      rw [if_neg]
      rintro rfl
      exact absurd ((liveN_pos_iff _).mp hl) (by decide)
    rw [hl, hz]
    iintro H
    isplitl [H]; iexact H
    unfold Tl
    iapply (Entails.of_eq (show (iprop(emp) : sProp 𝕄) = _ from by rw [show 32 * (1 - 0 - 1) = 0 from rfl, Finset.Ico_self, bigSep_empty]; rfl)); iempintro
  · have hl : liveN v = 0 := by omega
    rw [hl]
    iintro H
    isplitr
    · unfold Tl
      iapply (Entails.of_eq (show (iprop(emp) : sProp 𝕄) = _ from by rw [show 32 * 0 = 0 from rfl, Finset.Ico_self, bigSep_empty]; rfl)); iempintro
    iexact H

/-- The three kinds of an expert's tiles together again. -/
theorem tl_join (c : Dev nD) (e : ℕ) (v : BitVec 32) (V G : S5x4096x6144.Idx → Elt F .f32)
    (hG : zeroN v = 0 → liveN v = 0 → ∀ k < 32, ∀ i ∈ TS e k, G i = V i) :
    iprop(Tl c e 0 (32 * zeroN v) G ∗ Tl c e 0 (32 * liveN v) G ∗ Tl c e 0 (32 * (1 - zeroN v - liveN v)) V) ⊢ (Tl c e 0 32 G : sProp 𝕄) := by
  have h0 := zeroN_le v
  have h1 := liveN_le v
  have hzl : zeroN v = 1 → liveN v = 0 := by
    intro h
    have hv : v = 0#32 := by
      by_contra hne
      rw [zeroN, if_neg hne] at h
      omega
    subst hv; rfl
  rcases Nat.lt_or_ge 0 (zeroN v) with h | h
  · rw [hzl (by omega), show zeroN v = 1 by omega]
    iintro ⟨H, -, -⟩
    iexact H
  rcases Nat.lt_or_ge 0 (liveN v) with h' | h'
  · rw [show liveN v = 1 by omega, show zeroN v = 0 by omega]
    iintro ⟨-, H, -⟩
    iexact H
  · rw [show liveN v = 0 by omega, show zeroN v = 0 by omega]
    iintro ⟨-, -, H⟩
    iapply (show (Tl c e 0 32 V : sProp 𝕄) ⊢ Tl c e 0 32 G from Entails.of_eq ?_) $$ H
    unfold Tl
    exact bigSep_congr fun k hk => pointsTo_congr fun i hi => (hG (by omega) (by omega) k (Finset.mem_Ico.mp hk).2 i hi).symm

end Cert.KernelIdeal.Hand
-- ==== Proof.Run.lean ====
/-
  Hand-written, untrusted. The kernel's run, part by part: what each part is given and what it leaves.
-/
module

public import proofs.«01_k».proof.Proof.Steps
public import Idealize.SL.BI.BigOpNat

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

set_option maxRecDepth 65536

theorem wp_step (c : Dev nD) {α β : Type} {p : Prog (TpuEff nD τ sig (Elt F) Λ₀ .tc) α} {k : α → Prog (TpuEff nD τ sig (Elt F) Λ₀ .tc) β}
    {P : sProp 𝕄} {Q' : α → sProp 𝕄} {Q : β → sProp 𝕄} (h : P ⊢ wp frame (wpE (defs₀ (F := F)) Variants.none c none) Set.univ p Q') :
    P ⊢ iprop((∀ a, Q' a -∗ wp frame (wpE (defs₀ (F := F)) Variants.none c none) Set.univ (k a) Q) -∗ wp frame (wpE (defs₀ (F := F)) Variants.none c none) Set.univ (p.bind k) Q) := by
  iintro HP HK
  iapply (wp_seq c h (R := iprop(∀ a, Q' a -∗ wp frame (wpE (defs₀ (F := F)) Variants.none c none) Set.univ (k a) Q)) fun a => ?_) $$ [HP HK]
  · iintro ⟨HQ, HK⟩
    ispecialize HK $$ %a
    iapply HK $$ HQ
  isplitl [HP]; iexact HP
  iexact HK

theorem zero_step (c : Dev nD) (Zb : S128x6144.Idx → Elt F .f32) {m n e : ℕ} (he : e < 5) (v : BitVec 32) (hn : n + 32 * zeroN v ≤ m) (A : sProp 𝕄) (L : Scf.Loop 32) (ok : L.OK) (hL : L.trips = 32)
    (body : Fin L.trips → Unit → Prog (TpuEff nD τ sig (Elt F) Λ₀ .tc) Unit)
    (hbody : ∀ k, body k ⟨⟩ = zeroBody (offTile e k) (offTile_inb (lt_of_lt_of_eq k.2 hL) he)) (V G : S5x4096x6144.Idx → Elt F .f32)
    (hG : v = 0#32 → ∀ k < 32, ∀ i ∈ TS e k, ∀ (x : Fin 128) (y : Fin 6144), (i 1).val = 128 * k + x.val → (i 2).val = y.val → G i = Zb (ix2 x y))
    {α : Type} (K : Prog (TpuEff nD τ sig (Elt F) Λ₀ .tc) α) (Q : α → sProp 𝕄) :
    iprop(ZSt c Zb m n 0 A ∗ Tl c e 0 32 V)
      ⊢ iprop((iprop(ZSt c Zb m (n + 32 * zeroN v) 0 iprop(A ∗ Tl c e 0 (32 * zeroN v) G) ∗ Tl c e 0 (32 * (1 - zeroN v)) V) -∗ wp frame (wpE (defs₀ (F := F)) Variants.none c none) Set.univ K Q) -∗ wp frame (wpE (defs₀ (F := F)) Variants.none c none) Set.univ (zeroIf v L ok body K) Q) := by
  iintro H HK
  iapply (zero_if c Zb he v hn A _ L ok hL body hbody V G hG K Q ?_) $$ [H HK]
  rotate_left
  · isplitl [H]; iexact H
    iexact HK
  · iintro ⟨H, HK⟩
    iapply HK $$ H

/-- The row-of-scales table the kernel computes. -/
def gidAll (X : S5.Idx → BitVec 32) : IVec S256x128 32 := k0_pay7 (end5 (wd X 0 inb_S5_S1_0) (wd X 1 inb_S5_S1_1) (wd X 2 inb_S5_S1_2) (wd X 3 inb_S5_S1_3) (wd X 4 inb_S5_S1_4)) (iota .tc S256x128 32 [0] iota_S256x128_d0_w32) (k0_pay4 (end1 (wd X 0 inb_S5_S1_0)) (num1 (wd X 0 inb_S5_S1_0)) (end2 (wd X 0 inb_S5_S1_0) (wd X 1 inb_S5_S1_1)) (num2 (wd X 0 inb_S5_S1_0) (wd X 1 inb_S5_S1_1)) (end3 (wd X 0 inb_S5_S1_0) (wd X 1 inb_S5_S1_1) (wd X 2 inb_S5_S1_2)) (num3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S256x128 32 [0] iota_S256x128_d0_w32) k0_pay2 k0_pay3) (k0_pay5 (end4 (wd X 0 inb_S5_S1_0) (wd X 1 inb_S5_S1_1) (wd X 2 inb_S5_S1_2) (wd X 3 inb_S5_S1_3)) (num4 (wd X 0 inb_S5_S1_0) (wd X 1 inb_S5_S1_1) (wd X 2 inb_S5_S1_2) (wd X 3 inb_S5_S1_3)) (iota .tc S256x128 32 [0] iota_S256x128_d0_w32)) (k0_pay6 (end4 (wd X 0 inb_S5_S1_0) (wd X 1 inb_S5_S1_1) (wd X 2 inb_S5_S1_2) (wd X 3 inb_S5_S1_3)))

/-- The result `G` the run leaves over the contents `V` it found: an empty group's rows are zero, a live group's its
    products, and a negative size's untouched. -/
structure Res (X : S5.Idx → BitVec 32) (V G : S5x4096x6144.Idx → Elt F .f32) (XT : S4096x256.Idx → Elt F .bf16) (DY : S256x6144.Idx → Elt F .bf16) : Prop where
  z : ∀ e (h : ∀ a, (![e] : Fin 1 → ℕ) a + S1.size a ≤ S5.size a), wd X e h = 0#32 → ∀ k < 32, ∀ i ∈ TS e k, ∀ (x : Fin 128) (y : Fin 6144),
    (i 1).val = 128 * k + x.val → (i 2).val = y.val → G i = k0_pay1 (F := F) (ix2 x y)
  n : ∀ e (h : ∀ a, (![e] : Fin 1 → ℕ) a + S1.size a ≤ S5.size a), zeroN (wd X e h) = 0 → liveN (wd X e h) = 0 → ∀ k < 32, ∀ i ∈ TS e k, G i = V i
  l0 : ∀ k (hk : k < 32 * liveN (wd X 0 inb_S5_S1_0)) (hR : ∀ a, offRows k a + S128x256.size a ≤ S4096x256.size a), ∀ i ∈ TS 0 k, ∀ (x : Fin 128) (y : Fin 6144), (i 1).val = 128 * k + x.val → (i 2).val = y.val →
    G i = (fun a b => k0_pay10 (F := F) (end1 (wd X 0 inb_S5_S1_0)) (iota .tc S128x256 32 [1] iota_S128x256_d1_w32) 0#32 a b) (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y)
  l1 : ∀ k (hk : k < 32 * liveN (wd X 1 inb_S5_S1_1)) (hR : ∀ a, offRows k a + S128x256.size a ≤ S4096x256.size a), ∀ i ∈ TS 1 k, ∀ (x : Fin 128) (y : Fin 6144), (i 1).val = 128 * k + x.val → (i 2).val = y.val →
    G i = (fun a b => k0_pay12 (F := F) (end1 (wd X 0 inb_S5_S1_0)) (end2 (wd X 0 inb_S5_S1_0) (wd X 1 inb_S5_S1_1)) (iota .tc S128x256 32 [1] iota_S128x256_d1_w32) a b) (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y)
  l2 : ∀ k (hk : k < 32 * liveN (wd X 2 inb_S5_S1_2)) (hR : ∀ a, offRows k a + S128x256.size a ≤ S4096x256.size a), ∀ i ∈ TS 2 k, ∀ (x : Fin 128) (y : Fin 6144), (i 1).val = 128 * k + x.val → (i 2).val = y.val →
    G i = (fun a b => k0_pay14 (F := F) (end2 (wd X 0 inb_S5_S1_0) (wd X 1 inb_S5_S1_1)) (end3 (wd X 0 inb_S5_S1_0) (wd X 1 inb_S5_S1_1) (wd X 2 inb_S5_S1_2)) (iota .tc S128x256 32 [1] iota_S128x256_d1_w32) a b) (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y)
  l3 : ∀ k (hk : k < 32 * liveN (wd X 3 inb_S5_S1_3)) (hR : ∀ a, offRows k a + S128x256.size a ≤ S4096x256.size a), ∀ i ∈ TS 3 k, ∀ (x : Fin 128) (y : Fin 6144), (i 1).val = 128 * k + x.val → (i 2).val = y.val →
    G i = (fun a b => k0_pay16 (F := F) (end3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S128x256 32 [1] iota_S128x256_d1_w32) a b) (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y)
  l4 : ∀ k (hk : k < 32 * liveN (wd X 4 inb_S5_S1_4)) (hR : ∀ a, offRows k a + S128x256.size a ≤ S4096x256.size a), ∀ i ∈ TS 4 k, ∀ (x : Fin 128) (y : Fin 6144), (i 1).val = 128 * k + x.val → (i 2).val = y.val →
    G i = (fun a b => k0_pay18 (F := F) (end4 (wd X 0 inb_S5_S1_0) (wd X 1 inb_S5_S1_1) (wd X 2 inb_S5_S1_2) (wd X 3 inb_S5_S1_3)) (end5 (wd X 0 inb_S5_S1_0) (wd X 1 inb_S5_S1_1) (wd X 2 inb_S5_S1_2) (wd X 3 inb_S5_S1_3) (wd X 4 inb_S5_S1_4)) (iota .tc S128x256 32 [1] iota_S128x256_d1_w32) a b) (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y)

variable (c : Dev nD) (arg0 : Memref sig .tc .smem S5 .i32) (h0 : arg0.IsWhole) (X : S5.Idx → BitVec 32) (V G : S5x4096x6144.Idx → Elt F .f32)
  (A0 : S256x4096.Idx → Elt F .fp8e4m3) (A1 : S4x4096.Idx → Elt F .f32) (A2 : S256x6144.Idx → Elt F .fp8e4m3) (A3 : S4x6144.Idx → Elt F .f32)

theorem tl_open (e m : ℕ) (f : S5x4096x6144.Idx → Elt F .f32) :
    (Tl c e 0 m f : sProp 𝕄) ⊢ bigSep (Finset.Ico 0 m) fun k => ((c : Thread nD τ).loc main_v0) ↦[TS e k]{fullShare} f := .rfl

theorem zn_le : (((((0 + 32 * zeroN (wd X 0 inb_S5_S1_0)) + 32 * zeroN (wd X 1 inb_S5_S1_1)) + 32 * zeroN (wd X 2 inb_S5_S1_2)) + 32 * zeroN (wd X 3 inb_S5_S1_3)) + 32 * zeroN (wd X 4 inb_S5_S1_4)) ≤ (32 * zeroSum (wd X 0 inb_S5_S1_0) (wd X 1 inb_S5_S1_1) (wd X 2 inb_S5_S1_2) (wd X 3 inb_S5_S1_3) (wd X 4 inb_S5_S1_4)) := by unfold zeroSum; omega

theorem part1_spec (hR : Res X V G (xAll A0 A1 (gidAll X)) (yAll A2 A3 (gidAll X))) (s0 : S256x4096.Idx → Elt F .fp8e4m3) (s1 : S4x4096.Idx → Elt F .f32) (s2 : S256x6144.Idx → Elt F .fp8e4m3) (s3 : S4x6144.Idx → Elt F .f32) (z : S128x6144.Idx → Elt F .f32) :
    iprop(((((c : Thread nD τ).loc main_arg0) ↦{fullShare} A0) ∗ (((c : Thread nD τ).loc cc0_scratch0) ↦{fullShare} s0) ∗ semVal ((c : Thread nD τ), SemLoc.dma (isem 0 inb_S4_S1_0)) 0 ∗ (((c : Thread nD τ).loc main_arg1) ↦{fullShare} A1) ∗ (((c : Thread nD τ).loc cc0_scratch1) ↦{fullShare} s1) ∗ semVal ((c : Thread nD τ), SemLoc.dma (isem 1 inb_S4_S1_1)) 0 ∗ (((c : Thread nD τ).loc main_arg2) ↦{fullShare} A2) ∗ (((c : Thread nD τ).loc cc0_scratch2) ↦{fullShare} s2) ∗ semVal ((c : Thread nD τ), SemLoc.dma (isem 2 inb_S4_S1_2)) 0 ∗ (((c : Thread nD τ).loc main_arg3) ↦{fullShare} A3) ∗ (((c : Thread nD τ).loc cc0_scratch3) ↦{fullShare} s3) ∗ semVal ((c : Thread nD τ), SemLoc.dma (isem 3 inb_S4_S1_3)) 0 ∗ (((c : Thread nD τ).loc cc0_scratch7) ↦{fullShare} z)) ∗ semVal ((c : Thread nD τ), SemLoc.dma zsem) 0 ∗ owns (c : Thread nD τ) arg0 fullShare X ∗ Tl c 0 0 32 V ∗ Tl c 1 0 32 V ∗ Tl c 2 0 32 V)
      ⊢ wp frame (wpE (defs₀ (F := F)) Variants.none c none) Set.univ (k0_part1 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11)
        (fun a => iprop(⌜a = ⟨(wd X 0 inb_S5_S1_0), (wd X 1 inb_S5_S1_1), (wd X 2 inb_S5_S1_2), zc (zc (zc 0#32 (wd X 0 inb_S5_S1_0)) (wd X 1 inb_S5_S1_1)) (wd X 2 inb_S5_S1_2), (wd X 3 inb_S5_S1_3), Scalar.cmpi .eq (wd X 3 inb_S5_S1_3) 0#32⟩⌝ ∗ Fly c 0 inb_S4_S1_0 cc0_scratch0 iprop((((c : Thread nD τ).loc cc0_scratch0) ↦{fullShare} A0) ∗ (((c : Thread nD τ).loc main_arg0) ↦{fullShare} A0)) ∗ Fly c 1 inb_S4_S1_1 cc0_scratch1 iprop((((c : Thread nD τ).loc cc0_scratch1) ↦{fullShare} A1) ∗ (((c : Thread nD τ).loc main_arg1) ↦{fullShare} A1)) ∗ Fly c 2 inb_S4_S1_2 cc0_scratch2 iprop((((c : Thread nD τ).loc cc0_scratch2) ↦{fullShare} A2) ∗ (((c : Thread nD τ).loc main_arg2) ↦{fullShare} A2)) ∗ Fly c 3 inb_S4_S1_3 cc0_scratch3 iprop((((c : Thread nD τ).loc cc0_scratch3) ↦{fullShare} A3) ∗ (((c : Thread nD τ).loc main_arg3) ↦{fullShare} A3)) ∗ owns (c : Thread nD τ) arg0 fullShare X ∗ ZSt c (k0_pay1 (F := F)) (32 * zeroSum (wd X 0 inb_S5_S1_0) (wd X 1 inb_S5_S1_1) (wd X 2 inb_S5_S1_2) (wd X 3 inb_S5_S1_3) (wd X 4 inb_S5_S1_4)) (((0 + 32 * zeroN (wd X 0 inb_S5_S1_0)) + 32 * zeroN (wd X 1 inb_S5_S1_1)) + 32 * zeroN (wd X 2 inb_S5_S1_2)) 0 iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 0 0 (32 * (1 - zeroN (wd X 0 inb_S5_S1_0))) V ∗ Tl c 1 0 (32 * (1 - zeroN (wd X 1 inb_S5_S1_1))) V ∗ Tl c 2 0 (32 * (1 - zeroN (wd X 2 inb_S5_S1_2))) V)) := by
  rw [part1_eq]
  iintro ⟨Hin, Hzs, HG, HT0, HT1, HT2⟩
  iapply (wp_step c (start_spec c A0 s0 A1 s1 A2 s2 A3 s3 z)) $$ [Hin]
  · iexact Hin
  iintro %_ ⟨HF0, HF1, HF2, HF3, Hz⟩
  imod (zero_init c (k0_pay1 (F := F)) (32 * zeroSum (wd X 0 inb_S5_S1_0) (wd X 1 inb_S5_S1_1) (wd X 2 inb_S5_S1_2) (wd X 3 inb_S5_S1_3) (wd X 4 inb_S5_S1_4))) $$ [Hz Hzs] with HZ
  · isplitl [Hz]; iexact Hz
    iexact Hzs
  iapply (wp_step c (rd_spec c arg0 X 0 inb_S5_S1_0)) $$ HG
  iintro %a ⟨%ha, HG⟩
  subst ha
  iapply (zero_step c (k0_pay1 (F := F)) (m := (32 * zeroSum (wd X 0 inb_S5_S1_0) (wd X 1 inb_S5_S1_1) (wd X 2 inb_S5_S1_2) (wd X 3 inb_S5_S1_3) (wd X 4 inb_S5_S1_4))) (n := 0) (by decide : 0 < 5) _ (le_trans (by omega) (zn_le X)) _ k0_t1_loop k0_t1_ok rfl _ (fun k => t1_body_eq arg0 h0 k) V G (hR.z 0 inb_S5_S1_0)) $$ [HZ HT0]
  · isplitl [HZ]; iexact HZ
    iexact HT0
  iintro ⟨HZ, HT0⟩
  iapply (wp_step c (rd_spec c arg0 X 1 inb_S5_S1_1)) $$ HG
  iintro %a ⟨%ha, HG⟩
  subst ha
  iapply (zero_step c (k0_pay1 (F := F)) (m := (32 * zeroSum (wd X 0 inb_S5_S1_0) (wd X 1 inb_S5_S1_1) (wd X 2 inb_S5_S1_2) (wd X 3 inb_S5_S1_3) (wd X 4 inb_S5_S1_4))) (n := (0 + 32 * zeroN (wd X 0 inb_S5_S1_0))) (by decide : 1 < 5) _ (le_trans (by omega) (zn_le X)) _ k0_t2_loop k0_t2_ok rfl _ (fun k => t2_body_eq arg0 h0 k) V G (hR.z 1 inb_S5_S1_1)) $$ [HZ HT1]
  · isplitl [HZ]; iexact HZ
    iexact HT1
  iintro ⟨HZ, HT1⟩
  iapply (wp_step c (rd_spec c arg0 X 2 inb_S5_S1_2)) $$ HG
  iintro %a ⟨%ha, HG⟩
  subst ha
  iapply (zero_step c (k0_pay1 (F := F)) (m := (32 * zeroSum (wd X 0 inb_S5_S1_0) (wd X 1 inb_S5_S1_1) (wd X 2 inb_S5_S1_2) (wd X 3 inb_S5_S1_3) (wd X 4 inb_S5_S1_4))) (n := ((0 + 32 * zeroN (wd X 0 inb_S5_S1_0)) + 32 * zeroN (wd X 1 inb_S5_S1_1))) (by decide : 2 < 5) _ (le_trans (by omega) (zn_le X)) _ k0_t3_loop k0_t3_ok rfl _ (fun k => t3_body_eq arg0 h0 k) V G (hR.z 2 inb_S5_S1_2)) $$ [HZ HT2]
  · isplitl [HZ]; iexact HZ
    iexact HT2
  iintro ⟨HZ, HT2⟩
  iapply (wp_step c (rd_spec c arg0 X 3 inb_S5_S1_3)) $$ HG
  iintro %a ⟨%ha, HG⟩
  subst ha
  rw [wp_ret]
  imodintro
  isplitr
  · ipureintro; rfl
  isplitl [HF0]; iexact HF0
  isplitl [HF1]; iexact HF1
  isplitl [HF2]; iexact HF2
  isplitl [HF3]; iexact HF3
  isplitl [HG]; iexact HG
  isplitl [HZ]; iexact HZ
  isplitl [HT0]; iexact HT0
  isplitl [HT1]; iexact HT1
  iexact HT2

theorem part2_spec (hR : Res X V G (xAll A0 A1 (gidAll X)) (yAll A2 A3 (gidAll X))) (v27 : BitVec 32) :
    iprop(owns (c : Thread nD τ) arg0 fullShare X ∗ ZSt c (k0_pay1 (F := F)) (32 * zeroSum (wd X 0 inb_S5_S1_0) (wd X 1 inb_S5_S1_1) (wd X 2 inb_S5_S1_2) (wd X 3 inb_S5_S1_3) (wd X 4 inb_S5_S1_4)) (((0 + 32 * zeroN (wd X 0 inb_S5_S1_0)) + 32 * zeroN (wd X 1 inb_S5_S1_1)) + 32 * zeroN (wd X 2 inb_S5_S1_2)) 0 iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 32 V ∗ Tl c 4 0 32 V)
      ⊢ wp frame (wpE (defs₀ (F := F)) Variants.none c none) Set.univ (k0_part2 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 (wd X 0 inb_S5_S1_0) (wd X 1 inb_S5_S1_1) (wd X 2 inb_S5_S1_2) v27 (wd X 3 inb_S5_S1_3) (Scalar.cmpi .eq (wd X 3 inb_S5_S1_3) 0#32))
        (fun a => iprop(⌜a = ⟨(wd X 4 inb_S5_S1_4), k0_chk6_all (wd X 0 inb_S5_S1_0) (wd X 1 inb_S5_S1_1) (wd X 2 inb_S5_S1_2) (wd X 3 inb_S5_S1_3) (wd X 4 inb_S5_S1_4), zc (zc v27 (wd X 3 inb_S5_S1_3)) (wd X 4 inb_S5_S1_4), (end1 (wd X 0 inb_S5_S1_0)), (num1 (wd X 0 inb_S5_S1_0)), (end2 (wd X 0 inb_S5_S1_0) (wd X 1 inb_S5_S1_1)), (num2 (wd X 0 inb_S5_S1_0) (wd X 1 inb_S5_S1_1)), (end3 (wd X 0 inb_S5_S1_0) (wd X 1 inb_S5_S1_1) (wd X 2 inb_S5_S1_2)), (num3 (wd X 0 inb_S5_S1_0) (wd X 1 inb_S5_S1_1) (wd X 2 inb_S5_S1_2)), (end4 (wd X 0 inb_S5_S1_0) (wd X 1 inb_S5_S1_1) (wd X 2 inb_S5_S1_2) (wd X 3 inb_S5_S1_3)), (num4 (wd X 0 inb_S5_S1_0) (wd X 1 inb_S5_S1_1) (wd X 2 inb_S5_S1_2) (wd X 3 inb_S5_S1_3)), (end5 (wd X 0 inb_S5_S1_0) (wd X 1 inb_S5_S1_1) (wd X 2 inb_S5_S1_2) (wd X 3 inb_S5_S1_3) (wd X 4 inb_S5_S1_4)), (iota .tc S256x128 32 [0] iota_S256x128_d0_w32), k0_pay2, k0_pay3⟩⌝ ∗ owns (c : Thread nD τ) arg0 fullShare X ∗ ZSt c (k0_pay1 (F := F)) (32 * zeroSum (wd X 0 inb_S5_S1_0) (wd X 1 inb_S5_S1_1) (wd X 2 inb_S5_S1_2) (wd X 3 inb_S5_S1_3) (wd X 4 inb_S5_S1_4)) (((((0 + 32 * zeroN (wd X 0 inb_S5_S1_0)) + 32 * zeroN (wd X 1 inb_S5_S1_1)) + 32 * zeroN (wd X 2 inb_S5_S1_2)) + 32 * zeroN (wd X 3 inb_S5_S1_3)) + 32 * zeroN (wd X 4 inb_S5_S1_4)) 0 iprop(iprop(iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 (32 * zeroN (wd X 3 inb_S5_S1_3)) G) ∗ Tl c 4 0 (32 * zeroN (wd X 4 inb_S5_S1_4)) G) ∗ Tl c 3 0 (32 * (1 - zeroN (wd X 3 inb_S5_S1_3))) V ∗ Tl c 4 0 (32 * (1 - zeroN (wd X 4 inb_S5_S1_4))) V)) := by
  rw [part2_eq _ _ _ _ _ _ _ _ rfl]
  iintro ⟨HG, HZ, HT3, HT4⟩
  iapply (zero_step c (k0_pay1 (F := F)) (m := (32 * zeroSum (wd X 0 inb_S5_S1_0) (wd X 1 inb_S5_S1_1) (wd X 2 inb_S5_S1_2) (wd X 3 inb_S5_S1_3) (wd X 4 inb_S5_S1_4))) (n := (((0 + 32 * zeroN (wd X 0 inb_S5_S1_0)) + 32 * zeroN (wd X 1 inb_S5_S1_1)) + 32 * zeroN (wd X 2 inb_S5_S1_2))) (by decide : 3 < 5) _ (le_trans (by omega) (zn_le X)) _ k0_t4_loop k0_t4_ok rfl _ (fun k => t4_body_eq arg0 h0 (wd X 0 inb_S5_S1_0) (wd X 1 inb_S5_S1_1) (wd X 2 inb_S5_S1_2) v27 (wd X 3 inb_S5_S1_3) (Scalar.cmpi .eq (wd X 3 inb_S5_S1_3) 0#32) k) V G (hR.z 3 inb_S5_S1_3)) $$ [HZ HT3]
  · isplitl [HZ]; iexact HZ
    iexact HT3
  iintro ⟨HZ, HT3⟩
  iapply (wp_step c (rd_spec c arg0 X 4 inb_S5_S1_4)) $$ HG
  iintro %a ⟨%ha, HG⟩
  subst ha
  rw [wp_assume_of Variants.none (c : Thread nD τ) none Set.univ (k0_chk6_all _ _ _ _ _)]
  iapply (zero_step c (k0_pay1 (F := F)) (m := (32 * zeroSum (wd X 0 inb_S5_S1_0) (wd X 1 inb_S5_S1_1) (wd X 2 inb_S5_S1_2) (wd X 3 inb_S5_S1_3) (wd X 4 inb_S5_S1_4))) (n := ((((0 + 32 * zeroN (wd X 0 inb_S5_S1_0)) + 32 * zeroN (wd X 1 inb_S5_S1_1)) + 32 * zeroN (wd X 2 inb_S5_S1_2)) + 32 * zeroN (wd X 3 inb_S5_S1_3))) (by decide : 4 < 5) _ (le_trans (by omega) (zn_le X)) _ k0_t5_loop k0_t5_ok rfl _ (fun k => t5_body_eq arg0 h0 (wd X 0 inb_S5_S1_0) (wd X 1 inb_S5_S1_1) (wd X 2 inb_S5_S1_2) v27 (wd X 3 inb_S5_S1_3) (Scalar.cmpi .eq (wd X 3 inb_S5_S1_3) 0#32) k) V G (hR.z 4 inb_S5_S1_4)) $$ [HZ HT4]
  · isplitl [HZ]; iexact HZ
    iexact HT4
  iintro ⟨HZ, HT4⟩
  iapply (wp_step c (rd_spec c arg0 X 0 inb_S5_S1_0)) $$ HG
  iintro %a ⟨%ha, HG⟩
  subst ha
  iapply (wp_step c (rd_spec c arg0 X 1 inb_S5_S1_1)) $$ HG
  iintro %a ⟨%ha, HG⟩
  subst ha
  iapply (wp_step c (rd_spec c arg0 X 2 inb_S5_S1_2)) $$ HG
  iintro %a ⟨%ha, HG⟩
  subst ha
  iapply (wp_step c (rd_spec c arg0 X 3 inb_S5_S1_3)) $$ HG
  iintro %a ⟨%ha, HG⟩
  subst ha
  iapply (wp_step c (rd_spec c arg0 X 4 inb_S5_S1_4)) $$ HG
  iintro %a ⟨%ha, HG⟩
  subst ha
  rw [wp_ret]
  imodintro
  isplitr
  · ipureintro; rfl
  isplitl [HG]; iexact HG
  isplitl [HZ]; iexact HZ
  isplitl [HT3]; iexact HT3
  iexact HT4

theorem part4_spec (g : S256x128.Idx → Elt F .i32) (f5 : S4096x256.Idx → Elt F .bf16) (f6 : S256x6144.Idx → Elt F .bf16) :
    iprop(Fly c 0 inb_S4_S1_0 cc0_scratch0 iprop((((c : Thread nD τ).loc cc0_scratch0) ↦{fullShare} A0) ∗ (((c : Thread nD τ).loc main_arg0) ↦{fullShare} A0)) ∗ Fly c 1 inb_S4_S1_1 cc0_scratch1 iprop((((c : Thread nD τ).loc cc0_scratch1) ↦{fullShare} A1) ∗ (((c : Thread nD τ).loc main_arg1) ↦{fullShare} A1)) ∗ Fly c 2 inb_S4_S1_2 cc0_scratch2 iprop((((c : Thread nD τ).loc cc0_scratch2) ↦{fullShare} A2) ∗ (((c : Thread nD τ).loc main_arg2) ↦{fullShare} A2)) ∗ Fly c 3 inb_S4_S1_3 cc0_scratch3 iprop((((c : Thread nD τ).loc cc0_scratch3) ↦{fullShare} A3) ∗ (((c : Thread nD τ).loc main_arg3) ↦{fullShare} A3)) ∗ owns (c : Thread nD τ) arg0 fullShare X ∗ Owes c ∗ (((c : Thread nD τ).loc cc0_scratch4) ↦{fullShare} g) ∗ (((c : Thread nD τ).loc cc0_scratch5) ↦{fullShare} f5) ∗ (((c : Thread nD τ).loc cc0_scratch6) ↦{fullShare} f6))
      ⊢ wp frame (wpE (defs₀ (F := F)) Variants.none c none) Set.univ (k0_part4 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 (end5 (wd X 0 inb_S5_S1_0) (wd X 1 inb_S5_S1_1) (wd X 2 inb_S5_S1_2) (wd X 3 inb_S5_S1_3) (wd X 4 inb_S5_S1_4)) (iota .tc S256x128 32 [0] iota_S256x128_d0_w32) (k0_pay4 (end1 (wd X 0 inb_S5_S1_0)) (num1 (wd X 0 inb_S5_S1_0)) (end2 (wd X 0 inb_S5_S1_0) (wd X 1 inb_S5_S1_1)) (num2 (wd X 0 inb_S5_S1_0) (wd X 1 inb_S5_S1_1)) (end3 (wd X 0 inb_S5_S1_0) (wd X 1 inb_S5_S1_1) (wd X 2 inb_S5_S1_2)) (num3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S256x128 32 [0] iota_S256x128_d0_w32) k0_pay2 k0_pay3) (k0_pay5 (end4 (wd X 0 inb_S5_S1_0) (wd X 1 inb_S5_S1_1) (wd X 2 inb_S5_S1_2) (wd X 3 inb_S5_S1_3)) (num4 (wd X 0 inb_S5_S1_0) (wd X 1 inb_S5_S1_1) (wd X 2 inb_S5_S1_2) (wd X 3 inb_S5_S1_3)) (iota .tc S256x128 32 [0] iota_S256x128_d0_w32)) (k0_pay6 (end4 (wd X 0 inb_S5_S1_0) (wd X 1 inb_S5_S1_1) (wd X 2 inb_S5_S1_2) (wd X 3 inb_S5_S1_3))))
        (fun a => iprop(⌜a = ⟨(iota .tc S128x256 32 [1] iota_S128x256_d1_w32), (wd X 0 inb_S5_S1_0), chk1_all (wd X 0 inb_S5_S1_0), live (wd X 0 inb_S5_S1_0), topD (live (wd X 0 inb_S5_S1_0)), 1#32, 0#32, 0#32, 0#32⟩⌝ ∗ ((((c : Thread nD τ).loc main_arg0) ↦{fullShare} A0) ∗ (((c : Thread nD τ).loc cc0_scratch0) ↦{fullShare} A0) ∗ semVal ((c : Thread nD τ), SemLoc.dma (isem 0 inb_S4_S1_0)) 0 ∗ (((c : Thread nD τ).loc main_arg1) ↦{fullShare} A1) ∗ (((c : Thread nD τ).loc cc0_scratch1) ↦{fullShare} A1) ∗ semVal ((c : Thread nD τ), SemLoc.dma (isem 1 inb_S4_S1_1)) 0 ∗ (((c : Thread nD τ).loc main_arg2) ↦{fullShare} A2) ∗ (((c : Thread nD τ).loc cc0_scratch2) ↦{fullShare} A2) ∗ semVal ((c : Thread nD τ), SemLoc.dma (isem 2 inb_S4_S1_2)) 0 ∗ (((c : Thread nD τ).loc main_arg3) ↦{fullShare} A3) ∗ (((c : Thread nD τ).loc cc0_scratch3) ↦{fullShare} A3) ∗ semVal ((c : Thread nD τ), SemLoc.dma (isem 3 inb_S4_S1_3)) 0) ∗ owns (c : Thread nD τ) arg0 fullShare X ∗ Owes c ∗ (((c : Thread nD τ).loc cc0_scratch4) ↦{fullShare} gidAll X) ∗ (((c : Thread nD τ).loc cc0_scratch5) ↦{fullShare} (xAll A0 A1 (gidAll X))) ∗ (((c : Thread nD τ).loc cc0_scratch6) ↦{fullShare} (yAll A2 A3 (gidAll X))))) := by
  rw [part4_eq]
  iintro ⟨HF0, HF1, HF2, HF3, HG, HO, Hg, H5, H6⟩
  iapply (wp_step c (gid_spec c g _ _ _ _ _)) $$ [Hg]
  · iexact Hg
  iintro %_ Hg
  iapply (wp_step c (wait_spec c 0 inb_S4_S1_0 main_arg0 cc0_scratch0 _)) $$ [HF0 HO]
  · isplitl [HF0]; iexact HF0
    iexact HO
  iintro %_ ⟨⟨Hs0, Ha0⟩, Hv0, HO⟩
  iapply (wp_step c (wait_spec c 1 inb_S4_S1_1 main_arg1 cc0_scratch1 _)) $$ [HF1 HO]
  · isplitl [HF1]; iexact HF1
    iexact HO
  iintro %_ ⟨⟨Hs1, Ha1⟩, Hv1, HO⟩
  iapply (wp_step c (x_loop c A0 A1 (gidAll X) f5 _ fun k => t6_body_eq arg0 h0 _ _ _ _ _ k)) $$ [Hs1 Hg Hs0 H5]
  · isplitl [Hs1]; iexact Hs1
    isplitl [Hg]; iexact Hg
    isplitl [Hs0]; iexact Hs0
    iexact H5
  iintro %_ ⟨Hs1, Hg, Hs0, H5⟩
  iapply (wp_step c (wait_spec c 2 inb_S4_S1_2 main_arg2 cc0_scratch2 _)) $$ [HF2 HO]
  · isplitl [HF2]; iexact HF2
    iexact HO
  iintro %_ ⟨⟨Hs2, Ha2⟩, Hv2, HO⟩
  iapply (wp_step c (wait_spec c 3 inb_S4_S1_3 main_arg3 cc0_scratch3 _)) $$ [HF3 HO]
  · isplitl [HF3]; iexact HF3
    iexact HO
  iintro %_ ⟨⟨Hs3, Ha3⟩, Hv3, HO⟩
  iapply (wp_step c (y_loop c A2 A3 (gidAll X) f6 _ fun k => t7_body_eq arg0 h0 _ _ _ _ _ k)) $$ [Hs3 Hg Hs2 H6]
  · isplitl [Hs3]; iexact Hs3
    isplitl [Hg]; iexact Hg
    isplitl [Hs2]; iexact Hs2
    iexact H6
  iintro %_ ⟨Hs3, Hg, Hs2, H6⟩
  iapply (wp_step c (rd_spec c arg0 X 0 inb_S5_S1_0)) $$ HG
  iintro %a ⟨%ha, HG⟩
  subst ha
  rw [wp_assume_of Variants.none (c : Thread nD τ) none Set.univ (chk1_all _), wp_ret]
  imodintro
  isplitr
  · ipureintro; rfl
  isplitr [HG HO Hg H5 H6]
  · isplitl [Ha0]; iexact Ha0
    isplitl [Hs0]; iexact Hs0
    isplitl [Hv0]; iexact Hv0
    isplitl [Ha1]; iexact Ha1
    isplitl [Hs1]; iexact Hs1
    isplitl [Hv1]; iexact Hv1
    isplitl [Ha2]; iexact Ha2
    isplitl [Hs2]; iexact Hs2
    isplitl [Hv2]; iexact Hv2
    isplitl [Ha3]; iexact Ha3
    isplitl [Hs3]; iexact Hs3
    iexact Hv3
  isplitl [HG]; iexact HG
  isplitl [HO]; iexact HO
  isplitl [Hg]; iexact Hg
  isplitl [H5]; iexact H5
  iexact H6

theorem hb0 : 0 ≤ 4 := by  omega
theorem hb1 : (0 + liveN (wd X 0 inb_S5_S1_0)) ≤ 4 := by have := liveN_le (wd X 0 inb_S5_S1_0); omega
theorem hb2 : ((0 + liveN (wd X 0 inb_S5_S1_0)) + liveN (wd X 1 inb_S5_S1_1)) ≤ 4 := by have := liveN_le (wd X 0 inb_S5_S1_0); have := liveN_le (wd X 1 inb_S5_S1_1); omega
theorem hb3 : (((0 + liveN (wd X 0 inb_S5_S1_0)) + liveN (wd X 1 inb_S5_S1_1)) + liveN (wd X 2 inb_S5_S1_2)) ≤ 4 := by have := liveN_le (wd X 0 inb_S5_S1_0); have := liveN_le (wd X 1 inb_S5_S1_1); have := liveN_le (wd X 2 inb_S5_S1_2); omega
theorem hb4 : ((((0 + liveN (wd X 0 inb_S5_S1_0)) + liveN (wd X 1 inb_S5_S1_1)) + liveN (wd X 2 inb_S5_S1_2)) + liveN (wd X 3 inb_S5_S1_3)) ≤ 4 := by have := liveN_le (wd X 0 inb_S5_S1_0); have := liveN_le (wd X 1 inb_S5_S1_1); have := liveN_le (wd X 2 inb_S5_S1_2); have := liveN_le (wd X 3 inb_S5_S1_3); omega

theorem part5_spec (hR : Res X V G (xAll A0 A1 (gidAll X)) (yAll A2 A3 (gidAll X))) (hw1 : k0_chk1 (wd X 0 inb_S5_S1_0)) (v142 v146 c1 c2 c3 : BitVec 32) :
    iprop(owns (c : Thread nD τ) arg0 fullShare X ∗ (((c : Thread nD τ).loc cc0_scratch5) ↦{fullShare} (xAll A0 A1 (gidAll X))) ∗ (((c : Thread nD τ).loc cc0_scratch6) ↦{fullShare} (yAll A2 A3 (gidAll X))) ∗ RingSt c (ust 0 0) iprop(emp) ∗ Owes c ∗ Tl c 0 0 (32 * (1 - zeroN (wd X 0 inb_S5_S1_0))) V ∗ Tl c 1 0 (32 * (1 - zeroN (wd X 1 inb_S5_S1_1))) V)
      ⊢ wp frame (wpE (defs₀ (F := F)) Variants.none c none) Set.univ (k0_part5 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 (end1 (wd X 0 inb_S5_S1_0)) (end2 (wd X 0 inb_S5_S1_0) (wd X 1 inb_S5_S1_1)) (iota .tc S128x256 32 [1] iota_S128x256_d1_w32) (wd X 0 inb_S5_S1_0) hw1 v142 v146 c1 c2 c3 0#32)
        (fun a => iprop(⌜a = ⟨(wd X 1 inb_S5_S1_1), Scalar.addi (Scalar.addi 0#32 v142) (live (wd X 1 inb_S5_S1_1)), (wd X 2 inb_S5_S1_2), chk3_all (wd X 0 inb_S5_S1_0) (wd X 1 inb_S5_S1_1) (wd X 2 inb_S5_S1_2), live (wd X 2 inb_S5_S1_2), topD (live (wd X 2 inb_S5_S1_2)), 1#32⟩⌝ ∗ owns (c : Thread nD τ) arg0 fullShare X ∗ (((c : Thread nD τ).loc cc0_scratch5) ↦{fullShare} (xAll A0 A1 (gidAll X))) ∗ (((c : Thread nD τ).loc cc0_scratch6) ↦{fullShare} (yAll A2 A3 (gidAll X))) ∗ RingSt c (ust ((0 + liveN (wd X 0 inb_S5_S1_0)) + liveN (wd X 1 inb_S5_S1_1)) 0) iprop(iprop(iprop(emp) ∗ (bigSep (Finset.range (32 * liveN (wd X 0 inb_S5_S1_0))) fun k => ((c : Thread nD τ).loc main_v0) ↦[TS 0 k]{fullShare} G)) ∗ (bigSep (Finset.range (32 * liveN (wd X 1 inb_S5_S1_1))) fun k => ((c : Thread nD τ).loc main_v0) ↦[TS 1 k]{fullShare} G)) ∗ Owes c ∗ Tl c 0 0 (32 * (1 - zeroN (wd X 0 inb_S5_S1_0) - liveN (wd X 0 inb_S5_S1_0))) V ∗ Tl c 1 0 (32 * (1 - zeroN (wd X 1 inb_S5_S1_1) - liveN (wd X 1 inb_S5_S1_1))) V)) := by
  rw [part5_eq]
  iintro ⟨HG, H5, H6, HS, HO, HT0, HT1⟩
  ihave HT0 := (tl_split c 0 (wd X 0 inb_S5_S1_0) V) $$ HT0
  icases HT0 with ⟨HT0, HN0⟩
  iapply (wp_step c (expert_loop c _ (0#32) (wd X 0 inb_S5_S1_0) base0_eq (hb0) (by decide : 0 < 5) _ _ (fun a b => k0_pay10 (F := F) (end1 (wd X 0 inb_S5_S1_0)) (iota .tc S128x256 32 [1] iota_S128x256_d1_w32) 0#32 a b) (fun k => t8_body_eq arg0 h0 _ _ _ _ _ _ _ _ _ _ _ k) (xAll A0 A1 (gidAll X)) (yAll A2 A3 (gidAll X)) V G hR.l0)) $$ [H5 H6 HT0 HS HO]
  · isplitl [H5]; iexact H5
    isplitl [H6]; iexact H6
    isplitl [HT0]; iapply (tl_open c 0 _ V) $$ HT0
    isplitl [HS]; iexact HS
    iexact HO
  iintro %_ ⟨H5, H6, HS, HO⟩
  iapply (wp_step c (loop_none c (restLoop (wd X 0 inb_S5_S1_0)) _ (restLoop_trips (wd X 0 inb_S5_S1_0)) _ iprop(emp))) $$ []
  · iempintro
  iintro %_ -
  iapply (wp_step c (rd_spec c arg0 X 1 inb_S5_S1_1)) $$ HG
  iintro %a ⟨%ha, HG⟩
  subst ha
  rw [wp_assume_of Variants.none (c : Thread nD τ) none Set.univ (chk2_all _ _)]
  ihave HT1 := (tl_split c 1 (wd X 1 inb_S5_S1_1) V) $$ HT1
  icases HT1 with ⟨HT1, HN1⟩
  iapply (wp_step c (expert_loop c _ (base1 (wd X 0 inb_S5_S1_0)) (wd X 1 inb_S5_S1_1) (base1_eq (wd X 0 inb_S5_S1_0)) (hb1 X) (by decide : 1 < 5) _ _ (fun a b => k0_pay12 (F := F) (end1 (wd X 0 inb_S5_S1_0)) (end2 (wd X 0 inb_S5_S1_0) (wd X 1 inb_S5_S1_1)) (iota .tc S128x256 32 [1] iota_S128x256_d1_w32) a b) (fun k => t10_body_eq arg0 h0 _ _ _ _ _ _ _ _ _ _ _ _ _ k) (xAll A0 A1 (gidAll X)) (yAll A2 A3 (gidAll X)) V G hR.l1)) $$ [H5 H6 HT1 HS HO]
  · isplitl [H5]; iexact H5
    isplitl [H6]; iexact H6
    isplitl [HT1]; iapply (tl_open c 1 _ V) $$ HT1
    isplitl [HS]; iexact HS
    iexact HO
  iintro %_ ⟨H5, H6, HS, HO⟩
  iapply (wp_step c (loop_none c (restLoop (wd X 1 inb_S5_S1_1)) _ (restLoop_trips (wd X 1 inb_S5_S1_1)) _ iprop(emp))) $$ []
  · iempintro
  iintro %_ -
  iapply (wp_step c (rd_spec c arg0 X 2 inb_S5_S1_2)) $$ HG
  iintro %a ⟨%ha, HG⟩
  subst ha
  rw [wp_assume_of Variants.none (c : Thread nD τ) none Set.univ (chk3_all _ _ _), wp_ret]
  imodintro
  isplitr
  · ipureintro; rfl
  isplitl [HG]; iexact HG
  isplitl [H5]; iexact H5
  isplitl [H6]; iexact H6
  isplitl [HS]; iexact HS
  isplitl [HO]; iexact HO
  isplitl [HN0]; iexact HN0
  iexact HN1

theorem part6_spec (hR : Res X V G (xAll A0 A1 (gidAll X)) (yAll A2 A3 (gidAll X))) (v165 : BitVec 32) (hw3 : k0_chk3 (wd X 0 inb_S5_S1_0) (wd X 1 inb_S5_S1_1) (wd X 2 inb_S5_S1_2)) (v168 v172 c1 : BitVec 32) :
    iprop(owns (c : Thread nD τ) arg0 fullShare X ∗ (((c : Thread nD τ).loc cc0_scratch5) ↦{fullShare} (xAll A0 A1 (gidAll X))) ∗ (((c : Thread nD τ).loc cc0_scratch6) ↦{fullShare} (yAll A2 A3 (gidAll X))) ∗ RingSt c (ust ((0 + liveN (wd X 0 inb_S5_S1_0)) + liveN (wd X 1 inb_S5_S1_1)) 0) iprop(iprop(iprop(emp) ∗ (bigSep (Finset.range (32 * liveN (wd X 0 inb_S5_S1_0))) fun k => ((c : Thread nD τ).loc main_v0) ↦[TS 0 k]{fullShare} G)) ∗ (bigSep (Finset.range (32 * liveN (wd X 1 inb_S5_S1_1))) fun k => ((c : Thread nD τ).loc main_v0) ↦[TS 1 k]{fullShare} G)) ∗ Owes c ∗ Tl c 2 0 (32 * (1 - zeroN (wd X 2 inb_S5_S1_2))) V ∗ Tl c 3 0 (32 * (1 - zeroN (wd X 3 inb_S5_S1_3))) V)
      ⊢ wp frame (wpE (defs₀ (F := F)) Variants.none c none) Set.univ (k0_part6 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 (end2 (wd X 0 inb_S5_S1_0) (wd X 1 inb_S5_S1_1)) (end3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S128x256 32 [1] iota_S128x256_d1_w32) (wd X 0 inb_S5_S1_0) (wd X 1 inb_S5_S1_1) v165 (wd X 2 inb_S5_S1_2) hw3 v168 v172 c1)
        (fun a => iprop(⌜a = ⟨(wd X 3 inb_S5_S1_3), Scalar.addi (Scalar.addi v165 v168) (live (wd X 3 inb_S5_S1_3)), (wd X 4 inb_S5_S1_4), chk5_all (wd X 0 inb_S5_S1_0) (wd X 1 inb_S5_S1_1) (wd X 2 inb_S5_S1_2) (wd X 3 inb_S5_S1_3) (wd X 4 inb_S5_S1_4), live (wd X 4 inb_S5_S1_4), topD (live (wd X 4 inb_S5_S1_4)), 1#32⟩⌝ ∗ owns (c : Thread nD τ) arg0 fullShare X ∗ (((c : Thread nD τ).loc cc0_scratch5) ↦{fullShare} (xAll A0 A1 (gidAll X))) ∗ (((c : Thread nD τ).loc cc0_scratch6) ↦{fullShare} (yAll A2 A3 (gidAll X))) ∗ RingSt c (ust ((((0 + liveN (wd X 0 inb_S5_S1_0)) + liveN (wd X 1 inb_S5_S1_1)) + liveN (wd X 2 inb_S5_S1_2)) + liveN (wd X 3 inb_S5_S1_3)) 0) iprop(iprop(iprop(iprop(iprop(emp) ∗ (bigSep (Finset.range (32 * liveN (wd X 0 inb_S5_S1_0))) fun k => ((c : Thread nD τ).loc main_v0) ↦[TS 0 k]{fullShare} G)) ∗ (bigSep (Finset.range (32 * liveN (wd X 1 inb_S5_S1_1))) fun k => ((c : Thread nD τ).loc main_v0) ↦[TS 1 k]{fullShare} G)) ∗ (bigSep (Finset.range (32 * liveN (wd X 2 inb_S5_S1_2))) fun k => ((c : Thread nD τ).loc main_v0) ↦[TS 2 k]{fullShare} G)) ∗ (bigSep (Finset.range (32 * liveN (wd X 3 inb_S5_S1_3))) fun k => ((c : Thread nD τ).loc main_v0) ↦[TS 3 k]{fullShare} G)) ∗ Owes c ∗ Tl c 2 0 (32 * (1 - zeroN (wd X 2 inb_S5_S1_2) - liveN (wd X 2 inb_S5_S1_2))) V ∗ Tl c 3 0 (32 * (1 - zeroN (wd X 3 inb_S5_S1_3) - liveN (wd X 3 inb_S5_S1_3))) V)) := by
  rw [part6_eq]
  iintro ⟨HG, H5, H6, HS, HO, HT2, HT3⟩
  ihave HT2 := (tl_split c 2 (wd X 2 inb_S5_S1_2) V) $$ HT2
  icases HT2 with ⟨HT2, HN2⟩
  iapply (wp_step c (expert_loop c _ (base2 (wd X 0 inb_S5_S1_0) (wd X 1 inb_S5_S1_1)) (wd X 2 inb_S5_S1_2) (base2_eq (wd X 0 inb_S5_S1_0) (wd X 1 inb_S5_S1_1)) (hb2 X) (by decide : 2 < 5) _ _ (fun a b => k0_pay14 (F := F) (end2 (wd X 0 inb_S5_S1_0) (wd X 1 inb_S5_S1_1)) (end3 (wd X 0 inb_S5_S1_0) (wd X 1 inb_S5_S1_1) (wd X 2 inb_S5_S1_2)) (iota .tc S128x256 32 [1] iota_S128x256_d1_w32) a b) (fun k => t12_body_eq arg0 h0 _ _ _ _ _ _ _ _ _ _ _ _ k) (xAll A0 A1 (gidAll X)) (yAll A2 A3 (gidAll X)) V G hR.l2)) $$ [H5 H6 HT2 HS HO]
  · isplitl [H5]; iexact H5
    isplitl [H6]; iexact H6
    isplitl [HT2]; iapply (tl_open c 2 _ V) $$ HT2
    isplitl [HS]; iexact HS
    iexact HO
  iintro %_ ⟨H5, H6, HS, HO⟩
  iapply (wp_step c (loop_none c (restLoop (wd X 2 inb_S5_S1_2)) _ (restLoop_trips (wd X 2 inb_S5_S1_2)) _ iprop(emp))) $$ []
  · iempintro
  iintro %_ -
  iapply (wp_step c (rd_spec c arg0 X 3 inb_S5_S1_3)) $$ HG
  iintro %a ⟨%ha, HG⟩
  subst ha
  rw [wp_assume_of Variants.none (c : Thread nD τ) none Set.univ (chk4_all _ _ _ _)]
  ihave HT3 := (tl_split c 3 (wd X 3 inb_S5_S1_3) V) $$ HT3
  icases HT3 with ⟨HT3, HN3⟩
  iapply (wp_step c (expert_loop c _ (base3 (wd X 0 inb_S5_S1_0) (wd X 1 inb_S5_S1_1) (wd X 2 inb_S5_S1_2)) (wd X 3 inb_S5_S1_3) (base3_eq (wd X 0 inb_S5_S1_0) (wd X 1 inb_S5_S1_1) (wd X 2 inb_S5_S1_2)) (hb3 X) (by decide : 3 < 5) _ _ (fun a b => k0_pay16 (F := F) (end3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S128x256 32 [1] iota_S128x256_d1_w32) a b) (fun k => t14_body_eq arg0 h0 _ _ _ _ _ _ _ _ _ _ _ _ _ _ k) (xAll A0 A1 (gidAll X)) (yAll A2 A3 (gidAll X)) V G hR.l3)) $$ [H5 H6 HT3 HS HO]
  · isplitl [H5]; iexact H5
    isplitl [H6]; iexact H6
    isplitl [HT3]; iapply (tl_open c 3 _ V) $$ HT3
    isplitl [HS]; iexact HS
    iexact HO
  iintro %_ ⟨H5, H6, HS, HO⟩
  iapply (wp_step c (loop_none c (restLoop (wd X 3 inb_S5_S1_3)) _ (restLoop_trips (wd X 3 inb_S5_S1_3)) _ iprop(emp))) $$ []
  · iempintro
  iintro %_ -
  iapply (wp_step c (rd_spec c arg0 X 4 inb_S5_S1_4)) $$ HG
  iintro %a ⟨%ha, HG⟩
  subst ha
  rw [wp_assume_of Variants.none (c : Thread nD τ) none Set.univ (chk5_all _ _ _ _ _), wp_ret]
  imodintro
  isplitr
  · ipureintro; rfl
  isplitl [HG]; iexact HG
  isplitl [H5]; iexact H5
  isplitl [H6]; iexact H6
  isplitl [HS]; iexact HS
  isplitl [HO]; iexact HO
  isplitl [HN2]; iexact HN2
  iexact HN3

theorem part3_spec (v45 v46 v50 v51 v55 v56 v60 v61 : BitVec 32) (v64 v65 v67 : IVec S256x128 32) :
    (iprop(emp) : sProp 𝕄) ⊢ wp frame (wpE (defs₀ (F := F)) Variants.none c none) Set.univ (k0_part3 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v46 v50 v51 v55 v56 v60 v61 v64 v65 v67)
      (fun a => iprop(⌜a = ⟨k0_pay4 v45 v46 v50 v51 v55 v56 v60 v64 v65 v67, k0_pay5 v60 v61 v64, k0_pay6 v60⟩⌝)) := by
  rw [show k0_part3 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 v45 v46 v50 v51 v55 v56 v60 v61 v64 v65 v67 = (Prog.ret ⟨k0_pay4 v45 v46 v50 v51 v55 v56 v60 v64 v65 v67, k0_pay5 v60 v61 v64, k0_pay6 v60⟩ : Prog (TpuEff nD τ sig (Elt F) Λ₀ .tc) _) from rfl, wp_ret]
  iintro -
  imodintro
  ipureintro; rfl

set_option maxHeartbeats 2000000 in
theorem part7_spec (hR : Res X V G (xAll A0 A1 (gidAll X)) (yAll A2 A3 (gidAll X))) (s0 : S256x4096.Idx → Elt F .fp8e4m3) (s1 : S4x4096.Idx → Elt F .f32) (s2 : S256x6144.Idx → Elt F .fp8e4m3) (s3 : S4x6144.Idx → Elt F .f32) (z : S128x6144.Idx → Elt F .f32) (g : S256x128.Idx → Elt F .i32) (f5 : S4096x256.Idx → Elt F .bf16) (f6 : S256x6144.Idx → Elt F .bf16) :
    (iprop(((((c : Thread nD τ).loc main_arg0) ↦{fullShare} A0) ∗ (((c : Thread nD τ).loc cc0_scratch0) ↦{fullShare} s0) ∗ semVal ((c : Thread nD τ), SemLoc.dma (isem 0 inb_S4_S1_0)) 0 ∗ (((c : Thread nD τ).loc main_arg1) ↦{fullShare} A1) ∗ (((c : Thread nD τ).loc cc0_scratch1) ↦{fullShare} s1) ∗ semVal ((c : Thread nD τ), SemLoc.dma (isem 1 inb_S4_S1_1)) 0 ∗ (((c : Thread nD τ).loc main_arg2) ↦{fullShare} A2) ∗ (((c : Thread nD τ).loc cc0_scratch2) ↦{fullShare} s2) ∗ semVal ((c : Thread nD τ), SemLoc.dma (isem 2 inb_S4_S1_2)) 0 ∗ (((c : Thread nD τ).loc main_arg3) ↦{fullShare} A3) ∗ (((c : Thread nD τ).loc cc0_scratch3) ↦{fullShare} s3) ∗ semVal ((c : Thread nD τ), SemLoc.dma (isem 3 inb_S4_S1_3)) 0 ∗ (((c : Thread nD τ).loc cc0_scratch7) ↦{fullShare} z)) ∗ semVal ((c : Thread nD τ), SemLoc.dma zsem) 0 ∗ owns (c : Thread nD τ) arg0 fullShare X ∗ Owes c ∗ (((c : Thread nD τ).loc cc0_scratch4) ↦{fullShare} g) ∗ (((c : Thread nD τ).loc cc0_scratch5) ↦{fullShare} f5) ∗ (((c : Thread nD τ).loc cc0_scratch6) ↦{fullShare} f6) ∗ RingSt c (ust 0 0) iprop(emp) ∗ Tl c 0 0 32 V ∗ Tl c 1 0 32 V ∗ Tl c 2 0 32 V ∗ Tl c 3 0 32 V ∗ Tl c 4 0 32 V) : sProp 𝕄) ⊢ wp frame (wpE (defs₀ (F := F)) Variants.none c none) Set.univ (k0_part7 arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11) (fun a => iprop((∃ w, ⌜a = ⟨(wd X 0 inb_S5_S1_0), (wd X 1 inb_S5_S1_1), (wd X 2 inb_S5_S1_2), (wd X 3 inb_S5_S1_3), (wd X 4 inb_S5_S1_4), chk5_all (wd X 0 inb_S5_S1_0) (wd X 1 inb_S5_S1_1) (wd X 2 inb_S5_S1_2) (wd X 3 inb_S5_S1_3) (wd X 4 inb_S5_S1_4), 1#32, 0#32, 0#32, w⟩⌝) ∗ (((((c : Thread nD τ).loc main_arg0) ↦{fullShare} A0) ∗ (((c : Thread nD τ).loc cc0_scratch0) ↦{fullShare} A0) ∗ semVal ((c : Thread nD τ), SemLoc.dma (isem 0 inb_S4_S1_0)) 0 ∗ (((c : Thread nD τ).loc main_arg1) ↦{fullShare} A1) ∗ (((c : Thread nD τ).loc cc0_scratch1) ↦{fullShare} A1) ∗ semVal ((c : Thread nD τ), SemLoc.dma (isem 1 inb_S4_S1_1)) 0 ∗ (((c : Thread nD τ).loc main_arg2) ↦{fullShare} A2) ∗ (((c : Thread nD τ).loc cc0_scratch2) ↦{fullShare} A2) ∗ semVal ((c : Thread nD τ), SemLoc.dma (isem 2 inb_S4_S1_2)) 0 ∗ (((c : Thread nD τ).loc main_arg3) ↦{fullShare} A3) ∗ (((c : Thread nD τ).loc cc0_scratch3) ↦{fullShare} A3) ∗ semVal ((c : Thread nD τ), SemLoc.dma (isem 3 inb_S4_S1_3)) 0) ∗ owns (c : Thread nD τ) arg0 fullShare X ∗ Owes c ∗ (((c : Thread nD τ).loc cc0_scratch4) ↦{fullShare} gidAll X) ∗ (((c : Thread nD τ).loc cc0_scratch5) ↦{fullShare} (xAll A0 A1 (gidAll X))) ∗ (((c : Thread nD τ).loc cc0_scratch6) ↦{fullShare} (yAll A2 A3 (gidAll X))) ∗ (((c : Thread nD τ).loc cc0_scratch7) ↦{fullShare} k0_pay1 (F := F)) ∗ semVal ((c : Thread nD τ), SemLoc.dma zsem) 0 ∗ RingSt c (ust (((((0 + liveN (wd X 0 inb_S5_S1_0)) + liveN (wd X 1 inb_S5_S1_1)) + liveN (wd X 2 inb_S5_S1_2)) + liveN (wd X 3 inb_S5_S1_3)) + liveN (wd X 4 inb_S5_S1_4)) 0) iprop(iprop(iprop(iprop(iprop(iprop(emp) ∗ (bigSep (Finset.range (32 * liveN (wd X 0 inb_S5_S1_0))) fun k => ((c : Thread nD τ).loc main_v0) ↦[TS 0 k]{fullShare} G)) ∗ (bigSep (Finset.range (32 * liveN (wd X 1 inb_S5_S1_1))) fun k => ((c : Thread nD τ).loc main_v0) ↦[TS 1 k]{fullShare} G)) ∗ (bigSep (Finset.range (32 * liveN (wd X 2 inb_S5_S1_2))) fun k => ((c : Thread nD τ).loc main_v0) ↦[TS 2 k]{fullShare} G)) ∗ (bigSep (Finset.range (32 * liveN (wd X 3 inb_S5_S1_3))) fun k => ((c : Thread nD τ).loc main_v0) ↦[TS 3 k]{fullShare} G)) ∗ (bigSep (Finset.range (32 * liveN (wd X 4 inb_S5_S1_4))) fun k => ((c : Thread nD τ).loc main_v0) ↦[TS 4 k]{fullShare} G)) ∗ iprop(iprop(iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 (32 * zeroN (wd X 3 inb_S5_S1_3)) G) ∗ Tl c 4 0 (32 * zeroN (wd X 4 inb_S5_S1_4)) G) ∗ Tl c 0 0 (32 * (1 - zeroN (wd X 0 inb_S5_S1_0) - liveN (wd X 0 inb_S5_S1_0))) V ∗ Tl c 1 0 (32 * (1 - zeroN (wd X 1 inb_S5_S1_1) - liveN (wd X 1 inb_S5_S1_1))) V ∗ Tl c 2 0 (32 * (1 - zeroN (wd X 2 inb_S5_S1_2) - liveN (wd X 2 inb_S5_S1_2))) V ∗ Tl c 3 0 (32 * (1 - zeroN (wd X 3 inb_S5_S1_3) - liveN (wd X 3 inb_S5_S1_3))) V ∗ Tl c 4 0 (32 * (1 - zeroN (wd X 4 inb_S5_S1_4) - liveN (wd X 4 inb_S5_S1_4))) V))) := by
  rw [part7_eq]
  iintro ⟨Hin, Hzs, HG, HO, Hg, H5, H6, HS, HT0, HT1, HT2, HT3, HT4⟩
  iapply (wp_step c (part1_spec c arg0 h0 X V G A0 A1 A2 A3 hR s0 s1 s2 s3 z)) $$ [Hin Hzs HG HT0 HT1 HT2]
  · isplitl [Hin]; iexact Hin
    isplitl [Hzs]; iexact Hzs
    isplitl [HG]; iexact HG
    isplitl [HT0]; iexact HT0
    isplitl [HT1]; iexact HT1
    iexact HT2
  iintro %a ⟨%ha, HF0, HF1, HF2, HF3, HG, HZ, HT0, HT1, HT2⟩
  subst ha
  dsimp only
  iapply (wp_step c (part2_spec c arg0 h0 X V G A0 A1 A2 A3 hR _)) $$ [HG HZ HT3 HT4]
  · isplitl [HG]; iexact HG
    isplitl [HZ]; iexact HZ
    isplitl [HT3]; iexact HT3
    iexact HT4
  iintro %a ⟨%ha, HG, HZ, HT3, HT4⟩
  subst ha
  dsimp only
  iapply (wp_step c (part3_spec c arg0 h0 _ _ _ _ _ _ _ _ _ _ _)) $$ []
  · iempintro
  iintro %a %ha
  subst ha
  dsimp only
  iapply (wp_step c (part4_spec c arg0 h0 X A0 A1 A2 A3 g f5 f6)) $$ [HF0 HF1 HF2 HF3 HG HO Hg H5 H6]
  · isplitl [HF0]; iexact HF0
    isplitl [HF1]; iexact HF1
    isplitl [HF2]; iexact HF2
    isplitl [HF3]; iexact HF3
    isplitl [HG]; iexact HG
    isplitl [HO]; iexact HO
    isplitl [Hg]; iexact Hg
    isplitl [H5]; iexact H5
    iexact H6
  iintro %a ⟨%ha, HB, HG, HO, Hg, H5, H6⟩
  subst ha
  dsimp only
  iapply (wp_step c (part5_spec c arg0 h0 X V G A0 A1 A2 A3 hR _ _ _ _ _ _)) $$ [HG H5 H6 HS HO HT0 HT1]
  · isplitl [HG]; iexact HG
    isplitl [H5]; iexact H5
    isplitl [H6]; iexact H6
    isplitl [HS]; iexact HS
    isplitl [HO]; iexact HO
    isplitl [HT0]; iexact HT0
    iexact HT1
  iintro %a ⟨%ha, HG, H5, H6, HS, HO, HN0, HN1⟩
  subst ha
  dsimp only
  iapply (wp_step c (part6_spec c arg0 h0 X V G A0 A1 A2 A3 hR _ _ _ _ _)) $$ [HG H5 H6 HS HO HT2 HT3]
  · isplitl [HG]; iexact HG
    isplitl [H5]; iexact H5
    isplitl [H6]; iexact H6
    isplitl [HS]; iexact HS
    isplitl [HO]; iexact HO
    isplitl [HT2]; iexact HT2
    iexact HT3
  iintro %a ⟨%ha, HG, H5, H6, HS, HO, HN2, HN3⟩
  subst ha
  dsimp only
  unfold tailH
  ihave HT4 := (tl_split c 4 (wd X 4 inb_S5_S1_4) V) $$ HT4
  icases HT4 with ⟨HT4, HN4⟩
  iapply (wp_step c (expert_loop c _ (base4 (wd X 0 inb_S5_S1_0) (wd X 1 inb_S5_S1_1) (wd X 2 inb_S5_S1_2) (wd X 3 inb_S5_S1_3)) (wd X 4 inb_S5_S1_4) (base4_eq (wd X 0 inb_S5_S1_0) (wd X 1 inb_S5_S1_1) (wd X 2 inb_S5_S1_2) (wd X 3 inb_S5_S1_3)) (hb4 X) (by decide : 4 < 5) _ _ (fun a b => k0_pay18 (F := F) (end4 (wd X 0 inb_S5_S1_0) (wd X 1 inb_S5_S1_1) (wd X 2 inb_S5_S1_2) (wd X 3 inb_S5_S1_3)) (end5 (wd X 0 inb_S5_S1_0) (wd X 1 inb_S5_S1_1) (wd X 2 inb_S5_S1_2) (wd X 3 inb_S5_S1_3) (wd X 4 inb_S5_S1_4)) (iota .tc S128x256 32 [1] iota_S128x256_d1_w32) a b) (fun k => t16_body_eq arg0 h0 _ _ _ _ _ _ _ _ _ k) (xAll A0 A1 (gidAll X)) (yAll A2 A3 (gidAll X)) V G hR.l4)) $$ [H5 H6 HT4 HS HO]
  · isplitl [H5]; iexact H5
    isplitl [H6]; iexact H6
    isplitl [HT4]; iapply (tl_open c 4 _ V) $$ HT4
    isplitl [HS]; iexact HS
    iexact HO
  iintro %_ ⟨H5, H6, HS, HO⟩
  iapply (wp_step c (loop_none c (restLoop (wd X 4 inb_S5_S1_4)) _ (restLoop_trips (wd X 4 inb_S5_S1_4)) _ iprop(emp))) $$ []
  · iempintro
  iintro %_ -
  ihave HZ := (Entails.of_eq (congrArg (fun n => ZSt c (k0_pay1 (F := F)) (32 * zeroSum (wd X 0 inb_S5_S1_0) (wd X 1 inb_S5_S1_1) (wd X 2 inb_S5_S1_2) (wd X 3 inb_S5_S1_3) (wd X 4 inb_S5_S1_4)) n 0 iprop(iprop(iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 (32 * zeroN (wd X 3 inb_S5_S1_3)) G) ∗ Tl c 4 0 (32 * zeroN (wd X 4 inb_S5_S1_4)) G)) (show (((((0 + 32 * zeroN (wd X 0 inb_S5_S1_0)) + 32 * zeroN (wd X 1 inb_S5_S1_1)) + 32 * zeroN (wd X 2 inb_S5_S1_2)) + 32 * zeroN (wd X 3 inb_S5_S1_3)) + 32 * zeroN (wd X 4 inb_S5_S1_4)) = (32 * zeroSum (wd X 0 inb_S5_S1_0) (wd X 1 inb_S5_S1_1) (wd X 2 inb_S5_S1_2) (wd X 3 inb_S5_S1_3) (wd X 4 inb_S5_S1_4)) by unfold zeroSum; omega))) $$ HZ
  iapply (wp_step c (zwait_loop c (k0_pay1 (F := F)) (m := (32 * zeroSum (wd X 0 inb_S5_S1_0) (wd X 1 inb_S5_S1_1) (wd X 2 inb_S5_S1_2) (wd X 3 inb_S5_S1_3) (wd X 4 inb_S5_S1_4))) iprop(iprop(iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 (32 * zeroN (wd X 3 inb_S5_S1_3)) G) ∗ Tl c 4 0 (32 * zeroN (wd X 4 inb_S5_S1_4)) G) (zeroLoop (wd X 0 inb_S5_S1_0) (wd X 1 inb_S5_S1_1) (wd X 2 inb_S5_S1_2) (wd X 3 inb_S5_S1_3) (wd X 4 inb_S5_S1_4)) _ (zeroLoop_trips (wd X 0 inb_S5_S1_0) (wd X 1 inb_S5_S1_1) (wd X 2 inb_S5_S1_2) (wd X 3 inb_S5_S1_3) (wd X 4 inb_S5_S1_4)) _ (fun k => t18_body_eq arg0 h0 _ _ _ _ _ _ k))) $$ [HZ HO]
  · isplitl [HZ]; iexact HZ
    iexact HO
  iintro %_ ⟨HZ, HO⟩
  iapply (wp_step c (loop_none c (zeroRest (wd X 0 inb_S5_S1_0) (wd X 1 inb_S5_S1_1) (wd X 2 inb_S5_S1_2) (wd X 3 inb_S5_S1_3) (wd X 4 inb_S5_S1_4)) _ (zeroRest_trips (wd X 0 inb_S5_S1_0) (wd X 1 inb_S5_S1_1) (wd X 2 inb_S5_S1_2) (wd X 3 inb_S5_S1_3) (wd X 4 inb_S5_S1_4)) _ iprop(emp))) $$ []
  · iempintro
  iintro %_ -
  imod (zero_collect c (k0_pay1 (F := F)) iprop(iprop(iprop(iprop(iprop(iprop(emp) ∗ Tl c 0 0 (32 * zeroN (wd X 0 inb_S5_S1_0)) G) ∗ Tl c 1 0 (32 * zeroN (wd X 1 inb_S5_S1_1)) G) ∗ Tl c 2 0 (32 * zeroN (wd X 2 inb_S5_S1_2)) G) ∗ Tl c 3 0 (32 * zeroN (wd X 3 inb_S5_S1_3)) G) ∗ Tl c 4 0 (32 * zeroN (wd X 4 inb_S5_S1_4)) G)) $$ HZ with ⟨HA, H7, Hzs⟩
  rw [wp_ret]
  imodintro
  isplitr
  · iexists _
    ipureintro; rfl
  isplitl [HB]; iexact HB
  isplitl [HG]; iexact HG
  isplitl [HO]; iexact HO
  isplitl [Hg]; iexact Hg
  isplitl [H5]; iexact H5
  isplitl [H6]; iexact H6
  isplitl [H7]; iexact H7
  isplitl [Hzs]; iexact Hzs
  isplitl [HS]; iexact HS
  isplitl [HA]; iexact HA
  isplitl [HN0]; iexact HN0
  isplitl [HN1]; iexact HN1
  isplitl [HN2]; iexact HN2
  isplitl [HN3]; iexact HN3
  iexact HN4

theorem tiles_range (e m : ℕ) (f : S5x4096x6144.Idx → Elt F .f32) :
    (bigSep (Finset.range m) fun k => ((c : Thread nD τ).loc main_v0) ↦[TS e k]{fullShare} f) ⊢ (Tl c e 0 m f : sProp 𝕄) := by
  unfold Tl; rw [Finset.range_eq_Ico]

theorem tl_done {X : S5.Idx → BitVec 32} {V G : S5x4096x6144.Idx → Elt F .f32} {XT : S4096x256.Idx → Elt F .bf16} {DY : S256x6144.Idx → Elt F .bf16} (hR : Res X V G XT DY) (e : ℕ) (h : ∀ a, (![e] : Fin 1 → ℕ) a + S1.size a ≤ S5.size a) :
    iprop(Tl c e 0 (32 * zeroN (wd X e h)) G ∗ (bigSep (Finset.range (32 * liveN (wd X e h))) fun k => ((c : Thread nD τ).loc main_v0) ↦[TS e k]{fullShare} G)
      ∗ Tl c e 0 (32 * (1 - zeroN (wd X e h) - liveN (wd X e h))) V) ⊢ (Tl c e 0 32 G : sProp 𝕄) :=
  BIBase.Entails.trans (sep_mono .rfl (sep_mono (tiles_range c e _ G) .rfl)) (tl_join c e (wd X e h) V G (hR.n e h))

set_option maxHeartbeats 2000000 in
/-- The whole kernel: its result array, tile by tile, goes from `V` to `G`. -/
theorem kernel_spec (hR : Res X V G (xAll A0 A1 (gidAll X)) (yAll A2 A3 (gidAll X))) (s0 : S256x4096.Idx → Elt F .fp8e4m3) (s1 : S4x4096.Idx → Elt F .f32) (s2 : S256x6144.Idx → Elt F .fp8e4m3) (s3 : S4x6144.Idx → Elt F .f32) (z : S128x6144.Idx → Elt F .f32) (g : S256x128.Idx → Elt F .i32) (f5 : S4096x256.Idx → Elt F .bf16) (f6 : S256x6144.Idx → Elt F .bf16) :
    (iprop(((((c : Thread nD τ).loc main_arg0) ↦{fullShare} A0) ∗ (((c : Thread nD τ).loc cc0_scratch0) ↦{fullShare} s0) ∗ semVal ((c : Thread nD τ), SemLoc.dma (isem 0 inb_S4_S1_0)) 0 ∗ (((c : Thread nD τ).loc main_arg1) ↦{fullShare} A1) ∗ (((c : Thread nD τ).loc cc0_scratch1) ↦{fullShare} s1) ∗ semVal ((c : Thread nD τ), SemLoc.dma (isem 1 inb_S4_S1_1)) 0 ∗ (((c : Thread nD τ).loc main_arg2) ↦{fullShare} A2) ∗ (((c : Thread nD τ).loc cc0_scratch2) ↦{fullShare} s2) ∗ semVal ((c : Thread nD τ), SemLoc.dma (isem 2 inb_S4_S1_2)) 0 ∗ (((c : Thread nD τ).loc main_arg3) ↦{fullShare} A3) ∗ (((c : Thread nD τ).loc cc0_scratch3) ↦{fullShare} s3) ∗ semVal ((c : Thread nD τ), SemLoc.dma (isem 3 inb_S4_S1_3)) 0 ∗ (((c : Thread nD τ).loc cc0_scratch7) ↦{fullShare} z)) ∗ semVal ((c : Thread nD τ), SemLoc.dma zsem) 0 ∗ owns (c : Thread nD τ) arg0 fullShare X ∗ Owes c ∗ (((c : Thread nD τ).loc cc0_scratch4) ↦{fullShare} g) ∗ (((c : Thread nD τ).loc cc0_scratch5) ↦{fullShare} f5) ∗ (((c : Thread nD τ).loc cc0_scratch6) ↦{fullShare} f6) ∗ (bigSep Finset.univ fun s : Fin 8 => Rslot c s.val) ∗ (bigSep Finset.univ fun s : Fin 8 => semVal ((c : Thread nD τ), SemLoc.dma (rsem s)) 0) ∗ Tl c 0 0 32 V ∗ Tl c 1 0 32 V ∗ Tl c 2 0 32 V ∗ Tl c 3 0 32 V ∗ Tl c 4 0 32 V) : sProp 𝕄) ⊢ wp frame (wpE (defs₀ (F := F)) Variants.none c none) Set.univ (cc0_grouped_fp8_wgrad arg0 h0 (Memref.whole main_arg0) (Memref.isWhole_whole _) (Memref.whole main_arg1) (Memref.isWhole_whole _) (Memref.whole main_arg2) (Memref.isWhole_whole _) (Memref.whole main_arg3) (Memref.isWhole_whole _) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11) (fun _ => iprop(((((c : Thread nD τ).loc main_arg0) ↦{fullShare} A0) ∗ (((c : Thread nD τ).loc cc0_scratch0) ↦{fullShare} A0) ∗ semVal ((c : Thread nD τ), SemLoc.dma (isem 0 inb_S4_S1_0)) 0 ∗ (((c : Thread nD τ).loc main_arg1) ↦{fullShare} A1) ∗ (((c : Thread nD τ).loc cc0_scratch1) ↦{fullShare} A1) ∗ semVal ((c : Thread nD τ), SemLoc.dma (isem 1 inb_S4_S1_1)) 0 ∗ (((c : Thread nD τ).loc main_arg2) ↦{fullShare} A2) ∗ (((c : Thread nD τ).loc cc0_scratch2) ↦{fullShare} A2) ∗ semVal ((c : Thread nD τ), SemLoc.dma (isem 2 inb_S4_S1_2)) 0 ∗ (((c : Thread nD τ).loc main_arg3) ↦{fullShare} A3) ∗ (((c : Thread nD τ).loc cc0_scratch3) ↦{fullShare} A3) ∗ semVal ((c : Thread nD τ), SemLoc.dma (isem 3 inb_S4_S1_3)) 0) ∗ owns (c : Thread nD τ) arg0 fullShare X ∗ Owes c ∗ (((c : Thread nD τ).loc cc0_scratch4) ↦{fullShare} gidAll X) ∗ (((c : Thread nD τ).loc cc0_scratch5) ↦{fullShare} (xAll A0 A1 (gidAll X))) ∗ (((c : Thread nD τ).loc cc0_scratch6) ↦{fullShare} (yAll A2 A3 (gidAll X))) ∗ (((c : Thread nD τ).loc cc0_scratch7) ↦{fullShare} k0_pay1 (F := F)) ∗ semVal ((c : Thread nD τ), SemLoc.dma zsem) 0 ∗ (bigSep Finset.univ fun s : Fin 8 => Rslot c s.val) ∗ (bigSep Finset.univ fun s : Fin 8 => semVal ((c : Thread nD τ), SemLoc.dma (rsem s)) 0) ∗ Tl c 0 0 32 G ∗ Tl c 1 0 32 G ∗ Tl c 2 0 32 G ∗ Tl c 3 0 32 G ∗ Tl c 4 0 32 G)) := by
  rw [kernel_eq]
  iintro ⟨Hin, Hzs, HG, HO, Hg, H5, H6, HRs, HRv, HT0, HT1, HT2, HT3, HT4⟩
  ihave HS := (ring_init c) $$ [HRs HRv]
  · isplitl [HRs]; iexact HRs
    iexact HRv
  iapply (wp_step c (part7_spec c arg0 h0 X V G A0 A1 A2 A3 hR s0 s1 s2 s3 z g f5 f6)) $$ [Hin Hzs HG HO Hg H5 H6 HS HT0 HT1 HT2 HT3 HT4]
  · isplitl [Hin]; iexact Hin
    isplitl [Hzs]; iexact Hzs
    isplitl [HG]; iexact HG
    isplitl [HO]; iexact HO
    isplitl [Hg]; iexact Hg
    isplitl [H5]; iexact H5
    isplitl [H6]; iexact H6
    isplitl [HS]; iexact HS
    isplitl [HT0]; iexact HT0
    isplitl [HT1]; iexact HT1
    isplitl [HT2]; iexact HT2
    isplitl [HT3]; iexact HT3
    iexact HT4
  iintro %a ⟨⟨%w, %ha⟩, HB, HG, HO, Hg, H5, H6, H7, Hzs, HS, HA, HN0, HN1, HN2, HN3, HN4⟩
  subst ha
  dsimp only
  unfold endH
  iapply (wp_step c (drain_loop c iprop(iprop(iprop(iprop(iprop(iprop(emp) ∗ (bigSep (Finset.range (32 * liveN (wd X 0 inb_S5_S1_0))) fun k => ((c : Thread nD τ).loc main_v0) ↦[TS 0 k]{fullShare} G)) ∗ (bigSep (Finset.range (32 * liveN (wd X 1 inb_S5_S1_1))) fun k => ((c : Thread nD τ).loc main_v0) ↦[TS 1 k]{fullShare} G)) ∗ (bigSep (Finset.range (32 * liveN (wd X 2 inb_S5_S1_2))) fun k => ((c : Thread nD τ).loc main_v0) ↦[TS 2 k]{fullShare} G)) ∗ (bigSep (Finset.range (32 * liveN (wd X 3 inb_S5_S1_3))) fun k => ((c : Thread nD τ).loc main_v0) ↦[TS 3 k]{fullShare} G)) ∗ (bigSep (Finset.range (32 * liveN (wd X 4 inb_S5_S1_4))) fun k => ((c : Thread nD τ).loc main_v0) ↦[TS 4 k]{fullShare} G)) (wd X 0 inb_S5_S1_0) (wd X 1 inb_S5_S1_1) (wd X 2 inb_S5_S1_2) (wd X 3 inb_S5_S1_3) (wd X 4 inb_S5_S1_4) _ _ (fun k => t20_body_eq arg0 h0 _ _ _ _ _ _ k))) $$ [HS HO]
  · isplitl [HS]; iexact HS
    iexact HO
  iintro %_ ⟨HL, HRs, HRv, HO⟩
  iapply (wp_step c (loop_none c (drainRest (wd X 0 inb_S5_S1_0) (wd X 1 inb_S5_S1_1) (wd X 2 inb_S5_S1_2) (wd X 3 inb_S5_S1_3) (wd X 4 inb_S5_S1_4)) _ (drainRest_trips (wd X 0 inb_S5_S1_0) (wd X 1 inb_S5_S1_1) (wd X 2 inb_S5_S1_2) (wd X 3 inb_S5_S1_3) (wd X 4 inb_S5_S1_4)) _ iprop(emp))) $$ []
  · iempintro
  iintro %_ -
  rw [wp_ret]
  imodintro
  icases HA with ⟨⟨⟨⟨⟨-, HZ0⟩, HZ1⟩, HZ2⟩, HZ3⟩, HZ4⟩
  icases HL with ⟨⟨⟨⟨⟨-, HL0⟩, HL1⟩, HL2⟩, HL3⟩, HL4⟩
  ihave HT0 := (tl_done c hR 0 inb_S5_S1_0) $$ [HZ0 HL0 HN0]
  · isplitl [HZ0]; iexact HZ0
    isplitl [HL0]; iexact HL0
    iexact HN0
  ihave HT1 := (tl_done c hR 1 inb_S5_S1_1) $$ [HZ1 HL1 HN1]
  · isplitl [HZ1]; iexact HZ1
    isplitl [HL1]; iexact HL1
    iexact HN1
  ihave HT2 := (tl_done c hR 2 inb_S5_S1_2) $$ [HZ2 HL2 HN2]
  · isplitl [HZ2]; iexact HZ2
    isplitl [HL2]; iexact HL2
    iexact HN2
  ihave HT3 := (tl_done c hR 3 inb_S5_S1_3) $$ [HZ3 HL3 HN3]
  · isplitl [HZ3]; iexact HZ3
    isplitl [HL3]; iexact HL3
    iexact HN3
  ihave HT4 := (tl_done c hR 4 inb_S5_S1_4) $$ [HZ4 HL4 HN4]
  · isplitl [HZ4]; iexact HZ4
    isplitl [HL4]; iexact HL4
    iexact HN4
  isplitl [HB]; iexact HB
  isplitl [HG]; iexact HG
  isplitl [HO]; iexact HO
  isplitl [Hg]; iexact Hg
  isplitl [H5]; iexact H5
  isplitl [H6]; iexact H6
  isplitl [H7]; iexact H7
  isplitl [Hzs]; iexact Hzs
  isplitl [HRs]; iexact HRs
  isplitl [HRv]; iexact HRv
  isplitl [HT0]; iexact HT0
  isplitl [HT1]; iexact HT1
  isplitl [HT2]; iexact HT2
  isplitl [HT3]; iexact HT3
  iexact HT4

end Cert.KernelIdeal.Hand
-- ==== Proof.Frame.lean ====
/-
  Hand-written, untrusted. The frame: the run ends, its arguments are unchanged, its result array is `resG` of them.
-/
module

public import proofs.«01_k».proof.Proof.Run
public import Idealize.ShloMosaic.Lib.Pipeline.FrameValue
public import proofs.«01_k».proof.Proof.Gen.KernelIdeal.Launch
public import proofs.«01_k».proof.Proof.Gen.KernelIdeal.Points
public import Idealize.ShloMosaic.Lib.Pipeline.FrameBody

@[expose] public section

noncomputable section

namespace Cert.KernelIdeal.Hand

open Cert.KernelIdeal Cert.KernelIdeal.Gen Cert.Hand
open Idealize.ShloMosaic Idealize.ShloMosaic.ValueIdx Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ
local notation "EC" => countersEmb (U := Pipeline.UD sig nD τ)

set_option maxRecDepth 65536

theorem wp_mono_wand (c : Dev nD) {α : Type} {p : Prog (TpuEff nD τ sig (Elt F) Λ₀ .tc) α} {P : sProp 𝕄} {Q' Q : α → sProp 𝕄} (h : P ⊢ wp frame (wpE (defs₀ (F := F)) Variants.none c none) Set.univ p Q') :
    P ⊢ iprop((∀ a, Q' a -∗ Q a) -∗ wp frame (wpE (defs₀ (F := F)) Variants.none c none) Set.univ p Q) := by
  iintro HP HK
  iapply (wp_last c h (R := iprop(∀ a, Q' a -∗ Q a)) fun a => ?_) $$ [HP HK]
  · iintro ⟨HQ, HK⟩
    ispecialize HK $$ %a
    iapply HK $$ HQ
  isplitl [HP]; iexact HP
  iexact HK

/-! ## The result's contents -/

/-- One entry of the result: what an expert of group size `v` leaves there. -/
def entry (v : BitVec 32) (pay : FVec F S128x256 .bf16 → FVec F S256x6144 .bf16 → FVec F S1x128x6144 .f32)
    (V : S5x4096x6144.Idx → Elt F .f32) (XT : S4096x256.Idx → Elt F .bf16) (DY : S256x6144.Idx → Elt F .bf16) (i : S5x4096x6144.Idx) : Elt F .f32 :=
  if v = 0#32 then k0_pay1 (F := F) (ix2 (⟨(i 1).val % 128, Nat.mod_lt _ (by decide)⟩ : Fin 128) (i 2))
  else if liveN v = 0 then V i
  else pay (((Memref.whole cc0_scratch5).access (Rect.unit (s := S4096x256) (offRows ((i 1).val / 128)) S128x256.size (offRows_inb (Nat.div_lt_of_lt_mul (i 1).isLt)))).read (Elt F) XT)
      (((Memref.whole cc0_scratch6).access (Rect.unit (s := S256x6144) ![0, 0] S256x6144.size inb_S256x6144_S256x6144_0_0)).read (Elt F) DY)
      (ix3 (⟨0, Nat.one_pos⟩ : Fin 1) (⟨(i 1).val % 128, Nat.mod_lt _ (by decide)⟩ : Fin 128) (i 2))

/-- The result's contents after the run, from the group sizes, the contents found, and the scaled operands. -/
def resG (X : S5.Idx → BitVec 32) (V : S5x4096x6144.Idx → Elt F .f32) (XT : S4096x256.Idx → Elt F .bf16) (DY : S256x6144.Idx → Elt F .bf16) : S5x4096x6144.Idx → Elt F .f32 := fun i =>
  if (i 0).val = 0 then entry (wd X 0 inb_S5_S1_0) (fun a b => k0_pay10 (F := F) (end1 (wd X 0 inb_S5_S1_0)) (iota .tc S128x256 32 [1] iota_S128x256_d1_w32) 0#32 a b) V XT DY i
  else if (i 0).val = 1 then entry (wd X 1 inb_S5_S1_1) (fun a b => k0_pay12 (F := F) (end1 (wd X 0 inb_S5_S1_0)) (end2 (wd X 0 inb_S5_S1_0) (wd X 1 inb_S5_S1_1)) (iota .tc S128x256 32 [1] iota_S128x256_d1_w32) a b) V XT DY i
  else if (i 0).val = 2 then entry (wd X 2 inb_S5_S1_2) (fun a b => k0_pay14 (F := F) (end2 (wd X 0 inb_S5_S1_0) (wd X 1 inb_S5_S1_1)) (end3 (wd X 0 inb_S5_S1_0) (wd X 1 inb_S5_S1_1) (wd X 2 inb_S5_S1_2)) (iota .tc S128x256 32 [1] iota_S128x256_d1_w32) a b) V XT DY i
  else if (i 0).val = 3 then entry (wd X 3 inb_S5_S1_3) (fun a b => k0_pay16 (F := F) (end3 (wd X 0 inb_S5_S1_0) (wd X 1 inb_S5_S1_1) (wd X 2 inb_S5_S1_2)) (end4 (wd X 0 inb_S5_S1_0) (wd X 1 inb_S5_S1_1) (wd X 2 inb_S5_S1_2) (wd X 3 inb_S5_S1_3)) (iota .tc S128x256 32 [1] iota_S128x256_d1_w32) a b) V XT DY i
  else entry (wd X 4 inb_S5_S1_4) (fun a b => k0_pay18 (F := F) (end4 (wd X 0 inb_S5_S1_0) (wd X 1 inb_S5_S1_1) (wd X 2 inb_S5_S1_2) (wd X 3 inb_S5_S1_3)) (end5 (wd X 0 inb_S5_S1_0) (wd X 1 inb_S5_S1_1) (wd X 2 inb_S5_S1_2) (wd X 3 inb_S5_S1_3) (wd X 4 inb_S5_S1_4)) (iota .tc S128x256 32 [1] iota_S128x256_d1_w32) a b) V XT DY i

theorem mem_TS {e k : ℕ} {i : S5x4096x6144.Idx} : i ∈ TS e k ↔ (i 0).val = e ∧ 128 * k ≤ (i 1).val ∧ (i 1).val < 128 * k + 128 := by
  simp only [TS, Finset.mem_filter, Finset.mem_univ, _root_.true_and]

theorem ix2_at {i : S5x4096x6144.Idx} {k : ℕ} {x : Fin 128} {y : Fin 6144} (hx : (i 1).val = 128 * k + x.val) (hy : (i 2).val = y.val) :
    (⟨(i 1).val % 128, Nat.mod_lt _ (by decide)⟩ : Fin 128) = x ∧ i 2 = y := by
  refine ⟨Fin.ext ?_, Fin.ext hy⟩
  show (i 1).val % 128 = x.val
  have := x.isLt; omega

theorem entry_zero {v : BitVec 32} (hv : v = 0#32) (pay) (V : S5x4096x6144.Idx → Elt F .f32) (XT : S4096x256.Idx → Elt F .bf16) (DY : S256x6144.Idx → Elt F .bf16) {i : S5x4096x6144.Idx}
    {k : ℕ} {x : Fin 128} {y : Fin 6144} (hx : (i 1).val = 128 * k + x.val) (hy : (i 2).val = y.val) :
    entry v pay V XT DY i = k0_pay1 (F := F) (ix2 x y) := by
  unfold entry
  rw [if_pos hv, (ix2_at hx hy).1, (ix2_at hx hy).2]

theorem live_ne {v : BitVec 32} (h : liveN v = 1) : v ≠ 0#32 := by
  rintro rfl
  have := (liveN_pos_iff 0#32).1 h
  exact absurd this (by decide)

theorem entry_neg {v : BitVec 32} (hz : zeroN v = 0) (hl : liveN v = 0) (pay) (V : S5x4096x6144.Idx → Elt F .f32) (XT : S4096x256.Idx → Elt F .bf16) (DY : S256x6144.Idx → Elt F .bf16) (i : S5x4096x6144.Idx) :
    entry v pay V XT DY i = V i := by
  unfold entry
  rw [if_neg (by rintro rfl; exact absurd hz (by decide)), if_pos hl]

theorem entry_live {v : BitVec 32} (hl : liveN v = 1) (pay) (V : S5x4096x6144.Idx → Elt F .f32) (XT : S4096x256.Idx → Elt F .bf16) (DY : S256x6144.Idx → Elt F .bf16) {i : S5x4096x6144.Idx}
    {k : ℕ} {x : Fin 128} {y : Fin 6144} (hx : (i 1).val = 128 * k + x.val) (hy : (i 2).val = y.val) (hR : ∀ a, offRows k a + S128x256.size a ≤ S4096x256.size a) :
    entry v pay V XT DY i = pay (((Memref.whole cc0_scratch5).access (Rect.unit (s := S4096x256) (offRows k) S128x256.size hR)).read (Elt F) XT)
      (((Memref.whole cc0_scratch6).access (Rect.unit (s := S256x6144) ![0, 0] S256x6144.size inb_S256x6144_S256x6144_0_0)).read (Elt F) DY) (ix3 (⟨0, Nat.one_pos⟩ : Fin 1) x y) := by
  have hk : (i 1).val / 128 = k := by have := x.isLt; omega
  unfold entry
  rw [if_neg (live_ne hl), if_neg (by omega), (ix2_at hx hy).1, (ix2_at hx hy).2]
  subst hk
  rfl

theorem resG_res (X : S5.Idx → BitVec 32) (V : S5x4096x6144.Idx → Elt F .f32) (XT : S4096x256.Idx → Elt F .bf16) (DY : S256x6144.Idx → Elt F .bf16) :
    Res X V (resG X V XT DY) XT DY where
  z := fun e h hz k hk i hi x y hx hy => by
    have he := (mem_TS.1 hi).1
    have h5 : e < 5 := by have := h 0; have : e + 1 ≤ 5 := this; omega
    unfold resG
    rw [he]
    rcases (by omega : e = 0 ∨ e = 1 ∨ e = 2 ∨ e = 3 ∨ e = 4) with rfl | rfl | rfl | rfl | rfl <;> exact entry_zero hz _ V XT DY hx hy
  n := fun e h hz hl k hk i hi => by
    have he := (mem_TS.1 hi).1
    have h5 : e < 5 := by have := h 0; have : e + 1 ≤ 5 := this; omega
    unfold resG
    rw [he]
    rcases (by omega : e = 0 ∨ e = 1 ∨ e = 2 ∨ e = 3 ∨ e = 4) with rfl | rfl | rfl | rfl | rfl <;> exact entry_neg hz hl _ V XT DY i
  l0 := fun k hk hR i hi x y hx hy => by
    have hl : liveN (wd X 0 inb_S5_S1_0) = 1 := by have := liveN_le (wd X 0 inb_S5_S1_0); omega
    unfold resG
    rw [(mem_TS.1 hi).1]
    exact entry_live hl _ V XT DY hx hy hR
  l1 := fun k hk hR i hi x y hx hy => by
    have hl : liveN (wd X 1 inb_S5_S1_1) = 1 := by have := liveN_le (wd X 1 inb_S5_S1_1); omega
    unfold resG
    rw [(mem_TS.1 hi).1]
    exact entry_live hl _ V XT DY hx hy hR
  l2 := fun k hk hR i hi x y hx hy => by
    have hl : liveN (wd X 2 inb_S5_S1_2) = 1 := by have := liveN_le (wd X 2 inb_S5_S1_2); omega
    unfold resG
    rw [(mem_TS.1 hi).1]
    exact entry_live hl _ V XT DY hx hy hR
  l3 := fun k hk hR i hi x y hx hy => by
    have hl : liveN (wd X 3 inb_S5_S1_3) = 1 := by have := liveN_le (wd X 3 inb_S5_S1_3); omega
    unfold resG
    rw [(mem_TS.1 hi).1]
    exact entry_live hl _ V XT DY hx hy hR
  l4 := fun k hk hR i hi x y hx hy => by
    have hl : liveN (wd X 4 inb_S5_S1_4) = 1 := by have := liveN_le (wd X 4 inb_S5_S1_4); omega
    unfold resG
    rw [(mem_TS.1 hi).1]
    exact entry_live hl _ V XT DY hx hy hR

/-! ## The result array as its tiles -/

def ES (e : ℕ) : Finset S5x4096x6144.Idx := (Finset.Ico 0 32).biUnion (TS e)

theorem mem_ES {e : ℕ} {i : S5x4096x6144.Idx} : i ∈ ES e ↔ (i 0).val = e := by
  unfold ES
  rw [Finset.mem_biUnion]
  constructor
  · rintro ⟨k, -, h⟩; exact (mem_TS.1 h).1
  · intro h
    have h1 : (i 1).val < 4096 := (i 1).isLt
    exact ⟨(i 1).val / 128, Finset.mem_Ico.2 ⟨Nat.zero_le _, by omega⟩, mem_TS.2 ⟨h, by omega, by omega⟩⟩

theorem tl_whole (c : Dev nD) (e : ℕ) (f : S5x4096x6144.Idx → Elt F .f32) : (Tl c e 0 32 f : sProp 𝕄) = (((c : Thread nD τ).loc main_v0) ↦[ES e]{fullShare} f) := by
  unfold Tl ES
  refine (pointsTo_biUnion (ℓ := ((c : Thread nD τ).loc main_v0)) (Finset.Ico 0 32) (TS e) fun k _ k' _ hne => ?_).symm
  refine Finset.disjoint_left.2 fun i hi hi' => hne ?_
  have h1 := mem_TS.1 hi; have h2 := mem_TS.1 hi'
  omega

theorem res_tiles (c : Dev nD) (f : S5x4096x6144.Idx → Elt F .f32) :
    ((((c : Thread nD τ).loc main_v0) ↦{fullShare} f) : sProp 𝕄) = iprop(Tl c 0 0 32 f ∗ Tl c 1 0 32 f ∗ Tl c 2 0 32 f ∗ Tl c 3 0 32 f ∗ Tl c 4 0 32 f) := by
  have h := (pointsTo_biUnion (ℓ := ((c : Thread nD τ).loc main_v0)) (q := fullShare) (f := f) Finset.univ (fun t : Fin 5 => ES t.val) (fun t _ t' _ hne =>
    Finset.disjoint_left.2 fun i hi hi' => hne (Fin.ext ((mem_ES.1 hi).symm.trans (mem_ES.1 hi')))) : (_ : sProp 𝕄) = _)
  rw [show (Finset.univ : Finset (Fin 5)).biUnion (fun t => ES t.val) = Finset.univ from
    Finset.eq_univ_of_forall fun i => Finset.mem_biUnion.2 ⟨⟨(i 0).val, (i 0).isLt⟩, Finset.mem_univ _, mem_ES.2 rfl⟩] at h
  refine h.trans ?_
  rw [BI.bigSep_eq_bigSepL_of_eq [0, 1, 2, 3, 4] (by decide) (by decide), tl_whole, tl_whole, tl_whole, tl_whole, tl_whole]
  rfl

/-! ## The semaphores -/

theorem isem_vals : isem 0 inb_S4_S1_0 = (1 : Fin 14) ∧ isem 1 inb_S4_S1_1 = (2 : Fin 14) ∧ isem 2 inb_S4_S1_2 = (3 : Fin 14) ∧ isem 3 inb_S4_S1_3 = (4 : Fin 14) ∧ zsem = (5 : Fin 14) := by
  refine ⟨?_, ?_, ?_, ?_, ?_⟩ <;> decide

abbrev osem0 : Fin 13 → SemLoc sig := fun j => (![SemLoc.dma (isem 0 inb_S4_S1_0), SemLoc.dma (isem 1 inb_S4_S1_1), SemLoc.dma (isem 2 inb_S4_S1_2), SemLoc.dma (isem 3 inb_S4_S1_3), SemLoc.dma zsem,
  SemLoc.dma (rsem 0), SemLoc.dma (rsem 1), SemLoc.dma (rsem 2), SemLoc.dma (rsem 3), SemLoc.dma (rsem 4), SemLoc.dma (rsem 5), SemLoc.dma (rsem 6), SemLoc.dma (rsem 7)] : Fin 13 → SemLoc sig) j
theorem ownSemFacts0 : Pipeline.OwnSemFacts spec0 osem0 := by decide

def sv (c : Dev nD) (s : DmaSem sig) : sProp 𝕄 := semVal ((c : Thread nD τ), SemLoc.dma s) 0

theorem ownSems00_eq (c : Dev nD) :
    (Pipeline.ownSems0 (Ix := Unit) (Name := ℕ) (U := Pipeline.UD sig nD τ) (Lvl := ℕ) (Val := Elt F) (τ := τ) osem0 c : sProp 𝕄)
      = iprop(sv c (isem 0 inb_S4_S1_0) ∗ sv c (isem 1 inb_S4_S1_1) ∗ sv c (isem 2 inb_S4_S1_2) ∗ sv c (isem 3 inb_S4_S1_3) ∗ sv c zsem
        ∗ bigSep Finset.univ fun s : Fin 8 => sv c (rsem s)) := by
  rw [Pipeline.ownSems0_eq_of_list c osem0 [0, 1, 2, 3, 4, 5, 6, 7, 8, 9, 10, 11, 12] (by decide) (by decide),
    BI.bigSep_eq_bigSepL_of_eq (S := (Finset.univ : Finset (Fin 8))) [0, 1, 2, 3, 4, 5, 6, 7] (by decide) (by decide)]; rfl

/-! ## The launch -/

variable (m : (ℓ : Loc nD τ sig) → Buf (Elt F) ℓ) (ρ : Dev nD → PrngReg)

/-- The array the body writes itself. -/
def R0 : Finset (Ref sig .tc) := {main_v0}
/-- The arrays the body's copies read. -/
def H0 : Finset (Ref sig .tc) := {main_arg0, main_arg1, main_arg2, main_arg3}
theorem H0_sub : H0 ⊆ Pipeline.restRefs sig spec0 := by decide
theorem R0_sub : R0 ⊆ Pipeline.restRefs sig spec0 \ H0 := by decide

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

theorem hbmPts0_eq (c : Dev nD) :
    (bigSep H0 (fun b => ((c : Thread nD τ).loc b) ↦{fullShare} V m c b) : sProp 𝕄)
      = iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3)) := by
  rw [BI.bigSep_eq_bigSepL_of_eq [main_arg0, main_arg1, main_arg2, main_arg3] (by decide) (by decide)]; rfl

/-- The group sizes, as the body finds them staged. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def sizes (c : Dev nD) : S5.Idx → BitVec 32 := iblk m c 0 t0_0

/-- The result array's contents after the run. -/
def result (c : Dev nD) : S5x4096x6144.Idx → Elt F .f32 :=
  resG (sizes m c) (V m c main_v0) (xAll (V m c main_arg0) (V m c main_arg1) (gidAll (sizes m c))) (yAll (V m c main_arg2) (V m c main_arg3) (gidAll (sizes m c)))

def VG (c : Dev nD) (b : Ref sig .tc) : Buf (Elt F) ((c : Thread nD τ).loc b) := Function.update (V m c) main_v0 (result m c) b

theorem VG_out (c : Dev nD) : VG m c main_v0 = result m c := by unfold VG; exact Function.update_self ..

theorem routed_eq (c : Dev nD) (W : (b : Ref sig .tc) → Buf (Elt F) ((c : Thread nD τ).loc b)) :
    (Pipeline.routed R0 c W : sProp 𝕄) = (((c : Thread nD τ).loc main_v0) ↦{fullShare} W main_v0) := by
  unfold Pipeline.routed R0
  rw [BI.bigSep_eq_bigSepL_of_eq [main_v0] (by decide) (by decide)]
  rfl

def scr (c : Dev nD) (b : Ref sig .tc) : sProp 𝕄 := iprop(∃ f : Buf (Elt F) ((c : Thread nD τ).loc b), ((c : Thread nD τ).loc b) ↦{fullShare} f)

theorem Phi_eq (c : Dev nD) (G : (c : Dev nD) → (b : Ref sig .tc) → Buf (Elt F) ((c : Thread nD τ).loc b)) :
    (Pipeline.ΦDRG osem0 spec0 H0 R0 (V m) G c : sProp 𝕄)
      = iprop((scr c cc0_scratch0 ∗ scr c cc0_scratch1 ∗ scr c cc0_scratch2 ∗ scr c cc0_scratch3 ∗ scr c cc0_scratch4 ∗ scr c cc0_scratch5 ∗ scr c cc0_scratch6 ∗ scr c cc0_scratch7 ∗ scr c cc0_scratch8) ∗ (∃ r, prngReg c r)
        ∗ (sv c (isem 0 inb_S4_S1_0) ∗ sv c (isem 1 inb_S4_S1_1) ∗ sv c (isem 2 inb_S4_S1_2) ∗ sv c (isem 3 inb_S4_S1_3) ∗ sv c zsem ∗ bigSep Finset.univ fun s : Fin 8 => sv c (rsem s))
        ∗ ((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3))
        ∗ (((c : Thread nD τ).loc main_v0) ↦{fullShare} G c main_v0)) := by
  rw [Pipeline.ΦDRG_eq, scopedRest0_eq, ownSems00_eq, hbmPts0_eq, routed_eq]; rfl

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRG osem0 spec0 H0 R0 (V m) (if t.val = 0 then V m else VG m) c
  q _ := fullShare
  owed _ := 0

theorem A_eq (c : Dev nD) (w : Fin cfg0.W) : (dats m 0 c).A w = V m c (Pipeline.arrRef spec0 w) := by
  dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl

theorem Phi_first (c : Dev nD) : (dats m 0 c).Φ t0_0.castSucc = Pipeline.ΦDRG osem0 spec0 H0 R0 (V m) (V m) c := rfl
theorem Phi_last (c : Dev nD) : (dats m 0 c).Φ t0_0.succ = Pipeline.ΦDRG osem0 spec0 H0 R0 (V m) (VG m) c := rfl

abbrev ms0_0 (t : Fin cfg0.N) : Memref sig .tc .smem S5 .i32 := win0_0.stage (cfg0.slots t 0)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 800000 in
theorem sound_body (c : Dev nD) :
    bodyPre m c t0_0 ⊢ wp frame (wpE (defs₀ (F := F)) Variants.none c none) Set.univ (bodyAt0 t0_0) (fun _ => bodyPost m c t0_0) := by
  unfold bodyPre bodyPost
  rw [Phi_first, Phi_last, Phi_eq, Phi_eq, VG_out, res_tiles, res_tiles]
  unfold Dat.owesAt Pipeline.owesWithin scr sv
  rw [show (dats m 0 c).owed t0_0.castSucc = 0 from rfl, show (dats m 0 c).owed t0_0.succ = 0 from rfl]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩⟩, Hg, ⟨Hi0, Hi1, Hi2, Hi3, Hz, Hr⟩, ⟨Ha0, Ha1, Ha2, Ha3⟩, ⟨HT0, HT1, HT2, HT3, HT4⟩⟩, ⟨%W, -, HW⟩, ⟨%d0, H0⟩⟩
  rw [before0_0]
  ihave HR := (ring_split c s8) $$ HS8
  iapply (wp_mono_wand c (kernel_spec c (ms0_0 t0_0) (hstage0_0 0) (sizes m c) (V m c main_v0) (result m c) (V m c main_arg0) (V m c main_arg1) (V m c main_arg2) (V m c main_arg3)
    (resG_res _ _ _ _) s0 s1 s2 s3 s7 s4 s5 s6)) $$ [HS0 HS1 HS2 HS3 HS4 HS5 HS6 HS7 HR Hi0 Hi1 Hi2 Hi3 Hz Hr Ha0 Ha1 Ha2 Ha3 HT0 HT1 HT2 HT3 HT4 HW H0]
  · isplitl [HS0 HS1 HS2 HS3 HS7 Hi0 Hi1 Hi2 Hi3 Ha0 Ha1 Ha2 Ha3]
    · isplitl [Ha0]; iexact Ha0
      isplitl [HS0]; iexact HS0
      isplitl [Hi0]; iexact Hi0
      isplitl [Ha1]; iexact Ha1
      isplitl [HS1]; iexact HS1
      isplitl [Hi1]; iexact Hi1
      isplitl [Ha2]; iexact Ha2
      isplitl [HS2]; iexact HS2
      isplitl [Hi2]; iexact Hi2
      isplitl [Ha3]; iexact Ha3
      isplitl [HS3]; iexact HS3
      isplitl [Hi3]; iexact Hi3
      iexact HS7
    isplitl [Hz]; iexact Hz
    isplitl [H0]; iexact H0
    isplitl [HW]; unfold Owes; iexists W; iexact HW
    isplitl [HS4]; iexact HS4
    isplitl [HS5]; iexact HS5
    isplitl [HS6]; iexact HS6
    isplitl [HR]; iexact HR
    isplitl [Hr]; iexact Hr
    isplitl [HT0]; iexact HT0
    isplitl [HT1]; iexact HT1
    isplitl [HT2]; iexact HT2
    isplitl [HT3]; iexact HT3
    iexact HT4
  iintro %_ ⟨⟨Ha0, HS0, Hi0, Ha1, HS1, Hi1, Ha2, HS2, Hi2, Ha3, HS3, Hi3⟩, H0, HW, HS4, HS5, HS6, HS7, Hz, HR, Hr, HT0, HT1, HT2, HT3, HT4⟩
  unfold Owes
  icases HW with ⟨%W', HW⟩
  ihave HS8 := (ring_join c) $$ HR
  isplitr [HW H0]
  · isplitl [HS0 HS1 HS2 HS3 HS4 HS5 HS6 HS7 HS8]
    · isplitl [HS0]; iexists _; iexact HS0
      isplitl [HS1]; iexists _; iexact HS1
      isplitl [HS2]; iexists _; iexact HS2
      isplitl [HS3]; iexists _; iexact HS3
      isplitl [HS4]; iexists _; iexact HS4
      isplitl [HS5]; iexists _; iexact HS5
      isplitl [HS6]; iexists _; iexact HS6
      isplitl [HS7]; iexists _; iexact HS7
      iexact HS8
    isplitl [Hg]; iexact Hg
    isplitl [Hi0 Hi1 Hi2 Hi3 Hz Hr]
    · isplitl [Hi0]; iexact Hi0
      isplitl [Hi1]; iexact Hi1
      isplitl [Hi2]; iexact Hi2
      isplitl [Hi3]; iexact Hi3
      isplitl [Hz]; iexact Hz
      iexact Hr
    isplitl [Ha0 Ha1 Ha2 Ha3]
    · isplitl [Ha0]; iexact Ha0
      isplitl [Ha1]; iexact Ha1
      isplitl [Ha2]; iexact Ha2
      iexact Ha3
    isplitl [HT0]; iexact HT0
    isplitl [HT1]; iexact HT1
    isplitl [HT2]; iexact HT2
    isplitl [HT3]; iexact HT3
    iexact HT4
  isplitl [HW]
  · iexists W'; isplitr; ipureintro; exact fun _ _ => Or.inl trivial
    iexact HW
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  obtain rfl := fin_N0 t
  exact triple_restated (sound_body m c) rfl .rfl fun _ => .rfl

set_option backward.isDefEq.respectTransparency.types false in
theorem run_main : θ_run defs (onTc (τ := τ) (main (F := F))) (s₀ m ρ) (fun r => Pipeline.FramePostRG cfgs (dats m) 0 R0 (V m) (VG m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := VG m)
    (hin := fun _ => .rfl) (hout := fun _ => .rfl)

/-- The run: it ends, the arguments are unchanged, the result array holds `result`, and every counter is zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v0) = result m c)
      ∧ r.2.sem = fun _ => 0) :=
  (θ_run defs _ _).mono (fun _ h => ⟨fun c => ⟨⟨((h.1.toR c).2 main_arg0 (Finset.mem_sdiff.mpr ⟨Pipeline.mem_restRefs_of main_arg0 (by decide) (by decide), by decide⟩)),
      ((h.1.toR c).2 main_arg1 (Finset.mem_sdiff.mpr ⟨Pipeline.mem_restRefs_of main_arg1 (by decide) (by decide), by decide⟩)),
      ((h.1.toR c).2 main_arg2 (Finset.mem_sdiff.mpr ⟨Pipeline.mem_restRefs_of main_arg2 (by decide) (by decide), by decide⟩)),
      ((h.1.toR c).2 main_arg3 (Finset.mem_sdiff.mpr ⟨Pipeline.mem_restRefs_of main_arg3 (by decide) (by decide), by decide⟩)),
      ((h.1.toR c).1 0).trans (((dats m 0 c).arrAt_in 0 rfl _).trans (A_eq m c 0))⟩,
      (h.1.written c (by decide)).trans (VG_out m c)⟩, h.2⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).1, h.2⟩) (run m ρ)

end Cert.KernelIdeal.Hand
-- ==== Proof.Twin.lean ====
/-
  Hand-written, untrusted. The kernel and its ideal reading are the same text: what is proved of the one, at any float
  instance, holds of the other.
-/
module

public import proofs.«01_k».proof.Proof.Frame
public import proofs.«01_k».proof.Proof.Gen.Kernel.Launch

@[expose] public section

set_option maxRecDepth 65536
set_option maxHeartbeats 4000000

noncomputable section

namespace Cert.Kernel.Hand

open Cert.Kernel Cert.Kernel.Gen
open Idealize.ShloMosaic Idealize.ShloMosaic.TcCoe Idealize.SL.Sem

variable {F : FTy → Type} [FloatOps F]

theorem tw_body : @Cert.KernelIdeal.cc0_grouped_fp8_wgrad F _ Cert.KernelIdeal.Gen.facts = @Cert.Kernel.cc0_grouped_fp8_wgrad F _ Cert.Kernel.Gen.facts := rfl
theorem tw_p : @Cert.KernelIdeal.pcfgs F Cert.KernelIdeal.Gen.facts = @Cert.Kernel.pcfgs F Cert.Kernel.Gen.facts := rfl
theorem tw_defs₀ : @Cert.KernelIdeal.defs₀ F _ Cert.KernelIdeal.Gen.facts = @Cert.Kernel.defs₀ F _ Cert.Kernel.Gen.facts := by
  unfold Cert.KernelIdeal.defs₀ Cert.Kernel.defs₀
  refine congrArg Defs.onTc (funext fun l => funext fun a => ?_)
  match l, a with
  | 0, (t, s) => rfl
theorem tw_defs : @Cert.KernelIdeal.defs F _ Cert.KernelIdeal.Gen.facts = @Cert.Kernel.defs F _ Cert.Kernel.Gen.facts := by
  unfold Cert.KernelIdeal.defs Cert.Kernel.defs
  exact congrArg (Pipeline.defs Cert.Kernel.pcfgs) tw_defs₀
theorem tw_main : @Cert.KernelIdeal.main F _ = @Cert.Kernel.main F _ := rfl

/-- The kernel's frame, from the ideal text's. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [← tw_defs, ← tw_main]
  exact Cert.KernelIdeal.Hand.frame m ρ

end Cert.Kernel.Hand
-- ==== Proof.Spec.lean ====
/-
  Hand-written, untrusted. The group sizes as naturals: where each expert's rows begin, how many 128-row groups precede them, and which expert a row belongs to.
-/
module

public import Idealize.ShloMosaic.Lib.Routing.Words
public import Idealize.ShloMosaic.Lib.Routing.OpsSearch

@[expose] public section

namespace Cert.Hand

/-- The sum of the first `k` values of `a`. -/
def psum (a : ℕ → ℕ) (k : ℕ) : ℕ := ((List.range k).map a).sum

theorem psum_zero (a : ℕ → ℕ) : psum a 0 = 0 := rfl

theorem psum_succ (a : ℕ → ℕ) (k : ℕ) : psum a (k + 1) = psum a k + a k := by
  unfold psum; rw [List.range_succ, List.map_append, List.sum_append]; simp

/-- The number of 128-row groups of expert `e`. -/
def gcnt (a : ℕ → ℕ) (e : ℕ) : ℕ := (a e + 127) / 128

/-- The expert of row `n`: how many experts' rows end at or before it. -/
def expN (a : ℕ → ℕ) (n : ℕ) : ℕ := Nat.count (fun j => psum a (j + 1) ≤ n) 5

/-- The 128-row group of row `n` among the groups of all experts, if the row belongs to expert `e`. -/
def gidN (a : ℕ → ℕ) (e n : ℕ) : ℕ := psum (gcnt a) e + (n - psum a e) / 128

theorem expN_le (a : ℕ → ℕ) (n : ℕ) : expN a n ≤ 5 := Nat.count_le _

/-- Row `n` belongs to expert `e` exactly when it lies between the expert's first row and the next expert's. -/
theorem expN_eq_iff (a : ℕ → ℕ) (n e : ℕ) (he : e < 5) : expN a n = e ↔ psum a e ≤ n ∧ n < psum a (e + 1) := by
  have h0 := psum_zero a
  have h1 := psum_succ a 0
  have h2 := psum_succ a 1
  have h3 := psum_succ a 2
  have h4 := psum_succ a 3
  have h5 := psum_succ a 4
  simp only [expN, Nat.count_succ, Nat.count_zero, Nat.zero_add] at *
  interval_cases e <;> simp only [Nat.zero_add, Nat.reduceAdd] at * <;> (repeat' split) <;> omega

/-- Under at most four groups in all, a row's group is one of them. -/
theorem gidN_lt (a : ℕ → ℕ) (n e : ℕ) (he : e < 5) (h4 : psum (gcnt a) 5 ≤ 4) (hn : psum a e ≤ n ∧ n < psum a (e + 1)) : gidN a e n < 4 := by
  have h1 := psum_succ (gcnt a) 0
  have h2 := psum_succ (gcnt a) 1
  have h3 := psum_succ (gcnt a) 2
  have h4' := psum_succ (gcnt a) 3
  have h5 := psum_succ (gcnt a) 4
  have ha := psum_succ a e
  have hq : (n - psum a e) / 128 < gcnt a e := by unfold gcnt; omega
  unfold gidN
  interval_cases e <;> simp only [Nat.zero_add, Nat.reduceAdd] at * <;> omega

theorem psum_le (a : ℕ → ℕ) (ha : ∀ e < 5, a e ≤ 512) (k : ℕ) (hk : k ≤ 5) : psum a k ≤ 2560 := by
  have h0 := psum_zero a
  have h1 := psum_succ a 0
  have h2 := psum_succ a 1
  have h3 := psum_succ a 2
  have h4 := psum_succ a 3
  have h5 := psum_succ a 4
  have := ha 0 (by omega); have := ha 1 (by omega); have := ha 2 (by omega); have := ha 3 (by omega); have := ha 4 (by omega)
  interval_cases k <;> simp only [Nat.zero_add, Nat.reduceAdd] at * <;> omega

theorem gcnt_le (a : ℕ → ℕ) (ha : ∀ e < 5, a e ≤ 512) (e : ℕ) (he : e < 5) : gcnt a e ≤ 512 := by
  have := ha e he; unfold gcnt; omega

theorem psum_congr {a b : ℕ → ℕ} (k : ℕ) (h : ∀ e < k, a e = b e) : psum a k = psum b k :=
  congrArg List.sum (List.map_congr_left fun e he => h e (List.mem_range.1 he))

end Cert.Hand
-- ==== Proof.Pre.lean ====
/-
  Hand-written, untrusted. What the precondition says of the group sizes, at the naturals.
-/
module

public import proofs.«01_k».proof.Pre_sizes_in_range
public import proofs.«01_k».proof.Proof.Spec
public import Idealize.ShloMosaic.Lib.Pipeline.ValueKit

@[expose] public section

set_option maxRecDepth 65536

noncomputable section

namespace Cert.Pre_sizes_in_range.Hand

open Cert.Pre_sizes_in_range Cert.Hand
open Idealize.ShloMosaic hiding ix0 ix1 ix2 ix3
open Idealize.ShloMosaic.ValueIdx Idealize.ShloMosaic.Routing Idealize.ShloMosaic.WordCmp

instance facts : Facts where
  bcast_S_S5 := by decide
  reducesTo_S5_S_d0 := by decide
  h_S_ := by decide

/-- A word that is not negative is below half the range. -/
theorem nonneg (w : BitVec 32) (h : IntOp.cmpi .sge w 0#32 = 1#1) : w.toNat < 2 ^ 31 := by
  have h' : BitVec.ofBool ((0#32).sle w) = 1#1 := h
  have h2 : (0#32).sle w = true := by cases hc : (0#32).sle w <;> simp_all
  rw [BitVec.sle_iff_toInt_le, BitVec.toInt_eq_toNat_cond (x := w)] at h2
  have hz : (0#32 : BitVec 32).toInt = 0 := rfl
  rw [hz] at h2
  have := w.isLt
  split at h2 <;> omega

/-- A signed comparison of small words is the comparison of the naturals. -/
theorem toNat_le (w : BitVec 32) (k : ℕ) (hk : k < 2 ^ 31) (hw : w.toNat < 2 ^ 31) (h : IntOp.cmpi .sle w (BitVec.ofNat 32 k) = 1#1) : w.toNat ≤ k := by
  have h' : BitVec.ofBool (w.sle (BitVec.ofNat 32 k)) = 1#1 := h
  have h2 : w.sle (BitVec.ofNat 32 k) = true := by cases hc : w.sle (BitVec.ofNat 32 k) <;> simp_all
  rw [BitVec.sle_iff_toInt_le, BitVec.toInt_eq_toNat_of_lt (by omega), BitVec.toInt_eq_toNat_of_lt (by rw [BitVec.toNat_ofNat]; omega), BitVec.toNat_ofNat] at h2
  omega

/-- The groups of each size, as the precondition counts them. -/
theorem groups_at (g : IVec S5 32) (b : ℕ → ℕ) (hg : ∀ e : Fin 5, g (ix1 e) = BitVec.ofNat 32 (b e.val)) (hb : ∀ e < 5, b e ≤ 512) (e : Fin 5) :
    fn_floor_divide (F := Ideal) (subi (addi g (broadcastInDim S5 ![] Facts.bcast_S_S5 (constantI S_ 32 128#32))) (broadcastInDim S5 ![] Facts.bcast_S_S5 (constantI S_ 32 1#32))) (constantI S_ 32 128#32) (ix1 e)
      = BitVec.ofNat 32 (gcnt b e.val) := by
  have h := hb e.val e.isLt
  refine pyDiv_ap (a := b e.val + 127) (b := 128) Facts.bcast_S_S5 _ _ (ix1 e) ?_ rfl (by omega) (by decide) (by decide)
  show IntOp.subi (IntOp.addi (g (ix1 e)) 128#32) 1#32 = _
  rw [hg]
  have e1 : IntOp.addi (BitVec.ofNat 32 (b e.val)) 128#32 = BitVec.ofNat 32 (b e.val + 128) := (BitVec.ofNat_add ..).symm
  rw [e1]
  exact ofNat32_sub (by omega)

/-- The precondition at the naturals: every size is at most 512 and none negative, and there are at most four groups in all. -/
theorem decode (x0 : FVec Ideal S256x4096 .fp8e4m3) (x1 : FVec Ideal S4x4096 .f32) (x2 : FVec Ideal S256x6144 .fp8e4m3) (x3 : FVec Ideal S4x6144 .f32) (g : IVec S5 32)
    (h : fn (F := Ideal) x0 x1 x2 x3 g = fun _ => 1#1) :
    ∃ b : ℕ → ℕ, (∀ e : Fin 5, g (ix1 e) = BitVec.ofNat 32 (b e.val)) ∧ (∀ e < 5, b e ≤ 512) ∧ psum (gcnt b) 5 ≤ 4 := by
  let S : IVec S_ 32 := Host.reduce IntOp.addi (fn_floor_divide (F := Ideal) (subi (addi g (broadcastInDim S5 ![] Facts.bcast_S_S5 (constantI S_ 32 128#32))) (broadcastInDim S5 ![] Facts.bcast_S_S5 (constantI S_ 32 1#32))) (constantI S_ 32 128#32))
    (constantI S_ 32 0#32) Facts.reducesTo_S5_S_d0 Facts.h_S_
  have ht : ∀ e : Fin 5, IntOp.andi (IntOp.andi (IntOp.cmpi .sge (g (ix1 e)) 0#32) (IntOp.cmpi .sle (g (ix1 e)) 512#32)) (IntOp.cmpi .sle (S ix0) 4#32) = 1#1 := fun e => by
    refine Eq.trans ?_ (congrFun h (ix1 e))
    show _ = IntOp.andi (IntOp.andi (IntOp.cmpi .sge (g (ix1 e)) 0#32) (IntOp.cmpi .sle (g (ix1 e)) 512#32)) (IntOp.cmpi .sle (S _) 4#32)
    exact congrArg (fun z => IntOp.andi _ (IntOp.cmpi .sle (S z) 4#32)) (eq_ix0 _).symm
  have and1 : ∀ u v : BitVec 1, IntOp.andi u v = 1#1 → u = 1#1 ∧ v = 1#1 := by decide
  have hw := fun e => and1 _ _ (and1 _ _ (ht e)).1
  let b : ℕ → ℕ := fun e => if he : e < 5 then (g (ix1 (⟨e, he⟩ : Fin 5))).toNat else 0
  have hg : ∀ e : Fin 5, g (ix1 e) = BitVec.ofNat 32 (b e.val) := fun e => by
    show _ = BitVec.ofNat 32 (if he : e.val < 5 then (g (ix1 (⟨e.val, he⟩ : Fin 5))).toNat else 0)
    rw [dif_pos e.isLt]
    exact BitVec.eq_of_toNat_eq (by rw [BitVec.toNat_ofNat, Nat.mod_eq_of_lt (BitVec.isLt _)])
  have hb : ∀ e < 5, b e ≤ 512 := fun e he => by
    show (if he : e < 5 then (g (ix1 (⟨e, he⟩ : Fin 5))).toNat else 0) ≤ 512
    rw [dif_pos he]
    exact toNat_le (g (ix1 (⟨e, he⟩ : Fin 5))) 512 (by decide) (nonneg _ (hw _).1) (hw _).2
  refine ⟨b, hg, hb, ?_⟩
  have hS : S ix0 = BitVec.ofNat 32 (psum (gcnt b) 5) := reduce_sum (N := 5) _ (gcnt b) (fun e => groups_at g b hg hb e) _ _
  have h25 : psum (gcnt b) 5 ≤ 20 := by
    have hz := psum_zero (gcnt b)
    have q : ∀ e < 5, gcnt b e ≤ 4 := fun e he => by have := hb e he; unfold gcnt; omega
    have q0 := q 0 (by decide); have q1 := q 1 (by decide); have q2 := q 2 (by decide); have q3 := q 3 (by decide); have q4 := q 4 (by decide)
    have s0 : psum (gcnt b) 1 = _ := psum_succ (gcnt b) 0; have s1 : psum (gcnt b) 2 = _ := psum_succ (gcnt b) 1; have s2 : psum (gcnt b) 3 = _ := psum_succ (gcnt b) 2
    have s3 : psum (gcnt b) 4 = _ := psum_succ (gcnt b) 3; have s4 : psum (gcnt b) 5 = _ := psum_succ (gcnt b) 4
    omega
  have hl := (and1 _ _ (ht 0)).2
  rw [hS] at hl
  have := toNat_le _ 4 (by decide) (by rw [BitVec.toNat_ofNat]; omega) hl
  rw [BitVec.toNat_ofNat] at this
  omega

end Cert.Pre_sizes_in_range.Hand
-- ==== Proof.KerIdx.lean ====
/-
  Hand-written, untrusted. The kernel's index arithmetic at the naturals: the words of the running ends, each row's mask, and its scale row.
-/
module

public import proofs.«01_k».proof.Proof.Frame
public import proofs.«01_k».proof.Proof.Spec
public import Idealize.ShloMosaic.Lib.Pipeline.ValueKit

@[expose] public section

set_option maxRecDepth 65536

noncomputable section

namespace Cert.KernelIdeal.Hand

open Cert.KernelIdeal Cert.KernelIdeal.Gen Cert.Hand
open Idealize.ShloMosaic hiding ix0 ix1 ix2 ix3
open Idealize.ShloMosaic.ValueIdx Idealize.ShloMosaic.TcCoe Idealize.ShloMosaic.Routing Idealize.ShloMosaic.WordCmp Idealize.SL.Sem

theorem wd_eq (X : S5.Idx → BitVec 32) (i : ℕ) (hi : i < 5) (h : ∀ a, (![i] : Fin 1 → ℕ) a + S1.size a ≤ S5.size a) : wd X i h = X (ix1 (⟨i, hi⟩ : Fin 5)) := by
  unfold wd
  refine congrArg X (funext fun a => Fin.ext ?_)
  obtain rfl : a = 0 := Subsingleton.elim _ _
  rfl

section Words
variable (X : S5.Idx → BitVec 32) (a : ℕ → ℕ) (hX : ∀ e : Fin 5, X (ix1 e) = BitVec.ofNat 32 (a e.val))

theorem addW (x y : ℕ) : Scalar.addi (BitVec.ofNat 32 x) (BitVec.ofNat 32 y) = BitVec.ofNat 32 (x + y) := (BitVec.ofNat_add ..).symm

include hX in
theorem wd_nat (i : ℕ) (hi : i < 5) (h : ∀ a, (![i] : Fin 1 → ℕ) a + S1.size a ≤ S5.size a) : wd X i h = BitVec.ofNat 32 (a i) := by
  rw [wd_eq X i hi h, hX]

theorem end_nat1 : end1 (BitVec.ofNat 32 (a 0)) = BitVec.ofNat 32 (psum a 1) := by
  rw [end1, show (0#32 : BitVec 32) = BitVec.ofNat 32 (psum a 0) from rfl, addW, psum_succ]
theorem end_nat2 : end2 (BitVec.ofNat 32 (a 0)) (BitVec.ofNat 32 (a 1)) = BitVec.ofNat 32 (psum a 2) := by
  rw [end2, end_nat1 a, addW, psum_succ a 1]
theorem end_nat3 : end3 (BitVec.ofNat 32 (a 0)) (BitVec.ofNat 32 (a 1)) (BitVec.ofNat 32 (a 2)) = BitVec.ofNat 32 (psum a 3) := by
  rw [end3, end_nat2 a, addW, psum_succ a 2]
theorem end_nat4 : end4 (BitVec.ofNat 32 (a 0)) (BitVec.ofNat 32 (a 1)) (BitVec.ofNat 32 (a 2)) (BitVec.ofNat 32 (a 3)) = BitVec.ofNat 32 (psum a 4) := by
  rw [end4, end_nat3 a, addW, psum_succ a 3]
theorem end_nat5 : end5 (BitVec.ofNat 32 (a 0)) (BitVec.ofNat 32 (a 1)) (BitVec.ofNat 32 (a 2)) (BitVec.ofNat 32 (a 3)) (BitVec.ofNat 32 (a 4)) = BitVec.ofNat 32 (psum a 5) := by
  rw [end5, end_nat4 a, addW, psum_succ a 4]

theorem blk_nat (x : ℕ) (hx : x ≤ 512) : blk (BitVec.ofNat 32 x) = BitVec.ofNat 32 ((x + 127) / 128) := by
  rw [blk, show (127#32 : BitVec 32) = BitVec.ofNat 32 127 from rfl, addW]
  unfold Scalar.shrui IntOp.shrui
  rw [if_pos (by decide)]
  apply BitVec.eq_of_toNat_eq
  rw [BitVec.ushiftRight_eq', BitVec.toNat_ushiftRight, BitVec.toNat_ofNat, BitVec.toNat_ofNat, Nat.mod_eq_of_lt (by omega), Nat.mod_eq_of_lt (by omega)]
  show (x + 127) >>> 7 = _
  rw [Nat.shiftRight_eq_div_pow, BitVec.toNat_ofNat, Nat.mod_eq_of_lt (by omega)]

variable (ha : ∀ e < 5, a e ≤ 512)
include ha

theorem num_nat1 : num1 (BitVec.ofNat 32 (a 0)) = BitVec.ofNat 32 (psum (gcnt a) 1) := by
  rw [num1, blk_nat _ (ha 0 (by decide)), show (0#32 : BitVec 32) = BitVec.ofNat 32 (psum (gcnt a) 0) from rfl, addW, psum_succ]; rfl
theorem num_nat2 : num2 (BitVec.ofNat 32 (a 0)) (BitVec.ofNat 32 (a 1)) = BitVec.ofNat 32 (psum (gcnt a) 2) := by
  rw [num2, num_nat1 a ha, blk_nat _ (ha 1 (by decide)), addW, psum_succ _ 1]; rfl
theorem num_nat3 : num3 (BitVec.ofNat 32 (a 0)) (BitVec.ofNat 32 (a 1)) (BitVec.ofNat 32 (a 2)) = BitVec.ofNat 32 (psum (gcnt a) 3) := by
  rw [num3, num_nat2 a ha, blk_nat _ (ha 2 (by decide)), addW, psum_succ _ 2]; rfl
theorem num_nat4 : num4 (BitVec.ofNat 32 (a 0)) (BitVec.ofNat 32 (a 1)) (BitVec.ofNat 32 (a 2)) (BitVec.ofNat 32 (a 3)) = BitVec.ofNat 32 (psum (gcnt a) 4) := by
  rw [num4, num_nat3 a ha, blk_nat _ (ha 3 (by decide)), addW, psum_succ _ 3]; rfl

end Words

/-- A row number between two words. -/
theorem segW (lo hi n : ℕ) (hl : lo < 2 ^ 31) (hh : hi < 2 ^ 31) (hn : n < 2 ^ 31) :
    IntOp.andi (IntOp.cmpi .sge (BitVec.ofNat 32 n) (BitVec.ofNat 32 lo)) (IntOp.cmpi .slt (BitVec.ofNat 32 n) (BitVec.ofNat 32 hi))
      = BitVec.ofBool (decide (lo ≤ n ∧ n < hi)) := by
  rw [cmpi_sge_ofNat (w := 32) hn hl, cmpi_slt_ofNat (w := 32) hn hh]
  by_cases h1 : lo ≤ n <;> by_cases h2 : n < hi <;> simp [h1, h2, IntOp.andi]

/-- The group of a row in a segment: the groups before the segment, and the row's offset by 128. -/
theorem groupW (G lo n : ℕ) (hl : lo ≤ n) (hn : n < 2 ^ 31) :
    IntOp.addi (BitVec.ofNat 32 G) (IntOp.shrsi .vector (IntOp.subi (BitVec.ofNat 32 n) (BitVec.ofNat 32 lo)) 7#32) = BitVec.ofNat 32 (G + (n - lo) / 128) := by
  have e : IntOp.subi (BitVec.ofNat 32 n) (BitVec.ofNat 32 lo) = BitVec.ofNat 32 (n - lo) := ofNat32_sub hl
  rw [e]
  unfold IntOp.shrsi
  rw [if_pos (by decide)]
  have e2 : (BitVec.ofNat 32 (n - lo)).sshiftRight' 7#32 = BitVec.ofNat 32 ((n - lo) / 128) := by
    rw [BitVec.sshiftRight_eq', BitVec.sshiftRight_eq_of_msb_false (BitVec.msb_eq_false_iff_two_mul_lt.2 (by rw [BitVec.toNat_ofNat]; omega))]
    apply BitVec.eq_of_toNat_eq
    rw [BitVec.toNat_ushiftRight, BitVec.toNat_ofNat, BitVec.toNat_ofNat, Nat.mod_eq_of_lt (by omega), Nat.mod_eq_of_lt (by omega)]
    show (n - lo) >>> 7 = _
    rw [Nat.shiftRight_eq_div_pow, BitVec.toNat_ofNat, Nat.mod_eq_of_lt (by omega)]
  rw [e2]
  exact (BitVec.ofNat_add ..).symm

/-- The scale row of a row of expert `e`. -/
theorem gidAll_at (X : S5.Idx → BitVec 32) (a : ℕ → ℕ) (hX : ∀ e : Fin 5, X (ix1 e) = BitVec.ofNat 32 (a e.val)) (ha : ∀ e < 5, a e ≤ 512)
    (n : Fin 256) (l : Fin 128) (e : ℕ) (he : e < 5) (hn : psum a e ≤ n.val ∧ n.val < psum a (e + 1)) : gidAll X (ix2 n l) = BitVec.ofNat 32 (gidN a e n.val) := by
  have hw := fun i hi h => wd_nat X a hX i hi h
  have hp := fun k hk => psum_le a ha k hk
  unfold gidAll
  rw [hw 0 (by decide), hw 1 (by decide), hw 2 (by decide), hw 3 (by decide), hw 4 (by decide), end_nat1, end_nat2, end_nat3, end_nat4, end_nat5,
    num_nat1 a ha, num_nat2 a ha, num_nat3 a ha, num_nat4 a ha]
  have hi : ∀ h, iota .tc S256x128 32 [0] h (ix2 n l) = BitVec.ofNat 32 n.val := fun h => by
    unfold iota; simp [ix2]
  have key : gidAll X (ix2 n l) = gidAll X (ix2 n l) := rfl
  unfold k0_pay7
  show shapeCast S256x128 _ _ _ = _
  rw [shapeCast_self]
  show Scalar.select (IntOp.andi (IntOp.cmpi .sge (iota .tc S256x128 32 [0] _ (ix2 n l)) (BitVec.ofNat 32 (psum a 4))) (IntOp.cmpi .slt (iota .tc S256x128 32 [0] _ (ix2 n l)) (BitVec.ofNat 32 (psum a 5))))
    (IntOp.addi (BitVec.ofNat 32 (psum (gcnt a) 4)) (IntOp.shrsi .vector (IntOp.subi (iota .tc S256x128 32 [0] _ (ix2 n l)) (BitVec.ofNat 32 (psum a 4))) 7#32))
    (Scalar.select (IntOp.andi (IntOp.cmpi .sge (iota .tc S256x128 32 [0] _ (ix2 n l)) (BitVec.ofNat 32 (psum a 3))) (IntOp.cmpi .slt (iota .tc S256x128 32 [0] _ (ix2 n l)) (BitVec.ofNat 32 (psum a 4))))
    (IntOp.addi (BitVec.ofNat 32 (psum (gcnt a) 3)) (IntOp.shrsi .vector (IntOp.subi (iota .tc S256x128 32 [0] _ (ix2 n l)) (BitVec.ofNat 32 (psum a 3))) 7#32))
    (Scalar.select (IntOp.andi (IntOp.cmpi .sge (iota .tc S256x128 32 [0] _ (ix2 n l)) (BitVec.ofNat 32 (psum a 2))) (IntOp.cmpi .slt (iota .tc S256x128 32 [0] _ (ix2 n l)) (BitVec.ofNat 32 (psum a 3))))
    (IntOp.addi (BitVec.ofNat 32 (psum (gcnt a) 2)) (IntOp.shrsi .vector (IntOp.subi (iota .tc S256x128 32 [0] _ (ix2 n l)) (BitVec.ofNat 32 (psum a 2))) 7#32))
    (Scalar.select (IntOp.andi (IntOp.cmpi .sge (iota .tc S256x128 32 [0] _ (ix2 n l)) (BitVec.ofNat 32 (psum a 1))) (IntOp.cmpi .slt (iota .tc S256x128 32 [0] _ (ix2 n l)) (BitVec.ofNat 32 (psum a 2))))
    (IntOp.addi (BitVec.ofNat 32 (psum (gcnt a) 1)) (IntOp.shrsi .vector (IntOp.subi (iota .tc S256x128 32 [0] _ (ix2 n l)) (BitVec.ofNat 32 (psum a 1))) 7#32))
    (Scalar.select (IntOp.andi (IntOp.cmpi .sge (iota .tc S256x128 32 [0] _ (ix2 n l)) (BitVec.ofNat 32 (psum a 0))) (IntOp.cmpi .slt (iota .tc S256x128 32 [0] _ (ix2 n l)) (BitVec.ofNat 32 (psum a 1))))
    (IntOp.addi (BitVec.ofNat 32 (psum (gcnt a) 0)) (IntOp.shrsi .vector (IntOp.subi (iota .tc S256x128 32 [0] _ (ix2 n l)) (BitVec.ofNat 32 (psum a 0))) 7#32))
    0#32)))) = _
  have hb : ∀ k ≤ 5, psum a k < 2 ^ 31 := fun k hk => by have := hp k hk; omega
  have hn31 : n.val < 2 ^ 31 := by omega
  rw [hi, segW _ _ _ (hb 4 (by decide)) (hb 5 (by decide)) hn31, segW _ _ _ (hb 3 (by decide)) (hb 4 (by decide)) hn31, segW _ _ _ (hb 2 (by decide)) (hb 3 (by decide)) hn31,
    segW _ _ _ (hb 1 (by decide)) (hb 2 (by decide)) hn31, segW _ _ _ (hb 0 (by decide)) (hb 1 (by decide)) hn31]
  simp only [WordCmp.select_decide]
  have s0 := psum_zero a
  have s1 := psum_succ a 0
  have s2 := psum_succ a 1
  have s3 := psum_succ a 2
  have s4 := psum_succ a 3
  have s5 := psum_succ a 4
  have g := groupW (psum (gcnt a) e) (psum a e) n.val hn.1 hn31
  rw [show gidN a e n.val = psum (gcnt a) e + (n.val - psum a e) / 128 from rfl, ← g]
  interval_cases e <;> simp only [Nat.zero_add, Nat.reduceAdd] at * <;> (repeat' split) <;> first | rfl | omega

end Cert.KernelIdeal.Hand
-- ==== Proof.KerVal.lean ====
/-
  Hand-written, untrusted. The kernel's result at an index: the masked sum of the dequantized products.
-/
module

public import proofs.«01_k».proof.Proof.KerIdx

@[expose] public section

set_option maxRecDepth 65536

noncomputable section

namespace Cert.KernelIdeal.Hand

open Cert.KernelIdeal Cert.KernelIdeal.Gen Cert.Hand
open Idealize.ShloMosaic hiding ix0 ix1 ix2 ix3
open Idealize.ShloMosaic.ValueIdx Idealize.ShloMosaic.TcCoe Idealize.ShloMosaic.Routing Idealize.ShloMosaic.WordCmp Idealize.SL.Sem

section Scale
variable (s : FVec Ideal S4x128 .f32) (g : IVec S256x128 32) (n : Fin 256) (a : Fin 128) (G : ℕ) (hG : G < 4) (hg : g (ix2 n a) = BitVec.ofNat 32 G)

/-- The choice among the four scale rows. -/
theorem pick4 (w : BitVec 32) (G : ℕ) (hG : G < 4) (hw : w = BitVec.ofNat 32 G) (f : Fin 4 → EReal) :
    Scalar.select (IntOp.cmpi .eq w 3#32) (f 3) (Scalar.select (IntOp.cmpi .eq w 2#32) (f 2) (Scalar.select (IntOp.cmpi .eq w 1#32) (f 1) (f 0))) = f ⟨G, hG⟩ := by
  subst hw
  interval_cases G <;> rfl

include hg in
theorem pay8_at (x : FVec Ideal S256x128 .fp8e4m3) : k0_pay8 (F := Ideal) s g x (ix2 a n) = (x (ix2 n a) * s (ix2 (⟨G, hG⟩ : Fin 4) a) : EReal) := by
  refine Eq.trans ?_ (congrArg (fun z : EReal => (x (ix2 n a) : EReal) * z) (pick4 _ G hG hg fun e => s (ix2 e a)))
  pointwise [k0_pay8]
  rfl

include hg in
theorem pay9_at (x : FVec Ideal S256x128 .fp8e4m3) : k0_pay9 (F := Ideal) s g x (ix2 n a) = (x (ix2 n a) * s (ix2 (⟨G, hG⟩ : Fin 4) a) : EReal) := by
  refine Eq.trans ?_ (congrArg (fun z : EReal => (x (ix2 n a) : EReal) * z) (pick4 _ G hG hg fun e => s (ix2 e a)))
  pointwise [k0_pay9]
  rfl
end Scale

section Blocks
variable (GD : S256x128.Idx → Elt Ideal .i32) (n : Fin 256) (G : ℕ) (hG : G < 4) (hg : ∀ l : Fin 128, GD (ix2 n l) = BitVec.ofNat 32 G)

theorem whole_at (GD : S256x128.Idx → Elt Ideal .i32) (n : Fin 256) (l : Fin 128) : wholeRead4 GD (ix2 n l) = GD (ix2 n l) := by
  refine congrArg GD (idx2_ext ?_ ?_)
  · show 0 + 1 * n.val = n.val; omega
  · show 0 + 1 * l.val = l.val; omega

include hg in
theorem xAll_at (X : S256x4096.Idx → Elt Ideal .fp8e4m3) (XS : S4x4096.Idx → Elt Ideal .f32) (d : Fin 4096) :
    xAll X XS GD (ix2 d n) = (X (ix2 n d) * XS (ix2 (⟨G, hG⟩ : Fin 4) d) : EReal) := by
  unfold xAll xBlk
  have hd : d.val / 128 < 32 := by omega
  have e1 : k0_off6 ⟨d.val / 128, hd⟩ = ![0, 128 * (d.val / 128)] := k0_off6_eq ⟨d.val / 128, hd⟩
  have e2 : k0_off7 ⟨d.val / 128, hd⟩ = ![0, 128 * (d.val / 128)] := k0_off7_eq ⟨d.val / 128, hd⟩
  refine (pay8_at _ _ n (⟨d.val % 128, by omega⟩ : Fin 128) G hG ((whole_at GD n _).trans (hg _)) _).trans ?_
  refine congrArg₂ (fun p q : EReal => p * q) (congrArg X (idx2_ext ?_ ?_)) (congrArg XS (idx2_ext ?_ ?_))
  · show (k0_off7 ⟨d.val / 128, hd⟩) 0 + 1 * n.val = n.val
    rw [e2]; show 0 + 1 * n.val = n.val; omega
  · show (k0_off7 ⟨d.val / 128, hd⟩) 1 + 1 * (d.val % 128) = d.val
    rw [e2]; show 128 * (d.val / 128) + 1 * (d.val % 128) = d.val; omega
  · show (k0_off6 ⟨d.val / 128, hd⟩) 0 + 1 * G = G
    rw [e1]; show 0 + 1 * G = G; omega
  · show (k0_off6 ⟨d.val / 128, hd⟩) 1 + 1 * (d.val % 128) = d.val
    rw [e1]; show 128 * (d.val / 128) + 1 * (d.val % 128) = d.val; omega

include hg in
theorem yAll_at (X : S256x6144.Idx → Elt Ideal .fp8e4m3) (XS : S4x6144.Idx → Elt Ideal .f32) (d : Fin 6144) :
    yAll X XS GD (ix2 n d) = (X (ix2 n d) * XS (ix2 (⟨G, hG⟩ : Fin 4) d) : EReal) := by
  unfold yAll yBlk
  have hd : d.val / 128 < 48 := by omega
  have e1 : k0_off9 ⟨d.val / 128, hd⟩ = ![0, 128 * (d.val / 128)] := k0_off9_eq ⟨d.val / 128, hd⟩
  have e2 : k0_off10 ⟨d.val / 128, hd⟩ = ![0, 128 * (d.val / 128)] := k0_off10_eq ⟨d.val / 128, hd⟩
  refine (pay9_at _ _ n (⟨d.val % 128, by omega⟩ : Fin 128) G hG ((whole_at GD n _).trans (hg _)) _).trans ?_
  refine congrArg₂ (fun p q : EReal => p * q) (congrArg X (idx2_ext ?_ ?_)) (congrArg XS (idx2_ext ?_ ?_))
  · show (k0_off10 ⟨d.val / 128, hd⟩) 0 + 1 * n.val = n.val
    rw [e2]; show 0 + 1 * n.val = n.val; omega
  · show (k0_off10 ⟨d.val / 128, hd⟩) 1 + 1 * (d.val % 128) = d.val
    rw [e2]; show 128 * (d.val / 128) + 1 * (d.val % 128) = d.val; omega
  · show (k0_off9 ⟨d.val / 128, hd⟩) 0 + 1 * G = G
    rw [e1]; show 0 + 1 * G = G; omega
  · show (k0_off9 ⟨d.val / 128, hd⟩) 1 + 1 * (d.val % 128) = d.val
    rw [e1]; show 128 * (d.val / 128) + 1 * (d.val % 128) = d.val; omega

end Blocks

/-- One entry of one expert's weight gradient. -/
def maskSum (lo hi : BitVec 32) (XT : FVec Ideal S128x256 .bf16) (DY : FVec Ideal S256x6144 .bf16) (a : Fin 128) (o : Fin 6144) : EReal :=
  ∑ n : Fin 256, (Scalar.select (IntOp.andi (IntOp.cmpi .sge (BitVec.ofNat 32 n.val) lo) (IntOp.cmpi .slt (BitVec.ofNat 32 n.val) hi)) (XT (ix2 a n) : EReal) 0) * (DY (ix2 n o) : EReal)

theorem pay12_at (lo hi : BitVec 32) (XT : FVec Ideal S128x256 .bf16) (DY : FVec Ideal S256x6144 .bf16) (z : Fin 1) (a : Fin 128) (o : Fin 6144) :
    k0_pay12 (F := Ideal) lo hi (iota .tc S128x256 32 [1] iota_S128x256_d1_w32) XT DY (ix3 z a o) = maskSum lo hi XT DY a o := by
  unfold maskSum
  pointwise [k0_pay12]
  rfl

/-- One entry of one expert's weight gradient, over the whole dequantized matrices. -/
def segSum (lo hi : ℕ) (XT : S4096x256.Idx → Elt Ideal .bf16) (DY : S256x6144.Idx → Elt Ideal .bf16) (d : Fin 4096) (o : Fin 6144) : EReal :=
  ∑ n : Fin 256, (if lo ≤ n.val ∧ n.val < hi then (XT (ix2 d n) : EReal) else 0) * (DY (ix2 n o) : EReal)

theorem liveN_pos (x : ℕ) (h0 : x ≠ 0) (hx : x ≤ 512) : liveN (BitVec.ofNat 32 x) = 1 := by
  rw [liveN_pos_iff, BitVec.toInt_eq_toNat_of_lt (by rw [BitVec.toNat_ofNat]; omega), BitVec.toNat_ofNat]
  omega

theorem entry_at (s lo hi : ℕ) (hs : s ≤ 512) (hhi : hi = lo + s) (hb : hi < 2 ^ 31) (V : S5x4096x6144.Idx → Elt Ideal .f32) (XT : S4096x256.Idx → Elt Ideal .bf16) (DY : S256x6144.Idx → Elt Ideal .bf16)
    (e : Fin 5) (d : Fin 4096) (o : Fin 6144) :
    entry (BitVec.ofNat 32 s) (fun a b => k0_pay12 (F := Ideal) (BitVec.ofNat 32 lo) (BitVec.ofNat 32 hi) (iota .tc S128x256 32 [1] iota_S128x256_d1_w32) a b) V XT DY (ix3 e d o) = segSum lo hi XT DY d o := by
  unfold segSum
  have hk : d.val / 128 < 32 := by omega
  by_cases h : s = 0
  · subst h
    rw [entry_zero rfl _ V XT DY (i := ix3 e d o) (k := d.val / 128) (x := ⟨d.val % 128, by omega⟩) (y := o) (by show d.val = 128 * (d.val / 128) + d.val % 128; omega) rfl]
    rw [Finset.sum_eq_zero fun n _ => by rw [if_neg (by omega), zero_mul]]
    pointwise [k0_pay1]
  · rw [entry_live (liveN_pos s h hs) _ V XT DY (i := ix3 e d o) (k := d.val / 128) (x := ⟨d.val % 128, by omega⟩) (y := o) (by show d.val = 128 * (d.val / 128) + d.val % 128; omega) rfl (offRows_inb hk)]
    refine (pay12_at _ _ _ _ _ _ _).trans ?_
    unfold maskSum
    refine Finset.sum_congr rfl fun n _ => ?_
    rw [segW lo hi n.val (by omega) hb (by omega), WordCmp.select_decide]
    refine congrArg₂ (fun p q : EReal => p * q) (ite_congr rfl (fun _ => congrArg XT (idx2_ext ?_ ?_)) fun _ => rfl) (congrArg DY (idx2_ext ?_ ?_))
    · show (offRows (d.val / 128)) 0 + 1 * (d.val % 128) = d.val
      rw [offRows_eq hk]; show 128 * (d.val / 128) + 1 * (d.val % 128) = d.val; omega
    · show 0 + 1 * n.val = n.val; omega
    · show 0 + 1 * n.val = n.val; omega
    · show 0 + 1 * o.val = o.val; omega

theorem resG_at (X : S5.Idx → BitVec 32) (a : ℕ → ℕ) (hX : ∀ e : Fin 5, X (ix1 e) = BitVec.ofNat 32 (a e.val)) (ha : ∀ e < 5, a e ≤ 512)
    (V : S5x4096x6144.Idx → Elt Ideal .f32) (XT : S4096x256.Idx → Elt Ideal .bf16) (DY : S256x6144.Idx → Elt Ideal .bf16) (e : Fin 5) (d : Fin 4096) (o : Fin 6144) :
    resG X V XT DY (ix3 e d o) = segSum (psum a e.val) (psum a (e.val + 1)) XT DY d o := by
  have hw := fun i hi h => wd_nat X a hX i hi h
  have hp : ∀ k ≤ 5, psum a k < 2 ^ 31 := fun k hk => by have := psum_le a ha k hk; omega
  have key := fun (k : ℕ) (hk : k < 5) => entry_at (a k) (psum a k) (psum a (k + 1)) (ha k hk) (psum_succ a k) (hp (k + 1) hk) V XT DY e d o
  unfold resG
  rw [hw 0 (by decide), hw 1 (by decide), hw 2 (by decide), hw 3 (by decide), hw 4 (by decide), end_nat1, end_nat2, end_nat3, end_nat4, end_nat5]
  have he : ((ix3 e d o : S5x4096x6144.Idx) 0).val = e.val := rfl
  rw [he]
  obtain ⟨e, h5⟩ := e
  interval_cases e
  · exact key 0 (by decide)
  · exact key 1 (by decide)
  · exact key 2 (by decide)
  · exact key 3 (by decide)
  · exact key 4 (by decide)

variable (m : (ℓ : Loc nD τ sig) → Buf (Elt Ideal) ℓ)

theorem idx0 : ∀ t : Fin cfg0.N, win0_0.index t = ![0] := (by decide +kernel : ∀ t : Fin grid0.N, _)

theorem sizes_eq (c : Dev nD) : sizes m c = m ((c : Thread nD τ).loc main_arg4) := by
  unfold sizes
  blk_ext! [iblk, V, idx0 t0_0]

end Cert.KernelIdeal.Hand
-- ==== Proof.RefHost.lean ====
/-
  Hand-written, untrusted. The reference's index arithmetic: each row's expert and each row's scale row, as words and as naturals.
-/
module

public import proofs.«01_k».proof.Proof.Gen.ReferenceIdeal.Value
public import proofs.«01_k».proof.Proof.Spec
public import Idealize.ShloMosaic.Lib.Pipeline.ValueKit
public import Idealize.ShloMosaic.Lib.StableHlo.ReadAt

@[expose] public section

set_option maxRecDepth 65536

noncomputable section

namespace Cert.ReferenceIdeal.Hand

open Cert.ReferenceIdeal Cert.ReferenceIdeal.Gen Cert.Hand
open Idealize.ShloMosaic Idealize.ShloMosaic.ValueIdx Idealize.ShloMosaic.TcCoe Idealize.ShloMosaic.Routing Idealize.SL.Sem
open Idealize.ShloMosaic.Pipeline (Dat)

/-- A word at every place of a shape. -/
def kS5 (k : BitVec 32) : IVec S5 32 := broadcastInDim S5 ![] bcast_S_S5 (constantI S_ 32 k)
def kS256 (k : BitVec 32) : IVec S256 32 := broadcastInDim S256 ![] bcast_S_S256 (constantI S_ 32 k)

/-- Running sums. -/
def endsV (g : IVec S5 32) : IVec S5 32 :=
  Host.reduceWindow IntOp.addi ![5] ![1] ![4] ![0] g (broadcastInDim S_ ![] bcast_S_S_ (constantI S_ 32 0#32)) reduceWindows_S5_S5_w5s1p4_0 h_S_

/-- Each expert's number of groups. -/
def gcountV (g : IVec S5 32) : IVec S5 32 := pyDiv bcast_S_S5 (subi (addi g (kS5 128#32)) (kS5 1#32)) (constantI S_ 32 128#32)

/-- Sums of what precedes. -/
def beforeV (g : IVec S5 32) : IVec S5 32 := subi (endsV g) g

/-- Each row's expert. -/
def expertV (g : IVec S5 32) : IVec S256 32 :=
  Host.reduce IntOp.addi (extui 32 (cmpi .sle (broadcastInDim S5x256 ![0, 1] bcast_S5x1_S5x256_0_1 (broadcastInDim S5x1 ![0] bcast_S5_S5x1_0 (endsV g)))
    (broadcastInDim S5x256 ![0, 1] bcast_S1x256_S5x256_0_1 (broadcastInDim S1x256 ![1] bcast_S256_S1x256_1 (iotaInDim S256 32 0)))) natLt_1_32)
    (constantI S_ 32 0#32) reducesTo_S5x256_S256_d0 h_S_

/-- An index as it is used to read: a negative one counted from the end, and set in a column. -/
def colV (k : BitVec 32) (x : IVec S256 32) : IVec S256x1 32 :=
  broadcastInDim S256x1 ![0] bcast_S256_S256x1_0 (select (cmpi .slt x (kS256 0#32)) (addi x (kS256 k)) x)

/-- Entry `expert` of a table of five. -/
def pickV (t : IVec S5 32) (g : IVec S5 32) : IVec S256 32 := Host.gather gather_S5_S256x1_S256_n_0_n_n_0_1_1 t (colV 5#32 (expertV g))

/-- Each row's scale row. -/
def gidV (g : IVec S5 32) : IVec S256 32 :=
  addi (pickV (beforeV (gcountV g)) g) (pyDiv bcast_S_S256 (subi (iotaInDim S256 32 0) (pickV (beforeV g) g)) (constantI S_ 32 128#32))

section Entry
variable {F : FTy → Type} [FloatOps F] (m : (ℓ : Loc nD τ sig) → Buf (Elt F) ℓ) (c : Dev nD)

theorem V_expert : V m c main_v44 = broadcastInDim S256x1 ![0] bcast_S256_S256x1_0 (expertV (m ((c : Thread nD τ).loc main_arg4))) := by
  unfold_abbrev_sides
  after_reads_simp
  rfl

set_option maxHeartbeats 800000 in
theorem V_xg : V m c main_v35 = truncf .bf16 (Host.gather gather_S4x4096_S256x1_S256x4096_1_0_n_n_0_1_14096 (m ((c : Thread nD τ).loc main_arg1))
    (colV 4#32 (gidV (m ((c : Thread nD τ).loc main_arg4))))) bitsLt_bf16_f32 := by
  unfold_abbrev_sides
  after_reads_simp
  simp -implicitDefEqProofs only [StableHlo.TRef.toBuf, StableHlo.TRef.ofBuf, cast_cast, cast_eq]
  rfl

set_option maxHeartbeats 800000 in
theorem V_dyg : V m c main_v43 = truncf .bf16 (Host.gather gather_S4x6144_S256x1_S256x6144_1_0_n_n_0_1_16144 (m ((c : Thread nD τ).loc main_arg3))
    (colV 4#32 (gidV (m ((c : Thread nD τ).loc main_arg4))))) bitsLt_bf16_f32 := by
  unfold_abbrev_sides
  after_reads_simp
  simp -implicitDefEqProofs only [StableHlo.TRef.toBuf, StableHlo.TRef.ofBuf, cast_cast, cast_eq]
  rfl

end Entry

end Cert.ReferenceIdeal.Hand
-- ==== Proof.RefIdx.lean ====
/-
  Hand-written, untrusted. The reference's index words as naturals: each row's expert, and the scale row of a row that has an expert.
-/
module

public import proofs.«01_k».proof.Proof.RefHost

@[expose] public section

set_option maxRecDepth 65536

noncomputable section

namespace Cert.ReferenceIdeal.Hand

open Cert.ReferenceIdeal Cert.ReferenceIdeal.Gen Cert.Hand
open Idealize.ShloMosaic hiding ix0 ix1 ix2 ix3
open Idealize.ShloMosaic.ValueIdx Idealize.ShloMosaic.TcCoe Idealize.ShloMosaic.Routing Idealize.ShloMosaic.WordCmp Idealize.SL.Sem

variable (g : IVec S5 32) (a : ℕ → ℕ) (hg : ∀ e : Fin 5, g (ix1 e) = BitVec.ofNat 32 (a e.val))

theorem kS5_at (k : BitVec 32) (i : S5.Idx) : kS5 k i = k := bc0 _ _ _
theorem kS256_at (k : BitVec 32) (i : S256.Idx) : kS256 k i = k := bc0 _ _ _

include hg in
theorem endsV_at (e : Fin 5) : endsV g (ix1 e) = BitVec.ofNat 32 (psum a (e.val + 1)) :=
  cumsum1 (N := 5) (Nm1 := 4) rfl g a hg _ (bc0 _ _ _) _ _ e

include hg in
theorem beforeV_at (e : Fin 5) : beforeV g (ix1 e) = BitVec.ofNat 32 (psum a e.val) := by
  unfold beforeV
  rw [subi_ap, endsV_at g a hg e, hg e, ofNat32_sub (by rw [psum_succ]; omega), psum_succ, Nat.add_sub_cancel]

include hg in
theorem gcountV_at (ha : ∀ e < 5, a e ≤ 512) (e : Fin 5) : gcountV g (ix1 e) = BitVec.ofNat 32 (gcnt a e.val) := by
  have := ha e.val e.isLt
  refine pyDiv_ap bcast_S_S5 _ _ (ix1 e) ?_ rfl (by omega) (by decide) (by decide)
  rw [subi_ap, addi_ap, kS5_at, kS5_at, hg e, ← BitVec.ofNat_add, ofNat32_sub (by omega)]
  rfl

include hg in
theorem expertV_at (ha : ∀ e < 5, a e ≤ 512) (n : Fin 256) : expertV g (ix1 n) = BitVec.ofNat 32 (expN a n.val) := by
  have hp := fun k hk => psum_le a ha k hk
  apply BitVec.eq_of_toNat_eq
  unfold expertV
  refine (StableHlo.Predicate.toNat_reduce_count_rows (n := 5) (m := 256) (by decide) _ natLt_1_32 reducesTo_S5x256_S256_d0 h_S_ (ix1 n)).trans ?_
  rw [BitVec.toNat_ofNat, Nat.mod_eq_of_lt (by have := expN_le a n.val; omega), expN, ← card_filter_fin 5]
  refine congrArg Finset.card (Finset.filter_congr fun q _ => ?_)
  rw [ij_eq_ix2, cmpi_at, bcRows, bcCols, endsV_at g a hg q, StableHlo.Predicate.sle_iff_toNat]
  · show _ ≤ (BitVec.ofNat 32 n.val).toNat ↔ _
    rw [BitVec.toNat_ofNat, BitVec.toNat_ofNat, Nat.mod_eq_of_lt (by have := hp (q.val + 1) (by omega); omega), Nat.mod_eq_of_lt (by omega)]
  · rw [BitVec.toNat_ofNat]; have := hp (q.val + 1) (by omega); omega
  · show (BitVec.ofNat 32 n.val).toNat < _
    rw [BitVec.toNat_ofNat]; omega

/-- A small non-negative index is used as it is. -/
theorem colV_at (k : BitVec 32) (x : IVec S256 32) (n : Fin 256) (v : ℕ) (hv : v < 2 ^ 31) (hx : x (ix1 n) = BitVec.ofNat 32 v) :
    colV k x (ix2 n (0 : Fin 1)) = BitVec.ofNat 32 v := by
  unfold colV
  rw [bcCol, select_at, cmpi_at, kS256_at, hx, show (0#32 : BitVec 32) = BitVec.ofNat 32 0 from rfl, cmpi_slt_ofNat (w := 32) hv (by decide),
    select_decide, if_neg (by omega)]

include hg in
theorem pickV_at (ha : ∀ e < 5, a e ≤ 512) (t : IVec S5 32) (n : Fin 256) (e : Fin 5) (he : expN a n.val = e.val) : pickV t g (ix1 n) = t (ix1 e) :=
  take_ap gather_S5_S256x1_S256_n_0_n_n_0_1_1 rfl rfl rfl rfl t _ n e.isLt (by omega)
    (colV_at _ _ n e.val (by omega) (by rw [expertV_at g a hg ha n, he]))

include hg in
/-- The scale row of a row of expert `e`. -/
theorem gidV_at (ha : ∀ e < 5, a e ≤ 512) (n : Fin 256) (e : Fin 5) (he : expN a n.val = e.val) : gidV g (ix1 n) = BitVec.ofNat 32 (gidN a e.val n.val) := by
  have hn := (expN_eq_iff a n.val e.val e.isLt).1 he
  unfold gidV
  rw [addi_ap, pickV_at g a hg ha _ n e he, beforeV_at (gcountV g) (gcnt a) (gcountV_at g a hg ha) e,
    pyDiv_ap bcast_S_S256 _ _ (ix1 n) (a := n.val - psum a e.val) (b := 128) ?_ rfl (by omega) (by decide) (by decide), ← BitVec.ofNat_add]
  · rfl
  · rw [subi_ap, pickV_at g a hg ha _ n e he, beforeV_at g a hg e, iota1_ap, ofNat32_sub hn.1]

section Entry
variable {F : FTy → Type} [FloatOps F] (m : (ℓ : Loc nD τ sig) → Buf (Elt F) ℓ) (c : Dev nD)

/-- Row `n` of the expert column. -/
theorem V_expert_at (b : ℕ → ℕ) (hb : ∀ e : Fin 5, m ((c : Thread nD τ).loc main_arg4) (ix1 e) = BitVec.ofNat 32 (b e.val)) (ha : ∀ e < 5, b e ≤ 512) (n : Fin 256) :
    V m c main_v44 (ix2 n (0 : Fin 1)) = BitVec.ofNat 32 (expN b n.val) := by
  rw [V_expert]
  exact (bcCol _ _ n).trans (expertV_at _ b hb ha n)

end Entry

section EntryIdeal
variable (m : (ℓ : Loc nD τ sig) → Buf (Elt Ideal) ℓ) (c : Dev nD) (b : ℕ → ℕ)
  (hb : ∀ e : Fin 5, m ((c : Thread nD τ).loc main_arg4) (ix1 e) = BitVec.ofNat 32 (b e.val)) (ha : ∀ e < 5, b e ≤ 512)
  (n : Fin 256) (e : Fin 5) (he : expN b n.val = e.val) (hk : gidN b e.val n.val < 4)

include hb ha he hk in
/-- The scales of a row of expert `e`. -/
theorem V_xg_at (d : Fin 4096) : V m c main_v35 (ix2 n d) = (m ((c : Thread nD τ).loc main_arg1) (ix2 (⟨gidN b e.val n.val, hk⟩ : Fin 4) d) : EReal) := by
  rw [V_xg]
  exact gather_row gather_S4x4096_S256x1_S256x4096_1_0_n_n_0_1_14096 rfl rfl rfl rfl rfl (m ((c : Thread nD τ).loc main_arg1)) _ n d
    (⟨gidN b e.val n.val, hk⟩ : Fin 4) (colV_at _ _ n _ (by omega) (gidV_at _ b hb ha n e he)) (by decide)

include hb ha he hk in
theorem V_dyg_at (o : Fin 6144) : V m c main_v43 (ix2 n o) = (m ((c : Thread nD τ).loc main_arg3) (ix2 (⟨gidN b e.val n.val, hk⟩ : Fin 4) o) : EReal) := by
  rw [V_dyg]
  exact gather_row gather_S4x6144_S256x1_S256x6144_1_0_n_n_0_1_16144 rfl rfl rfl rfl rfl (m ((c : Thread nD τ).loc main_arg3)) _ n o
    (⟨gidN b e.val n.val, hk⟩ : Fin 4) (colV_at _ _ n _ (by omega) (gidV_at _ b hb ha n e he)) (by decide)

end EntryIdeal

end Cert.ReferenceIdeal.Hand
-- ==== Proof.RefVal.lean ====
/-
  Hand-written, untrusted. The reference's result array: each expert's masked sum of products over the rows.
-/
module

public import proofs.«01_k».proof.Proof.RefIdx

@[expose] public section

set_option maxRecDepth 65536

noncomputable section

namespace Cert.ReferenceIdeal.Hand

open Cert.ReferenceIdeal Cert.ReferenceIdeal.Gen
open Idealize.ShloMosaic hiding ix0 ix1 ix2 ix3
open Idealize.ShloMosaic.ValueIdx Idealize.ShloMosaic.TcCoe Idealize.SL.Sem
open Idealize.ShloMosaic.Pipeline (Dat)

/-- One entry of one expert's weight gradient: the sum over the rows of that expert. -/
def maskSum (xs : FVec Ideal S256x4096 .bf16) (ys : FVec Ideal S256x6144 .bf16) (EX : IVec S256x1 32) (k : BitVec 32) (d : Fin 4096) (o : Fin 6144) : EReal :=
  ∑ n : Fin 256, (if EX (ix2 n (0 : Fin 1)) = k then (xs (ix2 n d) : EReal) else 0) * (ys (ix2 n o) : EReal)

/-- The stored product of one expert, at an index. -/
theorem core (xs : FVec Ideal S256x4096 .bf16) (ys : FVec Ideal S256x6144 .bf16) (EX : IVec S256x1 32) (k : BitVec 32) (x : S1x4096x6144.Idx) :
    shapeCast S1x4096x6144 (matmul dot_S256x4096_S256x6144_S4096x6144_0_0_1_1_n_n none (select (broadcastTo S256x4096
      (shapeCast S256x1 (cmpi .eq (shapeCast S256x1 EX shapeCasts_S256x1_S256x1) (broadcast S256x1 k)) shapeCasts_S256x1_S256x1) broadcasts_S256x1_S256x4096) xs
      (broadcast S256x4096 (Scalar.ofBits .bf16 0x0000#16 : Ideal .bf16))) ys (constant (F := Ideal) S4096x6144 .f32 0x00000000#32)) shapeCasts_S4096x6144_S1x4096x6144 x
      = maskSum xs ys EX k (x 1) (x 2) := by
  unfold maskSum
  pointwise
  refine Finset.sum_congr rfl fun n _ => ?_
  show Scalar.select (IntOp.cmpi .eq (EX (ix2 n (0 : Fin 1))) k) ((xs (ix2 n (x 1)) : EReal) * ys (ix2 n (x 2))) 0 = _
  unfold Scalar.select IntOp.cmpi
  by_cases h : EX (ix2 n (0 : Fin 1)) = k
  · simp [h]
  · have hb : (EX (ix2 n (0 : Fin 1)) == k) = false := beq_eq_false_iff_ne.2 h
    simp [h, hb]

theorem pay2_at (x : FVec Ideal S256x4096 .fp8e4m3) (xg : FVec Ideal S256x4096 .bf16) (n : Fin 256) (d : Fin 4096) : k0_pay2 (F := Ideal) x xg (ix2 n d) = (x (ix2 n d) * xg (ix2 n d) : EReal) := by
  pointwise [k0_pay2]

theorem pay3_at (x : FVec Ideal S256x6144 .fp8e4m3) (xg : FVec Ideal S256x6144 .bf16) (n : Fin 256) (d : Fin 6144) : k0_pay3 (F := Ideal) x xg (ix2 n d) = (x (ix2 n d) * xg (ix2 n d) : EReal) := by
  pointwise [k0_pay3]

section Pay
variable (xs : FVec Ideal S256x4096 .bf16) (ys : FVec Ideal S256x6144 .bf16) (EX : IVec S256x1 32) (x : S1x4096x6144.Idx)
theorem pay6_at : k0_pay6 (F := Ideal) xs ys EX x = maskSum xs ys EX 2#32 (x 1) (x 2) := core xs ys EX 2#32 x
theorem pay7_at : k0_pay7 (F := Ideal) xs ys EX x = maskSum xs ys EX 3#32 (x 1) (x 2) := core xs ys EX 3#32 x
theorem pay8_at : k0_pay1 (F := Ideal) (k0_pay8 (F := Ideal) xs ys EX) x = maskSum xs ys EX 4#32 (x 1) (x 2) := core xs ys EX 4#32 x
variable (X : FVec Ideal S256x4096 .fp8e4m3) (XG : FVec Ideal S256x4096 .bf16) (Y : FVec Ideal S256x6144 .fp8e4m3) (YG : FVec Ideal S256x6144 .bf16)
theorem pay4_at : k0_pay4 (F := Ideal) X XG Y YG EX x = maskSum (k0_pay2 (F := Ideal) X XG) (k0_pay3 (F := Ideal) Y YG) EX 0#32 (x 1) (x 2) := core _ _ EX 0#32 x
theorem pay5_at : k0_pay5 (F := Ideal) X XG Y YG EX x = maskSum (k0_pay2 (F := Ideal) X XG) (k0_pay3 (F := Ideal) Y YG) EX 1#32 (x 1) (x 2) := core _ _ EX 1#32 x
end Pay

/-- The whole result over the staged operands. -/
def refAll (X : FVec Ideal S256x4096 .fp8e4m3) (XG : FVec Ideal S256x4096 .bf16) (Y : FVec Ideal S256x6144 .fp8e4m3) (YG : FVec Ideal S256x6144 .bf16) (EX : IVec S256x1 32) : S5x4096x6144.Idx → EReal :=
  fun i => maskSum (k0_pay2 (F := Ideal) X XG) (k0_pay3 (F := Ideal) Y YG) EX (BitVec.ofNat 32 (i 0).val) (i 1) (i 2)

theorem refAll_at (X : FVec Ideal S256x4096 .fp8e4m3) (XG : FVec Ideal S256x4096 .bf16) (Y : FVec Ideal S256x6144 .fp8e4m3) (YG : FVec Ideal S256x6144 .bf16) (EX : IVec S256x1 32) (i : S5x4096x6144.Idx)
    (x : S1x4096x6144.Idx) (e : ℕ) (h0 : (i 0).val = e) (h1 : (i 1).val = (x 1).val) (h2 : (i 2).val = (x 2).val) :
    maskSum (k0_pay2 (F := Ideal) X XG) (k0_pay3 (F := Ideal) Y YG) EX (BitVec.ofNat 32 e) (x 1) (x 2) = refAll X XG Y YG EX i := by
  subst h0
  unfold refAll
  have e1 : (i 1 : Fin 4096) = x 1 := Fin.ext h1
  have e2 : (i 2 : Fin 6144) = x 2 := Fin.ext h2
  exact congrArg₂ (maskSum _ _ EX _) e1.symm e2.symm

theorem out_at (X : FVec Ideal S256x4096 .fp8e4m3) (XG : FVec Ideal S256x4096 .bf16) (Y : FVec Ideal S256x6144 .fp8e4m3) (YG : FVec Ideal S256x6144 .bf16) (EX : IVec S256x1 32) (i : S5x4096x6144.Idx) :
    out0_5 (F := Ideal) X XG Y YG EX i = refAll X XG Y YG EX i := by
  frame_out
  unfold k0_pay9 k0_pay10
  frame_out
  canon_tiles i q
  case piece0 => exact (pay8_at _ _ EX i).trans (refAll_at X XG Y YG EX _ i 4 (by omega) q1 q2)
  case piece1 => exact (pay7_at _ _ EX i).trans (refAll_at X XG Y YG EX _ i 3 (by omega) q1 q2)
  case piece2 => exact (pay6_at _ _ EX i).trans (refAll_at X XG Y YG EX _ i 2 (by omega) q1 q2)
  case piece3 => exact (pay5_at EX i X XG Y YG).trans (refAll_at X XG Y YG EX _ i 1 (by omega) q1 q2)
  case piece4 => exact (pay4_at EX i X XG Y YG).trans (refAll_at X XG Y YG EX _ i 0 (by omega) q1 q2)

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

set_option maxHeartbeats 1000000 in
theorem iblk0 (c : Dev nD) (t : Fin cfg0.N) : iblk m c 0 t = V m c main_arg0 := by
  blk_ext! [iblk, idx0 t]
set_option maxHeartbeats 1000000 in
theorem iblk1 (c : Dev nD) (t : Fin cfg0.N) : iblk m c 1 t = V m c main_v35 := by
  blk_ext! [iblk, idx1 t]
set_option maxHeartbeats 1000000 in
theorem iblk2 (c : Dev nD) (t : Fin cfg0.N) : iblk m c 2 t = V m c main_arg2 := by
  blk_ext! [iblk, idx2 t]
set_option maxHeartbeats 1000000 in
theorem iblk3 (c : Dev nD) (t : Fin cfg0.N) : iblk m c 3 t = V m c main_v43 := by
  blk_ext! [iblk, idx3 t]
set_option maxHeartbeats 1000000 in
theorem iblk4 (c : Dev nD) (t : Fin cfg0.N) : iblk m c 4 t = V m c main_v44 := by
  blk_ext! [iblk, idx4 t]

/-- The result array after the run. -/
theorem final (c : Dev nD) : (dats m 0 c).arrAt 5 (cfgs 0).N = refAll (V m c main_arg0) (V m c main_v35) (V m c main_arg2) (V m c main_v43) (V m c main_v44) := by
  refine (dats m 0 c).arrAt_eq_of_after_last 5 t0_0 (by decide +kernel) _ fun j => ?_
  blk_simp
  rw [after0_5]
  rw [iblk0, iblk1, iblk2, iblk3, iblk4]
  refine (out_at _ _ _ _ _ _).trans ?_
  rfl

end Cert.ReferenceIdeal.Hand
-- ==== Proof.Equal.lean ====
/-
  Hand-written, untrusted. The kernel's result is the reference's.
-/
module

public import proofs.«01_k».proof.Proof.KerVal
public import proofs.«01_k».proof.Proof.RefVal

@[expose] public section

set_option maxRecDepth 65536

noncomputable section

namespace Cert.Hand

open Idealize.ShloMosaic hiding ix0 ix1 ix2 ix3
open Idealize.ShloMosaic.ValueIdx Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (b : ℕ → ℕ)
  (hg : ∀ e : Fin 5, (m ((c.tc : Thread Cert.KernelIdeal.nD Cert.KernelIdeal.τ).loc Cert.KernelIdeal.main_arg4) : Cert.KernelIdeal.S5.Idx → BitVec 32) (ix1 e) = BitVec.ofNat 32 (b e.val))
  (hb : ∀ e < 5, b e ≤ 512) (hq : psum (gcnt b) 5 ≤ 4)

include h0 h1 h2 h3 h4 hg hb hq in
theorem at_ix (e : Fin 5) (d : Fin 4096) (o : Fin 6144) :
    Cert.ReferenceIdeal.Hand.refAll (Cert.ReferenceIdeal.Gen.V m' c Cert.ReferenceIdeal.main_arg0) (Cert.ReferenceIdeal.Gen.V m' c Cert.ReferenceIdeal.main_v35)
      (Cert.ReferenceIdeal.Gen.V m' c Cert.ReferenceIdeal.main_arg2) (Cert.ReferenceIdeal.Gen.V m' c Cert.ReferenceIdeal.main_v43) (Cert.ReferenceIdeal.Gen.V m' c Cert.ReferenceIdeal.main_v44) (ix3 e d o)
    = Cert.KernelIdeal.Hand.result m c (ix3 e d o) := by
  have hX : ∀ e : Fin 5, Cert.KernelIdeal.Hand.sizes m c (ix1 e) = BitVec.ofNat 32 (b e.val) := fun e => by rw [Cert.KernelIdeal.Hand.sizes_eq]; exact hg e
  have hg' : ∀ e : Fin 5, m' ((c.tc : Thread Cert.ReferenceIdeal.nD Cert.ReferenceIdeal.τ).loc Cert.ReferenceIdeal.main_arg4) (ix1 e) = BitVec.ofNat 32 (b e.val) := fun e => (congrFun h4 (ix1 e)).trans (hg e)
  refine Eq.trans ?_ (Cert.KernelIdeal.Hand.resG_at (Cert.KernelIdeal.Hand.sizes m c) b hX hb _ _ _ e d o).symm
  unfold Cert.ReferenceIdeal.Hand.refAll Cert.ReferenceIdeal.Hand.maskSum Cert.KernelIdeal.Hand.segSum
  refine Finset.sum_congr rfl fun n _ => ?_
  have hex := Cert.ReferenceIdeal.Hand.V_expert_at m' c b hg' hb n
  have hle := expN_le b n.val
  have hiff : Cert.ReferenceIdeal.Gen.V m' c Cert.ReferenceIdeal.main_v44 (ix2 n (0 : Fin 1)) = BitVec.ofNat 32 e.val ↔ psum b e.val ≤ n.val ∧ n.val < psum b (e.val + 1) := by
    rw [hex, ← expN_eq_iff b n.val e.val e.isLt]
    constructor
    · intro h
      have h' := congrArg BitVec.toNat h
      rw [BitVec.toNat_ofNat, BitVec.toNat_ofNat] at h'
      omega
    · intro h; rw [h]
  by_cases hs : psum b e.val ≤ n.val ∧ n.val < psum b (e.val + 1)
  · have he := (expN_eq_iff b n.val e.val e.isLt).2 hs
    have hk := gidN_lt b n.val e.val e.isLt hq hs
    have hgid := fun l : Fin 128 => Cert.KernelIdeal.Hand.gidAll_at (Cert.KernelIdeal.Hand.sizes m c) b hX hb n l e.val e.isLt hs
    have kx := Cert.KernelIdeal.Hand.xAll_at _ n _ hk hgid (Cert.KernelIdeal.Hand.V m c Cert.KernelIdeal.main_arg0) (Cert.KernelIdeal.Hand.V m c Cert.KernelIdeal.main_arg1) d
    have ky := Cert.KernelIdeal.Hand.yAll_at _ n _ hk hgid (Cert.KernelIdeal.Hand.V m c Cert.KernelIdeal.main_arg2) (Cert.KernelIdeal.Hand.V m c Cert.KernelIdeal.main_arg3) o
    have rx := Cert.ReferenceIdeal.Hand.V_xg_at m' c b hg' hb n e he hk d
    have ry := Cert.ReferenceIdeal.Hand.V_dyg_at m' c b hg' hb n e he hk o
    refine congrArg₂ (fun p q : EReal => p * q) ((if_pos (hiff.2 hs)).trans (Eq.trans ?_ (if_pos hs).symm)) ?_
    · refine (Cert.ReferenceIdeal.Hand.pay2_at _ _ n d).trans (Eq.trans ?_ kx.symm)
      exact congrArg₂ (fun p q : EReal => p * q) (congrFun ((Cert.ReferenceIdeal.Gen.V_main_arg0 m' c).trans h0) (ix2 n d)) (rx.trans (congrFun h1 _))
    · refine (Cert.ReferenceIdeal.Hand.pay3_at _ _ n o).trans (Eq.trans ?_ ky.symm)
      exact congrArg₂ (fun p q : EReal => p * q) (congrFun ((Cert.ReferenceIdeal.Gen.V_main_arg2 m' c).trans h2) (ix2 n o)) (ry.trans (congrFun h3 _))
  · rw [if_neg hs, zero_mul]
    refine (congrArg (fun p : EReal => p * _) (if_neg fun h => hs (hiff.1 h))).trans ?_
    exact zero_mul _

include h0 h1 h2 h3 h4 hg hb hq in
/-- The reference's result array is the kernel's. -/
theorem arr_eq : (Cert.ReferenceIdeal.Gen.dats m' 0 c).arrAt 5 Cert.ReferenceIdeal.cfg0.N = Cert.KernelIdeal.Hand.result m c := by
  refine (Cert.ReferenceIdeal.Hand.final m' c).trans (funext fun i => ?_)
  have hi : i = ix3 (i 0) (i 1) (i 2) := funext fun a => by fin_cases a <;> rfl
  rw [hi]
  exact at_ix m m' c h0 h1 h2 h3 h4 b hg hb hq _ _ _

end Cert.Hand
-- ==== Proof.lean ====
module

public import proofs.«01_k».proof.Proof.Gen.ReferenceIdeal
public import proofs.«01_k».proof.Proof.Gen.ReferenceIdeal.Value
public import proofs.«01_k».proof.Defs
public import proofs.«01_k».proof.Proof.Gen.Kernel
public import proofs.«01_k».proof.Proof.Gen.KernelIdeal
public import proofs.«01_k».proof.Proof.Frame
public import proofs.«01_k».proof.Proof.Twin
public import proofs.«01_k».proof.Proof.Pre
public import proofs.«01_k».proof.Proof.Equal

@[expose] public section

noncomputable section

namespace Cert.Proof

open Idealize.ShloMosaic Idealize.SL.Sem

theorem algebraic : Cert.algebraic_KernelIdeal_ReferenceIdeal_pre_sizes_in_range (hKernelIdeal := Cert.KernelIdeal.Gen.facts) (hReferenceIdeal := Cert.ReferenceIdeal.Gen.facts)
    (hPre_sizes_in_range := Cert.Pre_sizes_in_range.Hand.facts) := fun m g m' g' hpre hargs => by
  refine ⟨fun c => Cert.KernelIdeal.Hand.result m c, (θ_run _ _ _).mono (fun r h c => ?_) (Cert.KernelIdeal.Hand.run m g), (θ_run _ _ _).mono (fun r h c => ?_) (Cert.ReferenceIdeal.Value.run_blocks m' g')⟩
  · exact ⟨(h.1 c).2, (h.1 c).1⟩
  · obtain ⟨h0, h1, h2, h3, h4⟩ := hargs c
    obtain ⟨b, hg, hb, hq⟩ := Cert.Pre_sizes_in_range.Hand.decode _ _ _ _ _ (hpre c)
    exact ⟨(h c).1.trans (Cert.Hand.arr_eq m m' c h0 h1 h2 h3 h4 b hg hb hq), (h c).2⟩

theorem claim : Cert.Claim := ⟨Cert.Kernel.Gen.facts, Cert.KernelIdeal.Gen.facts, Cert.ReferenceIdeal.Gen.facts, Cert.Pre_sizes_in_range.Hand.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, trivial, algebraic⟩

end Cert.Proof

end
